-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_real [hPre_real : Cert.Pre_real.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_real.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_real [hPre_real : Cert.Pre_real.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_real.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Kernel26Ideal_pre_real [hKernel26Ideal : Cert.Kernel26Ideal.Facts] [hPre_real : Cert.Pre_real.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_real m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Reference26Ideal_pre_real [hReference26Ideal : Cert.Reference26Ideal.Facts] [hPre_real : Cert.Pre_real.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_real m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6))

def preserves_Kernel26_Kernel26Ideal : Prop :=
  True

def algebraic_Kernel26Ideal_Reference26Ideal_pre_real [hKernel26Ideal : Cert.Kernel26Ideal.Facts] [hReference26Ideal : Cert.Reference26Ideal.Facts] [hPre_real : Cert.Pre_real.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_real m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v98) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v29) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v3_0)) (v1 : (c : Dev Cert.Kernel28Ideal.nD) → Buf (Elt Ideal) ((c.tc : Thread Cert.Kernel28Ideal.nD Cert.Kernel28Ideal.τ).loc Cert.Kernel28Ideal.main_v3_1)) (v2 : (c : Dev Cert.Kernel28Ideal.nD) → Buf (Elt Ideal) ((c.tc : Thread Cert.Kernel28Ideal.nD Cert.Kernel28Ideal.τ).loc Cert.Kernel28Ideal.main_v3_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v3_0) = v0 c
          ∧ r.2.mem ((c.tc : Thread Cert.Kernel28Ideal.nD Cert.Kernel28Ideal.τ).loc Cert.Kernel28Ideal.main_v3_1) = v1 c
          ∧ r.2.mem ((c.tc : Thread Cert.Kernel28Ideal.nD Cert.Kernel28Ideal.τ).loc Cert.Kernel28Ideal.main_v3_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v91) = v0 c
          ∧ r.2.mem ((c.tc : Thread Cert.Reference28Ideal.nD Cert.Reference28Ideal.τ).loc Cert.Reference28Ideal.main_v92) = v1 c
          ∧ r.2.mem ((c.tc : Thread Cert.Reference28Ideal.nD Cert.Reference28Ideal.τ).loc Cert.Reference28Ideal.main_v93) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v7)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v7) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v70) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_real : Cert.Pre_real.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_real (hKernel26Ideal := hKernel26Ideal) (hPre_real := hPre_real)
    ∧ quiescent_Reference26Ideal (hReference26Ideal := hReference26Ideal)
    ∧ quiescent_Reference26Ideal_pre_real (hReference26Ideal := hReference26Ideal) (hPre_real := hPre_real)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_real (hKernel26Ideal := hKernel26Ideal) (hReference26Ideal := hReference26Ideal) (hPre_real := hPre_real)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S8448x1536 : Shape := ⟨2, ![8448, 1536]⟩
abbrev S8 : Shape := ⟨1, ![8]⟩
abbrev S8448x1280 : Shape := ⟨2, ![8448, 1280]⟩
abbrev S_ : Shape := ⟨0, ![]⟩

class Facts : Prop where
  slices_S8448x1536_S8448x1280_0_0 : S8448x1536.Slices ![0, 0] S8448x1280
  bcast_S_S8448x1280 : S_.BroadcastsInDim S8448x1280 (![] : Fin 0 → Fin S8448x1280.rank)
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8448x1536 .bf16) (main_arg1 : FVec F S8 .f32) : IVec S8448x1280 1 :=
  let main_v0 : FVec F S8448x1280 .bf16 := (extractStridedSlice S8448x1280 ![0, 0] · slices_S8448x1536_S8448x1280_0_0) main_arg0
  let main_v1 : FVec F S8448x1280 .bf16 := Host.absf main_v0
  let main_cst : FVec F S_ .bf16 := constant S_ .bf16 0x7F80#16
  let main_v2 : FVec F S8448x1280 .bf16 := broadcastInDim S8448x1280 ![] bcast_S_S8448x1280 main_cst
  let main_v3 : IVec S8448x1280 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c : IVec S_ 1 := constantI S_ 1 1#1
  let main_v7 : IVec S_ 1 := (fun x v => Host.reduce IntOp.andi x v reducesTo_S8_S_d0 h_S_) main_v6 main_c
  let main_v8 : IVec S8448x1280 1 := broadcastInDim S8448x1280 ![] bcast_S_S8448x1280 main_v7
  let main_v9 : IVec S8448x1280 1 := andi main_v3 main_v8
  main_v9
-- ==== Pre_real.lean ====
abbrev S8448x6144 : Shape := ⟨2, ![8448, 6144]⟩
abbrev S8x8x64x512 : Shape := ⟨4, ![8, 8, 64, 512]⟩
abbrev S8448x2048 : Shape := ⟨2, ![8448, 2048]⟩
abbrev S_ : Shape := ⟨0, ![]⟩

class Facts : Prop where
  slices_S8448x6144_S8448x2048_0_3072 : S8448x6144.Slices ![0, 3072] S8448x2048
  bcast_S_S8448x2048 : S_.BroadcastsInDim S8448x2048 (![] : Fin 0 → Fin S8448x2048.rank)
  bcast_S_S8x8x64x512 : S_.BroadcastsInDim S8x8x64x512 (![] : Fin 0 → Fin S8x8x64x512.rank)
  reducesTo_S8x8x64x512_S_d0_1_2_3 : S8x8x64x512.ReducesTo [0, 1, 2, 3] S_
  h_S_ : 0 < S_.numel

variable [Facts]

def fn {F : FTy → Type} [FloatOps F] (main_arg0 : FVec F S8448x6144 .f32) (main_arg1 : FVec F S8x8x64x512 .f32) : IVec S8448x2048 1 :=
  let main_v0 : FVec F S8448x2048 .f32 := (extractStridedSlice S8448x2048 ![0, 3072] · slices_S8448x6144_S8448x2048_0_3072) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_cst_0 : FVec F S_ .f32 := constant S_ .f32 0x7F800000#32
  let main_v4 : FVec F S8x8x64x512 .f32 := broadcastInDim S8x8x64x512 ![] bcast_S_S8x8x64x512 main_cst_0
  let main_v5 : IVec S8x8x64x512 1 := cmpf .olt main_arg1 main_v4
  let main_c : IVec S_ 1 := constantI S_ 1 1#1
  let main_v6 : IVec S_ 1 := (fun x v => Host.reduce IntOp.andi x v reducesTo_S8x8x64x512_S_d0_1_2_3 h_S_) main_v5 main_c
  let main_v7 : IVec S8448x2048 1 := broadcastInDim S8448x2048 ![] bcast_S_S8448x2048 main_v6
  let main_v8 : IVec S8448x2048 1 := andi main_v3 main_v7
  main_v8
-- ==== Kernel.lean ====
abbrev S8448x1536 : Shape := ⟨2, ![8448, 1536]⟩
abbrev S8 : Shape := ⟨1, ![8]⟩
abbrev S8448x1024 : Shape := ⟨2, ![8448, 1024]⟩
abbrev S128x512 : Shape := ⟨2, ![128, 512]⟩
abbrev S8448x128 : Shape := ⟨2, ![8448, 128]⟩
abbrev S128x128 : Shape := ⟨2, ![128, 128]⟩
abbrev S512x128 : Shape := ⟨2, ![512, 128]⟩
abbrev S256x128 : Shape := ⟨2, ![256, 128]⟩
abbrev S384x128 : Shape := ⟨2, ![384, 128]⟩
abbrev S512x256 : Shape := ⟨2, ![512, 256]⟩
abbrev S512x384 : Shape := ⟨2, ![512, 384]⟩
abbrev S512x1 : Shape := ⟨2, ![512, 1]⟩
abbrev S1 : Shape := ⟨1, ![1]⟩
abbrev S512 : Shape := ⟨1, ![512]⟩

abbrev nBuf : Space → Nat
  | .hbm => 3
  | .vmem => 8
  | .smem => 1
  | _ => 0

abbrev bufTy : (tb : Table) → Fin (tcTables nBuf tb) → BufTy
  | .hbm, ⟨0, _⟩ => ⟨S8448x1536, .bf16⟩
  | .hbm, ⟨1, _⟩ => ⟨S8, .f32⟩
  | .hbm, ⟨2, _⟩ => ⟨S8448x1024, .bf16⟩
  | .local _ .vmem, ⟨0, _⟩ => ⟨S128x512, .bf16⟩
  | .local _ .vmem, ⟨1, _⟩ => ⟨S128x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S128x512, .bf16⟩
  | .local _ .vmem, ⟨7, _⟩ => ⟨S128x512, .bf16⟩
  | .local _ .smem, ⟨0, _⟩ => ⟨S8, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 66], ![false, false]⟩

def k0_mult1 (i : grid0.Coords) : BitVec 32 :=
  let c7808_i32 : BitVec 32 := 7808#32
  let c0_i32 : BitVec 32 := 0#32
  let arg1 : BitVec 32 := BitVec.ofNat 32 (i 1).val
  let c1_i32 : BitVec 32 := 1#32
  let v7 : BitVec 32 := Scalar.subi arg1 c1_i32
  let c128_i32 : BitVec 32 := 128#32
  let v8 : BitVec 32 := Scalar.muli v7 c128_i32
  let v9 : BitVec 32 := Scalar.maxsi c0_i32 v8
  let v10 : BitVec 32 := Scalar.minsi c7808_i32 v9
  v10
def k0_off1 (i : grid0.Coords) : Fin 2 → Nat :=
  let c7808_i32 : BitVec 32 := 7808#32
  let c0_i32 : BitVec 32 := 0#32
  let arg1 : BitVec 32 := BitVec.ofNat 32 (i 1).val
  let c1_i32 : BitVec 32 := 1#32
  let v7 : BitVec 32 := Scalar.subi arg1 c1_i32
  let c128_i32 : BitVec 32 := 128#32
  let v8 : BitVec 32 := Scalar.muli v7 c128_i32
  let v9 : BitVec 32 := Scalar.maxsi c0_i32 v8
  let v10 : BitVec 32 := Scalar.minsi c7808_i32 v9
  let v11 : BitVec 32 := v10
  let v14 : Index := Scalar.indexCast v11
  let c0_4 : Index := 0#32
  ![v14.toNat, 0]
def k0_off2 (i : grid0.Coords) (c0_i32_27 : BitVec 32) : Fin 1 → Nat :=
  let arg0 : BitVec 32 := BitVec.ofNat 32 (i 0).val
  let c4_i32 : BitVec 32 := 4#32
  let v83 : BitVec 32 := Scalar.muli arg0 c4_i32
  let v84 : BitVec 32 := Scalar.addi v83 c0_i32_27
  let v85 : Index := Scalar.indexCast v84
  ![v85.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S8448x1536 : Shape := ⟨2, ![8448, 1536]⟩
abbrev S8 : Shape := ⟨1, ![8]⟩
abbrev S1x8448x1536 : Shape := ⟨3, ![1, 8448, 1536]⟩
abbrev S1x8192x1536 : Shape := ⟨3, ![1, 8192, 1536]⟩
abbrev S1x8192x1024 : Shape := ⟨3, ![1, 8192, 1024]⟩
abbrev S1x8192x8x128 : Shape := ⟨4, ![1, 8192, 8, 128]⟩
abbrev S1x8192x256 : Shape := ⟨3, ![1, 8192, 256]⟩
abbrev S1x8192x2x128 : Shape := ⟨4, ![1, 8192, 2, 128]⟩
abbrev S1x256x1536 : Shape := ⟨3, ![1, 256, 1536]⟩
abbrev S1x256x1024 : Shape := ⟨3, ![1, 256, 1024]⟩
abbrev S1x256x8x128 : Shape := ⟨4, ![1, 256, 8, 128]⟩
abbrev S1x256x256 : Shape := ⟨3, ![1, 256, 256]⟩
abbrev S1x256x2x128 : Shape := ⟨4, ![1, 256, 2, 128]⟩
abbrev S_ : Shape := ⟨0, ![]⟩
abbrev S2x4 : Shape := ⟨2, ![2, 4]⟩
abbrev S2x4x1x1 : Shape := ⟨4, ![2, 4, 1, 1]⟩
abbrev S1x64x128x2x4x128 : Shape := ⟨6, ![1, 64, 128, 2, 4, 128]⟩
abbrev S1x64x128x2x128 : Shape := ⟨5, ![1, 64, 128, 2, 128]⟩
abbrev S1x1x128x2x128 : Shape := ⟨5, ![1, 1, 128, 2, 128]⟩
abbrev S1x63x128x2x128 : Shape := ⟨5, ![1, 63, 128, 2, 128]⟩
abbrev S1x64x384x2x128 : Shape := ⟨5, ![1, 64, 384, 2, 128]⟩
abbrev S128 : Shape := ⟨1, ![128]⟩
abbrev S384 : Shape := ⟨1, ![384]⟩
abbrev S64 : Shape := ⟨1, ![64]⟩
abbrev S64x1 : Shape := ⟨2, ![64, 1]⟩
abbrev S1x384 : Shape := ⟨2, ![1, 384]⟩
abbrev S64x384 : Shape := ⟨2, ![64, 384]⟩
abbrev S128x1 : Shape := ⟨2, ![128, 1]⟩
abbrev S128x384 : Shape := ⟨2, ![128, 384]⟩
abbrev S1x128x384 : Shape := ⟨3, ![1, 128, 384]⟩
abbrev S64x1x384 : Shape := ⟨3, ![64, 1, 384]⟩
abbrev S64x128x384 : Shape := ⟨3, ![64, 128, 384]⟩
abbrev S1x64x2x384x128x4 : Shape := ⟨6, ![1, 64, 2, 384, 128, 4]⟩
abbrev S1x64x2x4x128x384 : Shape := ⟨6, ![1, 64, 2, 4, 128, 384]⟩
abbrev S1x64x1x1x128x384 : Shape := ⟨6, ![1, 64, 1, 1, 128, 384]⟩
abbrev S1x2x256x64x128x4 : Shape := ⟨6, ![1, 2, 256, 64, 128, 4]⟩
abbrev S1x64x2x4x128x256 : Shape := ⟨6, ![1, 64, 2, 4, 128, 256]⟩
abbrev S1x64x2x4x128x640 : Shape := ⟨6, ![1, 64, 2, 4, 128, 640]⟩
abbrev S1x64x2x4x128 : Shape := ⟨5, ![1, 64, 2, 4, 128]⟩
abbrev S1x64x2x4x128x1 : Shape := ⟨6, ![1, 64, 2, 4, 128, 1]⟩
abbrev S1x1x2x4x1x1 : Shape := ⟨6, ![1, 1, 2, 4, 1, 1]⟩
abbrev S1x2x128x64x4x128 : Shape := ⟨6, ![1, 2, 128, 64, 4, 128]⟩
abbrev S1x64x2x128x4x128 : Shape := ⟨6, ![1, 64, 2, 128, 4, 128]⟩
abbrev S1x256x2x4x128 : Shape := ⟨5, ![1, 256, 2, 4, 128]⟩
abbrev S1x2x256x256x4 : Shape := ⟨5, ![1, 2, 256, 256, 4]⟩
abbrev S1x2x4x256x256 : Shape := ⟨5, ![1, 2, 4, 256, 256]⟩
abbrev S1x2x4x256 : Shape := ⟨4, ![1, 2, 4, 256]⟩
abbrev S1x2x4x256x1 : Shape := ⟨5, ![1, 2, 4, 256, 1]⟩
abbrev S1x2x4x1x1 : Shape := ⟨5, ![1, 2, 4, 1, 1]⟩
abbrev S1x2x128x4x256 : Shape := ⟨5, ![1, 2, 128, 4, 256]⟩
abbrev S1x8448x1024 : Shape := ⟨3, ![1, 8448, 1024]⟩
abbrev S8448x1024 : Shape := ⟨2, ![8448, 1024]⟩

abbrev nBuf : Space → Nat
  | .hbm => 150
  | .vmem => 0
  | .smem => 0
  | _ => 0

abbrev hbmTy0_0 (i : Nat) : BufTy := match i % 128 with
  | 0 => ⟨S8448x1536, .bf16⟩
  | 1 => ⟨S8, .f32⟩
  | 2 => ⟨S8448x1536, .f32⟩
  | 3 => ⟨S1x8448x1536, .f32⟩
  | 4 => ⟨S1x8192x1536, .f32⟩
  | 5 => ⟨S1x8192x1024, .f32⟩
  | 6 => ⟨S1x8192x8x128, .f32⟩
  | 7 => ⟨S1x8192x256, .f32⟩
  | 8 => ⟨S1x8192x2x128, .f32⟩
  | 9 => ⟨S1x8192x256, .f32⟩
  | 10 => ⟨S1x8192x2x128, .f32⟩
  | 11 => ⟨S1x256x1536, .f32⟩
  | 12 => ⟨S1x256x1024, .f32⟩
  | 13 => ⟨S1x256x8x128, .f32⟩
  | 14 => ⟨S1x256x256, .f32⟩
  | 15 => ⟨S1x256x2x128, .f32⟩
  | 16 => ⟨S1x256x256, .f32⟩
  | 17 => ⟨S1x256x2x128, .f32⟩
  | 18 => ⟨S_, .f32⟩
  | 19 => ⟨S_, .f32⟩
  | 20 => ⟨S_, .f32⟩
  | 21 => ⟨S_, .f32⟩
  | 22 => ⟨S2x4, .f32⟩
  | 23 => ⟨S2x4x1x1, .f32⟩
  | 24 => ⟨S1x64x128x2x4x128, .f32⟩
  | 25 => ⟨S1x64x128x2x128, .f32⟩
  | 26 => ⟨S1x1x128x2x128, .f32⟩
  | 27 => ⟨S_, .f32⟩
  | 28 => ⟨S1x1x128x2x128, .f32⟩
  | 29 => ⟨S1x63x128x2x128, .f32⟩
  | 30 => ⟨S1x64x128x2x128, .f32⟩
  | 31 => ⟨S1x63x128x2x128, .f32⟩
  | 32 => ⟨S1x64x128x2x128, .f32⟩
  | 33 => ⟨S1x64x384x2x128, .f32⟩
  | 34 => ⟨S1x64x128x2x128, .f32⟩
  | 35 => ⟨S1x1x128x2x128, .f32⟩
  | 36 => ⟨S_, .f32⟩
  | 37 => ⟨S1x1x128x2x128, .f32⟩
  | 38 => ⟨S1x63x128x2x128, .f32⟩
  | 39 => ⟨S1x64x128x2x128, .f32⟩
  | 40 => ⟨S1x63x128x2x128, .f32⟩
  | 41 => ⟨S1x64x128x2x128, .f32⟩
  | 42 => ⟨S1x64x384x2x128, .f32⟩
  | 43 => ⟨S128, .i32⟩
  | 44 => ⟨S384, .i32⟩
  | 45 => ⟨S_, .i32⟩
  | 46 => ⟨S384, .i32⟩
  | 47 => ⟨S384, .i32⟩
  | 48 => ⟨S64, .i32⟩
  | 49 => ⟨S64x1, .i32⟩
  | 50 => ⟨S_, .i32⟩
  | 51 => ⟨S64x1, .i32⟩
  | 52 => ⟨S64x1, .i32⟩
  | 53 => ⟨S1x384, .i32⟩
  | 54 => ⟨S64x384, .i32⟩
  | 55 => ⟨S64x384, .i32⟩
  | 56 => ⟨S64x384, .i32⟩
  | 57 => ⟨S1x384, .i32⟩
  | 58 => ⟨S128x1, .i32⟩
  | 59 => ⟨S128x384, .i32⟩
  | 60 => ⟨S128x384, .i32⟩
  | 61 => ⟨S128x384, .i32⟩
  | 62 => ⟨S128x384, .i32⟩
  | 63 => ⟨S_, .i32⟩
  | 64 => ⟨S128x384, .i32⟩
  | 65 => ⟨S128x384, .i1⟩
  | 66 => ⟨S1x128x384, .i1⟩
  | 67 => ⟨S_, .i32⟩
  | 68 => ⟨S64x384, .i32⟩
  | 69 => ⟨S64x384, .i1⟩
  | 70 => ⟨S_, .i32⟩
  | 71 => ⟨S64x384, .i32⟩
  | 72 => ⟨S64x384, .i1⟩
  | 73 => ⟨S64x384, .i1⟩
  | 74 => ⟨S64x1x384, .i1⟩
  | 75 => ⟨S64x128x384, .i1⟩
  | 76 => ⟨S64x128x384, .i1⟩
  | 77 => ⟨S64x128x384, .i1⟩
  | 78 => ⟨S1x64x2x384x128x4, .f32⟩
  | 79 => ⟨S1x64x2x4x128x384, .f32⟩
  | 80 => ⟨S1x64x2x4x128x384, .f32⟩
  | 81 => ⟨S1x64x2x4x128x384, .f32⟩
  | 82 => ⟨S1x64x1x1x128x384, .i1⟩
  | 83 => ⟨S_, .f32⟩
  | 84 => ⟨S_, .f32⟩
  | 85 => ⟨S1x64x2x4x128x384, .i1⟩
  | 86 => ⟨S1x64x2x4x128x384, .f32⟩
  | 87 => ⟨S1x64x2x4x128x384, .f32⟩
  | 88 => ⟨S1x2x256x64x128x4, .f32⟩
  | 89 => ⟨S1x64x2x4x128x256, .f32⟩
  | 90 => ⟨S1x64x2x4x128x256, .f32⟩
  | 91 => ⟨S1x64x2x4x128x256, .f32⟩
  | 92 => ⟨S1x64x2x4x128x640, .f32⟩
  | 93 => ⟨S_, .f32⟩
  | 94 => ⟨S1x64x2x4x128, .f32⟩
  | 95 => ⟨S1x64x2x4x128x1, .f32⟩
  | 96 => ⟨S1x1x2x4x1x1, .f32⟩
  | 97 => ⟨S1x64x2x4x128x1, .f32⟩
  | 98 => ⟨S1x64x2x4x128x1, .f32⟩
  | 99 => ⟨S1x64x2x4x128x640, .f32⟩
  | 100 => ⟨S1x64x2x4x128x640, .f32⟩
  | 101 => ⟨S1x64x2x4x128x640, .f32⟩
  | 102 => ⟨S_, .f32⟩
  | 103 => ⟨S1x64x2x4x128, .f32⟩
  | 104 => ⟨S1x64x2x4x128x1, .f32⟩
  | 105 => ⟨S1x1x2x4x1x1, .f32⟩
  | 106 => ⟨S1x64x2x4x128x1, .f32⟩
  | 107 => ⟨S1x64x2x4x128x1, .f32⟩
  | 108 => ⟨S1x64x2x4x128x1, .f32⟩
  | 109 => ⟨S1x64x2x4x128x1, .f32⟩
  | 110 => ⟨S1x64x2x4x128x640, .f32⟩
  | 111 => ⟨S1x64x2x4x128x640, .f32⟩
  | 112 => ⟨S1x64x2x4x128x256, .f32⟩
  | 113 => ⟨S1x2x128x64x4x128, .f32⟩
  | 114 => ⟨S1x64x128x2x4x128, .f32⟩
  | 115 => ⟨S1x64x2x4x128x384, .f32⟩
  | 116 => ⟨S1x64x2x128x4x128, .f32⟩
  | 117 => ⟨S1x64x128x2x4x128, .f32⟩
  | 118 => ⟨S1x64x128x2x4x128, .f32⟩
  | 119 => ⟨S1x8192x1024, .f32⟩
  | 120 => ⟨S1x256x2x4x128, .f32⟩
  | 121 => ⟨S1x2x256x256x4, .f32⟩
  | 122 => ⟨S1x2x4x256x256, .f32⟩
  | 123 => ⟨S1x2x4x256x256, .f32⟩
  | 124 => ⟨S1x2x4x256x256, .f32⟩
  | 125 => ⟨S_, .f32⟩
  | 126 => ⟨S1x2x4x256, .f32⟩
  | 127 => ⟨S1x2x4x256x1, .f32⟩
  | _ => ⟨S8448x1536, .bf16⟩

abbrev hbmTy0_1 (i : Nat) : BufTy := match i % 128 with
  | 0 => ⟨S1x2x4x1x1, .f32⟩
  | 1 => ⟨S1x2x4x256x1, .f32⟩
  | 2 => ⟨S1x2x4x256x1, .f32⟩
  | 3 => ⟨S1x2x4x256x256, .f32⟩
  | 4 => ⟨S1x2x4x256x256, .f32⟩
  | 5 => ⟨S1x2x4x256x256, .f32⟩
  | 6 => ⟨S_, .f32⟩
  | 7 => ⟨S1x2x4x256, .f32⟩
  | 8 => ⟨S1x2x4x256x1, .f32⟩
  | 9 => ⟨S1x2x4x1x1, .f32⟩
  | 10 => ⟨S1x2x4x256x1, .f32⟩
  | 11 => ⟨S1x2x4x256x1, .f32⟩
  | 12 => ⟨S1x2x4x256x1, .f32⟩
  | 13 => ⟨S1x2x4x256x1, .f32⟩
  | 14 => ⟨S1x2x4x256x256, .f32⟩
  | 15 => ⟨S1x2x4x256x256, .f32⟩
  | 16 => ⟨S1x2x128x4x256, .f32⟩
  | 17 => ⟨S1x256x2x4x128, .f32⟩
  | 18 => ⟨S1x256x1024, .f32⟩
  | 19 => ⟨S1x8448x1024, .f32⟩
  | 20 => ⟨S8448x1024, .f32⟩
  | 21 => ⟨S8448x1024, .bf16⟩
  | _ => ⟨S8448x1536, .bf16⟩

abbrev hbmTy (i : Nat) : BufTy := match i / 128 with
  | 0 => hbmTy0_0 i
  | 1 => hbmTy0_1 i
  | _ => ⟨S8448x1536, .bf16⟩

abbrev bufTy : (tb : Table) → Fin (tcTables nBuf tb) → BufTy
  | .hbm, ⟨i, _⟩ => hbmTy i
  | _, _ => ⟨S8448x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_c_5 : Ref sig .tc := ⟨.hbm, 67, rfl⟩
abbrev main_v58 : Ref sig .tc := ⟨.hbm, 68, rfl⟩
abbrev main_v59 : Ref sig .tc := ⟨.hbm, 69, rfl⟩
abbrev main_c_6 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_7 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_9 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_10 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_11 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩

abbrev nD : Nat := 1
abbrev τ : Topo := Topo.v7x

variable {F : FTy → Type} [FloatOps F]
-- ==== Kernel2.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x5632 : Shape := ⟨2, ![8448, 5632]⟩
abbrev S2112x2048 : Shape := ⟨2, ![2112, 2048]⟩
abbrev S1x512x2048 : Shape := ⟨3, ![1, 512, 2048]⟩
abbrev S1x8x2048 : Shape := ⟨3, ![1, 8, 2048]⟩
abbrev S2112x512 : Shape := ⟨2, ![2112, 512]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x5632, .f32⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x8x2048, .f32⟩
  | .local _ .vmem, ⟨5, _⟩ => ⟨S1x8x2048, .f32⟩
  | .local _ .vmem, ⟨6, _⟩ => ⟨S2112x512, .f32⟩
  | .local _ .vmem, ⟨7, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.addi v0 c1_i32
  let c64_i32 : BitVec 32 := 64#32
  let v2 : BitVec 32 := Scalar.muli v1 c64_i32
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x5632 : Shape := ⟨2, ![8448, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x128 : Shape := ⟨2, ![8448, 128]⟩
abbrev S2112x2048 : Shape := ⟨2, ![2112, 2048]⟩
abbrev S1x128x2048 : Shape := ⟨3, ![1, 128, 2048]⟩
abbrev S1x8x2048 : Shape := ⟨3, ![1, 8, 2048]⟩
abbrev S2112x128 : Shape := ⟨2, ![2112, 128]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x128, .f32⟩
  | .local _ .vmem, ⟨0, _⟩ => ⟨S2112x2048, .bf16⟩
  | .local _ .vmem, ⟨1, _⟩ => ⟨S2112x2048, .bf16⟩
  | .local _ .vmem, ⟨2, _⟩ => ⟨S1x128x2048, .f32⟩
  | .local _ .vmem, ⟨3, _⟩ => ⟨S1x8x2048, .f32⟩
  | .local _ .vmem, ⟨4, _⟩ => ⟨S2112x128, .f32⟩
  | .local _ .vmem, ⟨5, _⟩ => ⟨S2112x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c1_i32 : BitVec 32 := 1#32
  let v1 : BitVec 32 := Scalar.addi v0 c1_i32
  let c16_i32 : BitVec 32 := 16#32
  let v2 : BitVec 32 := Scalar.muli v1 c16_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x128 : Shape := ⟨2, ![8448, 128]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x128, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x6144 : Shape := ⟨2, ![8448, 6144]⟩
abbrev S2112x2048 : Shape := ⟨2, ![2112, 2048]⟩
abbrev S1x512x2048 : Shape := ⟨3, ![1, 512, 2048]⟩
abbrev S1x32x2048 : Shape := ⟨3, ![1, 32, 2048]⟩
abbrev S2112x512 : Shape := ⟨2, ![2112, 512]⟩
abbrev S512x2048 : Shape := ⟨2, ![512, 2048]⟩
abbrev S480x2048 : Shape := ⟨2, ![480, 2048]⟩
abbrev S32x2048 : Shape := ⟨2, ![32, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x6144, .f32⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x32x2048, .f32⟩
  | .local _ .vmem, ⟨5, _⟩ => ⟨S1x32x2048, .f32⟩
  | .local _ .vmem, ⟨6, _⟩ => ⟨S2112x512, .f32⟩
  | .local _ .vmem, ⟨7, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let v1 : BitVec 32 := Scalar.addi v0 c1_i32
  let c16_i32 : BitVec 32 := 16#32
  let v2 : BitVec 32 := Scalar.muli v1 c16_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x6144 : Shape := ⟨2, ![8448, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x8192 : Shape := ⟨2, ![8448, 8192]⟩
abbrev S2112x2048 : Shape := ⟨2, ![2112, 2048]⟩
abbrev S1x512x2048 : Shape := ⟨3, ![1, 512, 2048]⟩
abbrev S1x32x2048 : Shape := ⟨3, ![1, 32, 2048]⟩
abbrev S2112x512 : Shape := ⟨2, ![2112, 512]⟩
abbrev S512x2048 : Shape := ⟨2, ![512, 2048]⟩
abbrev S480x2048 : Shape := ⟨2, ![480, 2048]⟩
abbrev S32x2048 : Shape := ⟨2, ![32, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x8192, .bf16⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x32x2048, .f32⟩
  | .local _ .vmem, ⟨5, _⟩ => ⟨S1x32x2048, .f32⟩
  | .local _ .vmem, ⟨6, _⟩ => ⟨S2112x512, .bf16⟩
  | .local _ .vmem, ⟨7, _⟩ => ⟨S2112x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c1_i32 : BitVec 32 := 1#32
  let v1 : BitVec 32 := Scalar.addi v0 c1_i32
  let c16_i32 : BitVec 32 := 16#32
  let v2 : BitVec 32 := Scalar.muli v1 c16_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x8192 : Shape := ⟨2, ![8448, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x8192, .f32⟩
  | .hbm, ⟨7, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S8448x2048 : Shape := ⟨2, ![8448, 2048]⟩
abbrev S4x2048x2048 : Shape := ⟨3, ![4, 2048, 2048]⟩
abbrev S2112x2048 : Shape := ⟨2, ![2112, 2048]⟩
abbrev S1x2048x512 : Shape := ⟨3, ![1, 2048, 512]⟩
abbrev S2112x512 : Shape := ⟨2, ![2112, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .f32⟩
  | .hbm, ⟨2, _⟩ => ⟨S8448x2048, .f32⟩
  | .local _ .vmem, ⟨0, _⟩ => ⟨S2112x2048, .bf16⟩
  | .local _ .vmem, ⟨1, _⟩ => ⟨S2112x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2112x512, .f32⟩
  | .local _ .vmem, ⟨5, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2112x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8448x2048 : Shape := ⟨2, ![8448, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .f32⟩
  | .hbm, ⟨2, _⟩ => ⟨S8448x2048, .f32⟩
  | .hbm, ⟨3, _⟩ => ⟨S1x2048x2048, .f32⟩
  | .hbm, ⟨4, _⟩ => ⟨S2048x2048, .f32⟩
  | .hbm, ⟨5, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8448x1024 : Shape := ⟨2, ![8448, 1024]⟩
abbrev S8192x1024 : Shape := ⟨2, ![8192, 1024]⟩
abbrev S256x1024 : Shape := ⟨2, ![256, 1024]⟩
abbrev S8448x8192 : Shape := ⟨2, ![8448, 8192]⟩
abbrev S4x4x1024x2048 : Shape := ⟨4, ![4, 4, 1024, 2048]⟩
abbrev S8448x2048 : Shape := ⟨2, ![8448, 2048]⟩
abbrev S256x512 : Shape := ⟨2, ![256, 512]⟩
abbrev S1x4x1024x512 : Shape := ⟨4, ![1, 4, 1024, 512]⟩
abbrev S1x1x1024x512 : Shape := ⟨4, ![1, 1, 1024, 512]⟩
abbrev S1024x512 : Shape := ⟨2, ![1024, 512]⟩

abbrev nBuf : Space → Nat
  | .hbm => 8
  | .vmem => 21
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8192x1024, .f32⟩
  | .hbm, ⟨3, _⟩ => ⟨S256x1024, .f32⟩
  | .hbm, ⟨4, _⟩ => ⟨S8448x1024, .bf16⟩
  | .hbm, ⟨5, _⟩ => ⟨S8448x8192, .bf16⟩
  | .hbm, ⟨6, _⟩ => ⟨S4x4x1024x2048, .f32⟩
  | .hbm, ⟨7, _⟩ => ⟨S8448x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x4x1024x512, .f32⟩
  | .local _ .vmem, ⟨18, _⟩ => ⟨S1x4x1024x512, .f32⟩
  | .local _ .vmem, ⟨19, _⟩ => ⟨S256x512, .bf16⟩
  | .local _ .vmem, ⟨20, _⟩ => ⟨S256x512, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S8448x1024 : Shape := ⟨2, ![8448, 1024]⟩
abbrev S8192x1024 : Shape := ⟨2, ![8192, 1024]⟩
abbrev S256x1024 : Shape := ⟨2, ![256, 1024]⟩
abbrev S8448x8192 : Shape := ⟨2, ![8448, 8192]⟩
abbrev S4x4x1024x2048 : Shape := ⟨4, ![4, 4, 1024, 2048]⟩
abbrev S8448x1x1024 : Shape := ⟨3, ![8448, 1, 1024]⟩
abbrev S8448x4x1024 : Shape := ⟨3, ![8448, 4, 1024]⟩
abbrev S1x4x1024x2048 : Shape := ⟨4, ![1, 4, 1024, 2048]⟩
abbrev S4x1024x2048 : Shape := ⟨3, ![4, 1024, 2048]⟩
abbrev S4x2048x8448 : Shape := ⟨3, ![4, 2048, 8448]⟩
abbrev S8448x4x2048 : Shape := ⟨3, ![8448, 4, 2048]⟩
abbrev S_ : Shape := ⟨0, ![]⟩
abbrev S8448x2048 : Shape := ⟨2, ![8448, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8192x1024, .f32⟩
  | .hbm, ⟨3, _⟩ => ⟨S256x1024, .f32⟩
  | .hbm, ⟨4, _⟩ => ⟨S8448x1024, .bf16⟩
  | .hbm, ⟨5, _⟩ => ⟨S8448x8192, .bf16⟩
  | .hbm, ⟨6, _⟩ => ⟨S4x4x1024x2048, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1x1024, .f32⟩
  | .hbm, ⟨12, _⟩ => ⟨S8448x1x1024, .f32⟩
  | .hbm, ⟨13, _⟩ => ⟨S8448x1x1024, .f32⟩
  | .hbm, ⟨14, _⟩ => ⟨S8448x1x1024, .f32⟩
  | .hbm, ⟨15, _⟩ => ⟨S8448x4x1024, .f32⟩
  | .hbm, ⟨16, _⟩ => ⟨S1x4x1024x2048, .f32⟩
  | .hbm, ⟨17, _⟩ => ⟨S4x1024x2048, .f32⟩
  | .hbm, ⟨18, _⟩ => ⟨S4x2048x8448, .f32⟩
  | .hbm, ⟨19, _⟩ => ⟨S8448x4x2048, .f32⟩
  | .hbm, ⟨20, _⟩ => ⟨S8448x8192, .f32⟩
  | .hbm, ⟨21, _⟩ => ⟨S8448x4x2048, .f32⟩
  | .hbm, ⟨22, _⟩ => ⟨S8448x4x2048, .f32⟩
  | .hbm, ⟨23, _⟩ => ⟨S8448x4x2048, .f32⟩
  | .hbm, ⟨24, _⟩ => ⟨S_, .f32⟩
  | .hbm, ⟨25, _⟩ => ⟨S8448x4x2048, .f32⟩
  | .hbm, ⟨26, _⟩ => ⟨S8448x4x2048, .f32⟩
  | .hbm, ⟨27, _⟩ => ⟨S_, .f32⟩
  | .hbm, ⟨28, _⟩ => ⟨S8448x4x2048, .f32⟩
  | .hbm, ⟨29, _⟩ => ⟨S8448x4x2048, .f32⟩
  | .hbm, ⟨30, _⟩ => ⟨S8448x4x2048, .f32⟩
  | .hbm, ⟨31, _⟩ => ⟨S_, .f32⟩
  | .hbm, ⟨32, _⟩ => ⟨S8448x2048, .f32⟩
  | .hbm, ⟨33, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel8.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x5632 : Shape := ⟨2, ![8448, 5632]⟩
abbrev S2112x2048 : Shape := ⟨2, ![2112, 2048]⟩
abbrev S1x512x2048 : Shape := ⟨3, ![1, 512, 2048]⟩
abbrev S1x8x2048 : Shape := ⟨3, ![1, 8, 2048]⟩
abbrev S2112x512 : Shape := ⟨2, ![2112, 512]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x5632, .f32⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x8x2048, .f32⟩
  | .local _ .vmem, ⟨5, _⟩ => ⟨S1x8x2048, .f32⟩
  | .local _ .vmem, ⟨6, _⟩ => ⟨S2112x512, .f32⟩
  | .local _ .vmem, ⟨7, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.addi v0 c1_i32
  let c64_i32 : BitVec 32 := 64#32
  let v2 : BitVec 32 := Scalar.muli v1 c64_i32
  let c1_i32_0 : BitVec 32 := 1#32
  let c0_i32_1 : BitVec 32 := 0#32
  let c0_i32_2 : BitVec 32 := 0#32
  ![c1_i32_0.toNat, v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x5632 : Shape := ⟨2, ![8448, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x128 : Shape := ⟨2, ![8448, 128]⟩
abbrev S2112x2048 : Shape := ⟨2, ![2112, 2048]⟩
abbrev S1x128x2048 : Shape := ⟨3, ![1, 128, 2048]⟩
abbrev S1x8x2048 : Shape := ⟨3, ![1, 8, 2048]⟩
abbrev S2112x128 : Shape := ⟨2, ![2112, 128]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x128, .f32⟩
  | .local _ .vmem, ⟨0, _⟩ => ⟨S2112x2048, .bf16⟩
  | .local _ .vmem, ⟨1, _⟩ => ⟨S2112x2048, .bf16⟩
  | .local _ .vmem, ⟨2, _⟩ => ⟨S1x128x2048, .f32⟩
  | .local _ .vmem, ⟨3, _⟩ => ⟨S1x8x2048, .f32⟩
  | .local _ .vmem, ⟨4, _⟩ => ⟨S2112x128, .f32⟩
  | .local _ .vmem, ⟨5, _⟩ => ⟨S2112x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c1_i32 : BitVec 32 := 1#32
  let v1 : BitVec 32 := Scalar.addi v0 c1_i32
  let c16_i32 : BitVec 32 := 16#32
  let v2 : BitVec 32 := Scalar.muli v1 c16_i32
  let c1_i32_0 : BitVec 32 := 1#32
  let c0_i32 : BitVec 32 := 0#32
  let c0_i32_1 : BitVec 32 := 0#32
  ![c1_i32_0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x128 : Shape := ⟨2, ![8448, 128]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x128, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x6144 : Shape := ⟨2, ![8448, 6144]⟩
abbrev S2112x2048 : Shape := ⟨2, ![2112, 2048]⟩
abbrev S1x512x2048 : Shape := ⟨3, ![1, 512, 2048]⟩
abbrev S1x32x2048 : Shape := ⟨3, ![1, 32, 2048]⟩
abbrev S2112x512 : Shape := ⟨2, ![2112, 512]⟩
abbrev S512x2048 : Shape := ⟨2, ![512, 2048]⟩
abbrev S480x2048 : Shape := ⟨2, ![480, 2048]⟩
abbrev S32x2048 : Shape := ⟨2, ![32, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x6144, .f32⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x32x2048, .f32⟩
  | .local _ .vmem, ⟨5, _⟩ => ⟨S1x32x2048, .f32⟩
  | .local _ .vmem, ⟨6, _⟩ => ⟨S2112x512, .f32⟩
  | .local _ .vmem, ⟨7, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let v1 : BitVec 32 := Scalar.addi v0 c1_i32
  let c16_i32 : BitVec 32 := 16#32
  let v2 : BitVec 32 := Scalar.muli v1 c16_i32
  let c1_i32_0 : BitVec 32 := 1#32
  let c0_i32 : BitVec 32 := 0#32
  let c0_i32_1 : BitVec 32 := 0#32
  ![c1_i32_0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x6144 : Shape := ⟨2, ![8448, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x8192 : Shape := ⟨2, ![8448, 8192]⟩
abbrev S2112x2048 : Shape := ⟨2, ![2112, 2048]⟩
abbrev S1x512x2048 : Shape := ⟨3, ![1, 512, 2048]⟩
abbrev S1x32x2048 : Shape := ⟨3, ![1, 32, 2048]⟩
abbrev S2112x512 : Shape := ⟨2, ![2112, 512]⟩
abbrev S512x2048 : Shape := ⟨2, ![512, 2048]⟩
abbrev S480x2048 : Shape := ⟨2, ![480, 2048]⟩
abbrev S32x2048 : Shape := ⟨2, ![32, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x8192, .bf16⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x32x2048, .f32⟩
  | .local _ .vmem, ⟨5, _⟩ => ⟨S1x32x2048, .f32⟩
  | .local _ .vmem, ⟨6, _⟩ => ⟨S2112x512, .bf16⟩
  | .local _ .vmem, ⟨7, _⟩ => ⟨S2112x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c1_i32 : BitVec 32 := 1#32
  let v1 : BitVec 32 := Scalar.addi v0 c1_i32
  let c16_i32 : BitVec 32 := 16#32
  let v2 : BitVec 32 := Scalar.muli v1 c16_i32
  let c1_i32_0 : BitVec 32 := 1#32
  let c0_i32 : BitVec 32 := 0#32
  let c0_i32_1 : BitVec 32 := 0#32
  ![c1_i32_0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x8192 : Shape := ⟨2, ![8448, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x8192, .f32⟩
  | .hbm, ⟨7, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S8448x2048 : Shape := ⟨2, ![8448, 2048]⟩
abbrev S4x2048x2048 : Shape := ⟨3, ![4, 2048, 2048]⟩
abbrev S2112x2048 : Shape := ⟨2, ![2112, 2048]⟩
abbrev S1x2048x512 : Shape := ⟨3, ![1, 2048, 512]⟩
abbrev S2112x512 : Shape := ⟨2, ![2112, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .f32⟩
  | .hbm, ⟨2, _⟩ => ⟨S8448x2048, .f32⟩
  | .local _ .vmem, ⟨0, _⟩ => ⟨S2112x2048, .bf16⟩
  | .local _ .vmem, ⟨1, _⟩ => ⟨S2112x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2112x512, .f32⟩
  | .local _ .vmem, ⟨5, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2112x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8448x2048 : Shape := ⟨2, ![8448, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .f32⟩
  | .hbm, ⟨2, _⟩ => ⟨S8448x2048, .f32⟩
  | .hbm, ⟨3, _⟩ => ⟨S1x2048x2048, .f32⟩
  | .hbm, ⟨4, _⟩ => ⟨S2048x2048, .f32⟩
  | .hbm, ⟨5, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8448x1024 : Shape := ⟨2, ![8448, 1024]⟩
abbrev S8192x1024 : Shape := ⟨2, ![8192, 1024]⟩
abbrev S256x1024 : Shape := ⟨2, ![256, 1024]⟩
abbrev S8448x8192 : Shape := ⟨2, ![8448, 8192]⟩
abbrev S4x4x1024x2048 : Shape := ⟨4, ![4, 4, 1024, 2048]⟩
abbrev S8448x2048 : Shape := ⟨2, ![8448, 2048]⟩
abbrev S256x512 : Shape := ⟨2, ![256, 512]⟩
abbrev S1x4x1024x512 : Shape := ⟨4, ![1, 4, 1024, 512]⟩
abbrev S1x1x1024x512 : Shape := ⟨4, ![1, 1, 1024, 512]⟩
abbrev S1024x512 : Shape := ⟨2, ![1024, 512]⟩

abbrev nBuf : Space → Nat
  | .hbm => 8
  | .vmem => 21
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8192x1024, .f32⟩
  | .hbm, ⟨3, _⟩ => ⟨S256x1024, .f32⟩
  | .hbm, ⟨4, _⟩ => ⟨S8448x1024, .bf16⟩
  | .hbm, ⟨5, _⟩ => ⟨S8448x8192, .bf16⟩
  | .hbm, ⟨6, _⟩ => ⟨S4x4x1024x2048, .f32⟩
  | .hbm, ⟨7, _⟩ => ⟨S8448x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x4x1024x512, .f32⟩
  | .local _ .vmem, ⟨18, _⟩ => ⟨S1x4x1024x512, .f32⟩
  | .local _ .vmem, ⟨19, _⟩ => ⟨S256x512, .bf16⟩
  | .local _ .vmem, ⟨20, _⟩ => ⟨S256x512, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference13Ideal.lean ====
abbrev S8448x1024 : Shape := ⟨2, ![8448, 1024]⟩
abbrev S8192x1024 : Shape := ⟨2, ![8192, 1024]⟩
abbrev S256x1024 : Shape := ⟨2, ![256, 1024]⟩
abbrev S8448x8192 : Shape := ⟨2, ![8448, 8192]⟩
abbrev S4x4x1024x2048 : Shape := ⟨4, ![4, 4, 1024, 2048]⟩
abbrev S8448x1x1024 : Shape := ⟨3, ![8448, 1, 1024]⟩
abbrev S8448x4x1024 : Shape := ⟨3, ![8448, 4, 1024]⟩
abbrev S1x4x1024x2048 : Shape := ⟨4, ![1, 4, 1024, 2048]⟩
abbrev S4x1024x2048 : Shape := ⟨3, ![4, 1024, 2048]⟩
abbrev S4x2048x8448 : Shape := ⟨3, ![4, 2048, 8448]⟩
abbrev S8448x4x2048 : Shape := ⟨3, ![8448, 4, 2048]⟩
abbrev S_ : Shape := ⟨0, ![]⟩
abbrev S8448x2048 : Shape := ⟨2, ![8448, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8192x1024, .f32⟩
  | .hbm, ⟨3, _⟩ => ⟨S256x1024, .f32⟩
  | .hbm, ⟨4, _⟩ => ⟨S8448x1024, .bf16⟩
  | .hbm, ⟨5, _⟩ => ⟨S8448x8192, .bf16⟩
  | .hbm, ⟨6, _⟩ => ⟨S4x4x1024x2048, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1x1024, .f32⟩
  | .hbm, ⟨12, _⟩ => ⟨S8448x1x1024, .f32⟩
  | .hbm, ⟨13, _⟩ => ⟨S8448x1x1024, .f32⟩
  | .hbm, ⟨14, _⟩ => ⟨S8448x1x1024, .f32⟩
  | .hbm, ⟨15, _⟩ => ⟨S8448x4x1024, .f32⟩
  | .hbm, ⟨16, _⟩ => ⟨S1x4x1024x2048, .f32⟩
  | .hbm, ⟨17, _⟩ => ⟨S4x1024x2048, .f32⟩
  | .hbm, ⟨18, _⟩ => ⟨S4x2048x8448, .f32⟩
  | .hbm, ⟨19, _⟩ => ⟨S8448x4x2048, .f32⟩
  | .hbm, ⟨20, _⟩ => ⟨S8448x8192, .f32⟩
  | .hbm, ⟨21, _⟩ => ⟨S8448x4x2048, .f32⟩
  | .hbm, ⟨22, _⟩ => ⟨S8448x4x2048, .f32⟩
  | .hbm, ⟨23, _⟩ => ⟨S8448x4x2048, .f32⟩
  | .hbm, ⟨24, _⟩ => ⟨S_, .f32⟩
  | .hbm, ⟨25, _⟩ => ⟨S8448x4x2048, .f32⟩
  | .hbm, ⟨26, _⟩ => ⟨S8448x4x2048, .f32⟩
  | .hbm, ⟨27, _⟩ => ⟨S_, .f32⟩
  | .hbm, ⟨28, _⟩ => ⟨S8448x4x2048, .f32⟩
  | .hbm, ⟨29, _⟩ => ⟨S8448x4x2048, .f32⟩
  | .hbm, ⟨30, _⟩ => ⟨S8448x4x2048, .f32⟩
  | .hbm, ⟨31, _⟩ => ⟨S_, .f32⟩
  | .hbm, ⟨32, _⟩ => ⟨S8448x2048, .f32⟩
  | .hbm, ⟨33, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel14.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x5632 : Shape := ⟨2, ![8448, 5632]⟩
abbrev S2112x2048 : Shape := ⟨2, ![2112, 2048]⟩
abbrev S1x512x2048 : Shape := ⟨3, ![1, 512, 2048]⟩
abbrev S1x8x2048 : Shape := ⟨3, ![1, 8, 2048]⟩
abbrev S2112x512 : Shape := ⟨2, ![2112, 512]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x5632, .f32⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x8x2048, .f32⟩
  | .local _ .vmem, ⟨5, _⟩ => ⟨S1x8x2048, .f32⟩
  | .local _ .vmem, ⟨6, _⟩ => ⟨S2112x512, .f32⟩
  | .local _ .vmem, ⟨7, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.addi v0 c1_i32
  let c64_i32 : BitVec 32 := 64#32
  let v2 : BitVec 32 := Scalar.muli v1 c64_i32
  let c2_i32 : BitVec 32 := 2#32
  let c0_i32_0 : BitVec 32 := 0#32
  let c0_i32_1 : BitVec 32 := 0#32
  ![c2_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x5632 : Shape := ⟨2, ![8448, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x128 : Shape := ⟨2, ![8448, 128]⟩
abbrev S2112x2048 : Shape := ⟨2, ![2112, 2048]⟩
abbrev S1x128x2048 : Shape := ⟨3, ![1, 128, 2048]⟩
abbrev S1x8x2048 : Shape := ⟨3, ![1, 8, 2048]⟩
abbrev S2112x128 : Shape := ⟨2, ![2112, 128]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x128, .f32⟩
  | .local _ .vmem, ⟨0, _⟩ => ⟨S2112x2048, .bf16⟩
  | .local _ .vmem, ⟨1, _⟩ => ⟨S2112x2048, .bf16⟩
  | .local _ .vmem, ⟨2, _⟩ => ⟨S1x128x2048, .f32⟩
  | .local _ .vmem, ⟨3, _⟩ => ⟨S1x8x2048, .f32⟩
  | .local _ .vmem, ⟨4, _⟩ => ⟨S2112x128, .f32⟩
  | .local _ .vmem, ⟨5, _⟩ => ⟨S2112x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c2_i32 : BitVec 32 := 2#32
  let c0_i32 : BitVec 32 := 0#32
  let c0_i32_0 : BitVec 32 := 0#32
  ![c2_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c1_i32 : BitVec 32 := 1#32
  let v1 : BitVec 32 := Scalar.addi v0 c1_i32
  let c16_i32 : BitVec 32 := 16#32
  let v2 : BitVec 32 := Scalar.muli v1 c16_i32
  let c2_i32 : BitVec 32 := 2#32
  let c0_i32 : BitVec 32 := 0#32
  let c0_i32_0 : BitVec 32 := 0#32
  ![c2_i32.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x128 : Shape := ⟨2, ![8448, 128]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x128, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x6144 : Shape := ⟨2, ![8448, 6144]⟩
abbrev S2112x2048 : Shape := ⟨2, ![2112, 2048]⟩
abbrev S1x512x2048 : Shape := ⟨3, ![1, 512, 2048]⟩
abbrev S1x32x2048 : Shape := ⟨3, ![1, 32, 2048]⟩
abbrev S2112x512 : Shape := ⟨2, ![2112, 512]⟩
abbrev S512x2048 : Shape := ⟨2, ![512, 2048]⟩
abbrev S480x2048 : Shape := ⟨2, ![480, 2048]⟩
abbrev S32x2048 : Shape := ⟨2, ![32, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x6144, .f32⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x32x2048, .f32⟩
  | .local _ .vmem, ⟨5, _⟩ => ⟨S1x32x2048, .f32⟩
  | .local _ .vmem, ⟨6, _⟩ => ⟨S2112x512, .f32⟩
  | .local _ .vmem, ⟨7, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c2_i32 : BitVec 32 := 2#32
  let c0_i32 : BitVec 32 := 0#32
  let c0_i32_0 : BitVec 32 := 0#32
  ![c2_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let v1 : BitVec 32 := Scalar.addi v0 c1_i32
  let c16_i32 : BitVec 32 := 16#32
  let v2 : BitVec 32 := Scalar.muli v1 c16_i32
  let c2_i32 : BitVec 32 := 2#32
  let c0_i32 : BitVec 32 := 0#32
  let c0_i32_0 : BitVec 32 := 0#32
  ![c2_i32.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x6144 : Shape := ⟨2, ![8448, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x8192 : Shape := ⟨2, ![8448, 8192]⟩
abbrev S2112x2048 : Shape := ⟨2, ![2112, 2048]⟩
abbrev S1x512x2048 : Shape := ⟨3, ![1, 512, 2048]⟩
abbrev S1x32x2048 : Shape := ⟨3, ![1, 32, 2048]⟩
abbrev S2112x512 : Shape := ⟨2, ![2112, 512]⟩
abbrev S512x2048 : Shape := ⟨2, ![512, 2048]⟩
abbrev S480x2048 : Shape := ⟨2, ![480, 2048]⟩
abbrev S32x2048 : Shape := ⟨2, ![32, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x8192, .bf16⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x32x2048, .f32⟩
  | .local _ .vmem, ⟨5, _⟩ => ⟨S1x32x2048, .f32⟩
  | .local _ .vmem, ⟨6, _⟩ => ⟨S2112x512, .bf16⟩
  | .local _ .vmem, ⟨7, _⟩ => ⟨S2112x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c2_i32 : BitVec 32 := 2#32
  let c0_i32 : BitVec 32 := 0#32
  let c0_i32_0 : BitVec 32 := 0#32
  ![c2_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c1_i32 : BitVec 32 := 1#32
  let v1 : BitVec 32 := Scalar.addi v0 c1_i32
  let c16_i32 : BitVec 32 := 16#32
  let v2 : BitVec 32 := Scalar.muli v1 c16_i32
  let c2_i32 : BitVec 32 := 2#32
  let c0_i32 : BitVec 32 := 0#32
  let c0_i32_0 : BitVec 32 := 0#32
  ![c2_i32.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x8192 : Shape := ⟨2, ![8448, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x8192, .f32⟩
  | .hbm, ⟨7, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel18.lean ====
abbrev S8448x2048 : Shape := ⟨2, ![8448, 2048]⟩
abbrev S4x2048x2048 : Shape := ⟨3, ![4, 2048, 2048]⟩
abbrev S2112x2048 : Shape := ⟨2, ![2112, 2048]⟩
abbrev S1x2048x512 : Shape := ⟨3, ![1, 2048, 512]⟩
abbrev S2112x512 : Shape := ⟨2, ![2112, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .f32⟩
  | .hbm, ⟨2, _⟩ => ⟨S8448x2048, .f32⟩
  | .local _ .vmem, ⟨0, _⟩ => ⟨S2112x2048, .bf16⟩
  | .local _ .vmem, ⟨1, _⟩ => ⟨S2112x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2112x512, .f32⟩
  | .local _ .vmem, ⟨5, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2112x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8448x2048 : Shape := ⟨2, ![8448, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .f32⟩
  | .hbm, ⟨2, _⟩ => ⟨S8448x2048, .f32⟩
  | .hbm, ⟨3, _⟩ => ⟨S1x2048x2048, .f32⟩
  | .hbm, ⟨4, _⟩ => ⟨S2048x2048, .f32⟩
  | .hbm, ⟨5, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S8448x1024 : Shape := ⟨2, ![8448, 1024]⟩
abbrev S8192x1024 : Shape := ⟨2, ![8192, 1024]⟩
abbrev S256x1024 : Shape := ⟨2, ![256, 1024]⟩
abbrev S8448x8192 : Shape := ⟨2, ![8448, 8192]⟩
abbrev S4x4x1024x2048 : Shape := ⟨4, ![4, 4, 1024, 2048]⟩
abbrev S8448x2048 : Shape := ⟨2, ![8448, 2048]⟩
abbrev S256x512 : Shape := ⟨2, ![256, 512]⟩
abbrev S1x4x1024x512 : Shape := ⟨4, ![1, 4, 1024, 512]⟩
abbrev S1x1x1024x512 : Shape := ⟨4, ![1, 1, 1024, 512]⟩
abbrev S1024x512 : Shape := ⟨2, ![1024, 512]⟩

abbrev nBuf : Space → Nat
  | .hbm => 8
  | .vmem => 21
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8192x1024, .f32⟩
  | .hbm, ⟨3, _⟩ => ⟨S256x1024, .f32⟩
  | .hbm, ⟨4, _⟩ => ⟨S8448x1024, .bf16⟩
  | .hbm, ⟨5, _⟩ => ⟨S8448x8192, .bf16⟩
  | .hbm, ⟨6, _⟩ => ⟨S4x4x1024x2048, .f32⟩
  | .hbm, ⟨7, _⟩ => ⟨S8448x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x4x1024x512, .f32⟩
  | .local _ .vmem, ⟨18, _⟩ => ⟨S1x4x1024x512, .f32⟩
  | .local _ .vmem, ⟨19, _⟩ => ⟨S256x512, .bf16⟩
  | .local _ .vmem, ⟨20, _⟩ => ⟨S256x512, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference19Ideal.lean ====
abbrev S8448x1024 : Shape := ⟨2, ![8448, 1024]⟩
abbrev S8192x1024 : Shape := ⟨2, ![8192, 1024]⟩
abbrev S256x1024 : Shape := ⟨2, ![256, 1024]⟩
abbrev S8448x8192 : Shape := ⟨2, ![8448, 8192]⟩
abbrev S4x4x1024x2048 : Shape := ⟨4, ![4, 4, 1024, 2048]⟩
abbrev S8448x1x1024 : Shape := ⟨3, ![8448, 1, 1024]⟩
abbrev S8448x4x1024 : Shape := ⟨3, ![8448, 4, 1024]⟩
abbrev S1x4x1024x2048 : Shape := ⟨4, ![1, 4, 1024, 2048]⟩
abbrev S4x1024x2048 : Shape := ⟨3, ![4, 1024, 2048]⟩
abbrev S4x2048x8448 : Shape := ⟨3, ![4, 2048, 8448]⟩
abbrev S8448x4x2048 : Shape := ⟨3, ![8448, 4, 2048]⟩
abbrev S_ : Shape := ⟨0, ![]⟩
abbrev S8448x2048 : Shape := ⟨2, ![8448, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8192x1024, .f32⟩
  | .hbm, ⟨3, _⟩ => ⟨S256x1024, .f32⟩
  | .hbm, ⟨4, _⟩ => ⟨S8448x1024, .bf16⟩
  | .hbm, ⟨5, _⟩ => ⟨S8448x8192, .bf16⟩
  | .hbm, ⟨6, _⟩ => ⟨S4x4x1024x2048, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1x1024, .f32⟩
  | .hbm, ⟨12, _⟩ => ⟨S8448x1x1024, .f32⟩
  | .hbm, ⟨13, _⟩ => ⟨S8448x1x1024, .f32⟩
  | .hbm, ⟨14, _⟩ => ⟨S8448x1x1024, .f32⟩
  | .hbm, ⟨15, _⟩ => ⟨S8448x4x1024, .f32⟩
  | .hbm, ⟨16, _⟩ => ⟨S1x4x1024x2048, .f32⟩
  | .hbm, ⟨17, _⟩ => ⟨S4x1024x2048, .f32⟩
  | .hbm, ⟨18, _⟩ => ⟨S4x2048x8448, .f32⟩
  | .hbm, ⟨19, _⟩ => ⟨S8448x4x2048, .f32⟩
  | .hbm, ⟨20, _⟩ => ⟨S8448x8192, .f32⟩
  | .hbm, ⟨21, _⟩ => ⟨S8448x4x2048, .f32⟩
  | .hbm, ⟨22, _⟩ => ⟨S8448x4x2048, .f32⟩
  | .hbm, ⟨23, _⟩ => ⟨S8448x4x2048, .f32⟩
  | .hbm, ⟨24, _⟩ => ⟨S_, .f32⟩
  | .hbm, ⟨25, _⟩ => ⟨S8448x4x2048, .f32⟩
  | .hbm, ⟨26, _⟩ => ⟨S8448x4x2048, .f32⟩
  | .hbm, ⟨27, _⟩ => ⟨S_, .f32⟩
  | .hbm, ⟨28, _⟩ => ⟨S8448x4x2048, .f32⟩
  | .hbm, ⟨29, _⟩ => ⟨S8448x4x2048, .f32⟩
  | .hbm, ⟨30, _⟩ => ⟨S8448x4x2048, .f32⟩
  | .hbm, ⟨31, _⟩ => ⟨S_, .f32⟩
  | .hbm, ⟨32, _⟩ => ⟨S8448x2048, .f32⟩
  | .hbm, ⟨33, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel20.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x5632 : Shape := ⟨2, ![8448, 5632]⟩
abbrev S2112x2048 : Shape := ⟨2, ![2112, 2048]⟩
abbrev S1x512x2048 : Shape := ⟨3, ![1, 512, 2048]⟩
abbrev S1x8x2048 : Shape := ⟨3, ![1, 8, 2048]⟩
abbrev S2112x512 : Shape := ⟨2, ![2112, 512]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x5632, .f32⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x8x2048, .f32⟩
  | .local _ .vmem, ⟨5, _⟩ => ⟨S1x8x2048, .f32⟩
  | .local _ .vmem, ⟨6, _⟩ => ⟨S2112x512, .f32⟩
  | .local _ .vmem, ⟨7, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.addi v0 c1_i32
  let c64_i32 : BitVec 32 := 64#32
  let v2 : BitVec 32 := Scalar.muli v1 c64_i32
  let c3_i32 : BitVec 32 := 3#32
  let c0_i32_0 : BitVec 32 := 0#32
  let c0_i32_1 : BitVec 32 := 0#32
  ![c3_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x5632 : Shape := ⟨2, ![8448, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x128 : Shape := ⟨2, ![8448, 128]⟩
abbrev S2112x2048 : Shape := ⟨2, ![2112, 2048]⟩
abbrev S1x128x2048 : Shape := ⟨3, ![1, 128, 2048]⟩
abbrev S1x8x2048 : Shape := ⟨3, ![1, 8, 2048]⟩
abbrev S2112x128 : Shape := ⟨2, ![2112, 128]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x128, .f32⟩
  | .local _ .vmem, ⟨0, _⟩ => ⟨S2112x2048, .bf16⟩
  | .local _ .vmem, ⟨1, _⟩ => ⟨S2112x2048, .bf16⟩
  | .local _ .vmem, ⟨2, _⟩ => ⟨S1x128x2048, .f32⟩
  | .local _ .vmem, ⟨3, _⟩ => ⟨S1x8x2048, .f32⟩
  | .local _ .vmem, ⟨4, _⟩ => ⟨S2112x128, .f32⟩
  | .local _ .vmem, ⟨5, _⟩ => ⟨S2112x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c3_i32 : BitVec 32 := 3#32
  let c0_i32 : BitVec 32 := 0#32
  let c0_i32_0 : BitVec 32 := 0#32
  ![c3_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c1_i32 : BitVec 32 := 1#32
  let v1 : BitVec 32 := Scalar.addi v0 c1_i32
  let c16_i32 : BitVec 32 := 16#32
  let v2 : BitVec 32 := Scalar.muli v1 c16_i32
  let c3_i32 : BitVec 32 := 3#32
  let c0_i32 : BitVec 32 := 0#32
  let c0_i32_0 : BitVec 32 := 0#32
  ![c3_i32.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x128 : Shape := ⟨2, ![8448, 128]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x128, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel22.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x6144 : Shape := ⟨2, ![8448, 6144]⟩
abbrev S2112x2048 : Shape := ⟨2, ![2112, 2048]⟩
abbrev S1x512x2048 : Shape := ⟨3, ![1, 512, 2048]⟩
abbrev S1x32x2048 : Shape := ⟨3, ![1, 32, 2048]⟩
abbrev S2112x512 : Shape := ⟨2, ![2112, 512]⟩
abbrev S512x2048 : Shape := ⟨2, ![512, 2048]⟩
abbrev S480x2048 : Shape := ⟨2, ![480, 2048]⟩
abbrev S32x2048 : Shape := ⟨2, ![32, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x6144, .f32⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x32x2048, .f32⟩
  | .local _ .vmem, ⟨5, _⟩ => ⟨S1x32x2048, .f32⟩
  | .local _ .vmem, ⟨6, _⟩ => ⟨S2112x512, .f32⟩
  | .local _ .vmem, ⟨7, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let v1 : BitVec 32 := Scalar.addi v0 c1_i32
  let c16_i32 : BitVec 32 := 16#32
  let v2 : BitVec 32 := Scalar.muli v1 c16_i32
  let c3_i32 : BitVec 32 := 3#32
  let c0_i32 : BitVec 32 := 0#32
  let c0_i32_0 : BitVec 32 := 0#32
  ![c3_i32.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference22Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x6144 : Shape := ⟨2, ![8448, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel23.lean ====
abbrev S8448x2048 : Shape := ⟨2, ![8448, 2048]⟩
abbrev S4x2048x20000 : Shape := ⟨3, ![4, 2048, 20000]⟩
abbrev S4x20000x2048 : Shape := ⟨3, ![4, 20000, 2048]⟩
abbrev S8448x8192 : Shape := ⟨2, ![8448, 8192]⟩
abbrev S2112x2048 : Shape := ⟨2, ![2112, 2048]⟩
abbrev S1x512x2048 : Shape := ⟨3, ![1, 512, 2048]⟩
abbrev S1x32x2048 : Shape := ⟨3, ![1, 32, 2048]⟩
abbrev S2112x512 : Shape := ⟨2, ![2112, 512]⟩
abbrev S512x2048 : Shape := ⟨2, ![512, 2048]⟩
abbrev S480x2048 : Shape := ⟨2, ![480, 2048]⟩
abbrev S32x2048 : Shape := ⟨2, ![32, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S4x20000x2048, .f32⟩
  | .hbm, ⟨3, _⟩ => ⟨S8448x8192, .bf16⟩
  | .local _ .vmem, ⟨0, _⟩ => ⟨S2112x2048, .bf16⟩
  | .local _ .vmem, ⟨1, _⟩ => ⟨S2112x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x32x2048, .f32⟩
  | .local _ .vmem, ⟨5, _⟩ => ⟨S1x32x2048, .f32⟩
  | .local _ .vmem, ⟨6, _⟩ => ⟨S2112x512, .bf16⟩
  | .local _ .vmem, ⟨7, _⟩ => ⟨S2112x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c3_i32 : BitVec 32 := 3#32
  let c0_i32 : BitVec 32 := 0#32
  let c0_i32_0 : BitVec 32 := 0#32
  ![c3_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c1_i32 : BitVec 32 := 1#32
  let v1 : BitVec 32 := Scalar.addi v0 c1_i32
  let c16_i32 : BitVec 32 := 16#32
  let v2 : BitVec 32 := Scalar.muli v1 c16_i32
  let c3_i32 : BitVec 32 := 3#32
  let c0_i32 : BitVec 32 := 0#32
  let c0_i32_0 : BitVec 32 := 0#32
  ![c3_i32.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2112x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference23Ideal.lean ====
abbrev S8448x2048 : Shape := ⟨2, ![8448, 2048]⟩
abbrev S4x2048x20000 : Shape := ⟨3, ![4, 2048, 20000]⟩
abbrev S1x2048x20000 : Shape := ⟨3, ![1, 2048, 20000]⟩
abbrev S2048x20000 : Shape := ⟨2, ![2048, 20000]⟩
abbrev S8448x20000 : Shape := ⟨2, ![8448, 20000]⟩
abbrev S8448x8192 : Shape := ⟨2, ![8448, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x20000, .f32⟩
  | .hbm, ⟨2, _⟩ => ⟨S8448x2048, .f32⟩
  | .hbm, ⟨3, _⟩ => ⟨S1x2048x20000, .f32⟩
  | .hbm, ⟨4, _⟩ => ⟨S2048x20000, .f32⟩
  | .hbm, ⟨5, _⟩ => ⟨S8448x20000, .f32⟩
  | .hbm, ⟨6, _⟩ => ⟨S8448x8192, .f32⟩
  | .hbm, ⟨7, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel24.lean ====
abbrev S8448x2048 : Shape := ⟨2, ![8448, 2048]⟩
abbrev S4x2048x2048 : Shape := ⟨3, ![4, 2048, 2048]⟩
abbrev S2112x2048 : Shape := ⟨2, ![2112, 2048]⟩
abbrev S1x2048x512 : Shape := ⟨3, ![1, 2048, 512]⟩
abbrev S2112x512 : Shape := ⟨2, ![2112, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .f32⟩
  | .hbm, ⟨2, _⟩ => ⟨S8448x2048, .f32⟩
  | .local _ .vmem, ⟨0, _⟩ => ⟨S2112x2048, .bf16⟩
  | .local _ .vmem, ⟨1, _⟩ => ⟨S2112x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2112x512, .f32⟩
  | .local _ .vmem, ⟨5, _⟩ => ⟨S2112x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2112x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S8448x2048 : Shape := ⟨2, ![8448, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .f32⟩
  | .hbm, ⟨2, _⟩ => ⟨S8448x2048, .f32⟩
  | .hbm, ⟨3, _⟩ => ⟨S1x2048x2048, .f32⟩
  | .hbm, ⟨4, _⟩ => ⟨S2048x2048, .f32⟩
  | .hbm, ⟨5, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S8448x1024 : Shape := ⟨2, ![8448, 1024]⟩
abbrev S8192x1024 : Shape := ⟨2, ![8192, 1024]⟩
abbrev S256x1024 : Shape := ⟨2, ![256, 1024]⟩
abbrev S8448x8192 : Shape := ⟨2, ![8448, 8192]⟩
abbrev S4x4x1024x2048 : Shape := ⟨4, ![4, 4, 1024, 2048]⟩
abbrev S8448x2048 : Shape := ⟨2, ![8448, 2048]⟩
abbrev S256x512 : Shape := ⟨2, ![256, 512]⟩
abbrev S1x4x1024x512 : Shape := ⟨4, ![1, 4, 1024, 512]⟩
abbrev S1x1x1024x512 : Shape := ⟨4, ![1, 1, 1024, 512]⟩
abbrev S1024x512 : Shape := ⟨2, ![1024, 512]⟩

abbrev nBuf : Space → Nat
  | .hbm => 8
  | .vmem => 21
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8192x1024, .f32⟩
  | .hbm, ⟨3, _⟩ => ⟨S256x1024, .f32⟩
  | .hbm, ⟨4, _⟩ => ⟨S8448x1024, .bf16⟩
  | .hbm, ⟨5, _⟩ => ⟨S8448x8192, .bf16⟩
  | .hbm, ⟨6, _⟩ => ⟨S4x4x1024x2048, .f32⟩
  | .hbm, ⟨7, _⟩ => ⟨S8448x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x4x1024x512, .f32⟩
  | .local _ .vmem, ⟨18, _⟩ => ⟨S1x4x1024x512, .f32⟩
  | .local _ .vmem, ⟨19, _⟩ => ⟨S256x512, .bf16⟩
  | .local _ .vmem, ⟨20, _⟩ => ⟨S256x512, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference25Ideal.lean ====
abbrev S8448x1024 : Shape := ⟨2, ![8448, 1024]⟩
abbrev S8192x1024 : Shape := ⟨2, ![8192, 1024]⟩
abbrev S256x1024 : Shape := ⟨2, ![256, 1024]⟩
abbrev S8448x8192 : Shape := ⟨2, ![8448, 8192]⟩
abbrev S4x4x1024x2048 : Shape := ⟨4, ![4, 4, 1024, 2048]⟩
abbrev S8448x1x1024 : Shape := ⟨3, ![8448, 1, 1024]⟩
abbrev S8448x4x1024 : Shape := ⟨3, ![8448, 4, 1024]⟩
abbrev S1x4x1024x2048 : Shape := ⟨4, ![1, 4, 1024, 2048]⟩
abbrev S4x1024x2048 : Shape := ⟨3, ![4, 1024, 2048]⟩
abbrev S4x2048x8448 : Shape := ⟨3, ![4, 2048, 8448]⟩
abbrev S8448x4x2048 : Shape := ⟨3, ![8448, 4, 2048]⟩
abbrev S_ : Shape := ⟨0, ![]⟩
abbrev S8448x2048 : Shape := ⟨2, ![8448, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8192x1024, .f32⟩
  | .hbm, ⟨3, _⟩ => ⟨S256x1024, .f32⟩
  | .hbm, ⟨4, _⟩ => ⟨S8448x1024, .bf16⟩
  | .hbm, ⟨5, _⟩ => ⟨S8448x8192, .bf16⟩
  | .hbm, ⟨6, _⟩ => ⟨S4x4x1024x2048, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1x1024, .f32⟩
  | .hbm, ⟨12, _⟩ => ⟨S8448x1x1024, .f32⟩
  | .hbm, ⟨13, _⟩ => ⟨S8448x1x1024, .f32⟩
  | .hbm, ⟨14, _⟩ => ⟨S8448x1x1024, .f32⟩
  | .hbm, ⟨15, _⟩ => ⟨S8448x4x1024, .f32⟩
  | .hbm, ⟨16, _⟩ => ⟨S1x4x1024x2048, .f32⟩
  | .hbm, ⟨17, _⟩ => ⟨S4x1024x2048, .f32⟩
  | .hbm, ⟨18, _⟩ => ⟨S4x2048x8448, .f32⟩
  | .hbm, ⟨19, _⟩ => ⟨S8448x4x2048, .f32⟩
  | .hbm, ⟨20, _⟩ => ⟨S8448x8192, .f32⟩
  | .hbm, ⟨21, _⟩ => ⟨S8448x4x2048, .f32⟩
  | .hbm, ⟨22, _⟩ => ⟨S8448x4x2048, .f32⟩
  | .hbm, ⟨23, _⟩ => ⟨S8448x4x2048, .f32⟩
  | .hbm, ⟨24, _⟩ => ⟨S_, .f32⟩
  | .hbm, ⟨25, _⟩ => ⟨S8448x4x2048, .f32⟩
  | .hbm, ⟨26, _⟩ => ⟨S8448x4x2048, .f32⟩
  | .hbm, ⟨27, _⟩ => ⟨S_, .f32⟩
  | .hbm, ⟨28, _⟩ => ⟨S8448x4x2048, .f32⟩
  | .hbm, ⟨29, _⟩ => ⟨S8448x4x2048, .f32⟩
  | .hbm, ⟨30, _⟩ => ⟨S8448x4x2048, .f32⟩
  | .hbm, ⟨31, _⟩ => ⟨S_, .f32⟩
  | .hbm, ⟨32, _⟩ => ⟨S8448x2048, .f32⟩
  | .hbm, ⟨33, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel26.lean ====
abbrev S8448x6144 : Shape := ⟨2, ![8448, 6144]⟩
abbrev S8x8x64x512 : Shape := ⟨4, ![8, 8, 64, 512]⟩
abbrev S8448x1024 : Shape := ⟨2, ![8448, 1024]⟩
abbrev S256x128 : Shape := ⟨2, ![256, 128]⟩
abbrev S8448x128 : Shape := ⟨2, ![8448, 128]⟩
abbrev S1x8x64x512 : Shape := ⟨4, ![1, 8, 64, 512]⟩
abbrev S256x256 : Shape := ⟨2, ![256, 256]⟩
abbrev S256 : Shape := ⟨1, ![256]⟩
abbrev S256x1 : Shape := ⟨2, ![256, 1]⟩
abbrev S64x128 : Shape := ⟨2, ![64, 128]⟩
abbrev S64x256 : Shape := ⟨2, ![64, 256]⟩
abbrev S512x128 : Shape := ⟨2, ![512, 128]⟩
abbrev S1x1x64x512 : Shape := ⟨4, ![1, 1, 64, 512]⟩
abbrev S64x512 : Shape := ⟨2, ![64, 512]⟩
abbrev S64 : Shape := ⟨1, ![64]⟩
abbrev S64x1 : Shape := ⟨2, ![64, 1]⟩

abbrev nBuf : Space → Nat
  | .hbm => 3
  | .vmem => 10
  | .smem => 0
  | _ => 0

abbrev bufTy : (tb : Table) → Fin (tcTables nBuf tb) → BufTy
  | .hbm, ⟨0, _⟩ => ⟨S8448x6144, .f32⟩
  | .hbm, ⟨1, _⟩ => ⟨S8x8x64x512, .f32⟩
  | .hbm, ⟨2, _⟩ => ⟨S8448x1024, .bf16⟩
  | .local _ .vmem, ⟨0, _⟩ => ⟨S256x128, .f32⟩
  | .local _ .vmem, ⟨1, _⟩ => ⟨S256x128, .f32⟩
  | .local _ .vmem, ⟨2, _⟩ => ⟨S8448x128, .f32⟩
  | .local _ .vmem, ⟨3, _⟩ => ⟨S8448x128, .f32⟩
  | .local _ .vmem, ⟨4, _⟩ => ⟨S8448x128, .f32⟩
  | .local _ .vmem, ⟨5, _⟩ => ⟨S8448x128, .f32⟩
  | .local _ .vmem, ⟨6, _⟩ => ⟨S1x8x64x512, .f32⟩
  | .local _ .vmem, ⟨7, _⟩ => ⟨S1x8x64x512, .f32⟩
  | .local _ .vmem, ⟨8, _⟩ => ⟨S256x128, .bf16⟩
  | .local _ .vmem, ⟨9, _⟩ => ⟨S256x128, .bf16⟩
  | _, _ => ⟨S8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 33], ![false, false]⟩

def k0_cond2 (i : grid0.Coords) : BitVec 1 :=
  let arg1 : BitVec 32 := BitVec.ofNat 32 (i 1).val
  let c32_i32_2 : BitVec 32 := 32#32
  let v7 : BitVec 1 := Scalar.cmpi .slt arg1 c32_i32_2
  let v8 : BitVec 32 := Scalar.extui v7
  let c0_i32_3 : BitVec 32 := 0#32
  let v9 : BitVec 1 := Scalar.cmpi .ne v8 c0_i32_3
  v9

def k0_mult1 (i : grid0.Coords) : BitVec 32 :=
  let c120_i32 : BitVec 32 := 120#32
  let c0_i32_9 : BitVec 32 := 0#32
  let arg1 : BitVec 32 := BitVec.ofNat 32 (i 1).val
  let c4_i32 : BitVec 32 := 4#32
  let v15 : BitVec 32 := Scalar.muli arg1 c4_i32
  let c0_i32_7 : BitVec 32 := 0#32
  let v16 : BitVec 32 := Scalar.addi v15 c0_i32_7
  let c4_i32_8 : BitVec 32 := 4#32
  let v17 : BitVec 32 := Scalar.subi v16 c4_i32_8
  let v18 : BitVec 32 := Scalar.maxsi c0_i32_9 v17
  let v19 : BitVec 32 := Scalar.minsi c120_i32 v18
  let c64_i32 : BitVec 32 := 64#32
  let v20 : BitVec 32 := Scalar.muli v19 c64_i32
  v20
def k0_off1 (i : grid0.Coords) (c0_i32_7 : BitVec 32) : Fin 2 → Nat :=
  let c120_i32 : BitVec 32 := 120#32
  let c0_i32_9 : BitVec 32 := 0#32
  let arg1 : BitVec 32 := BitVec.ofNat 32 (i 1).val
  let c4_i32 : BitVec 32 := 4#32
  let v15 : BitVec 32 := Scalar.muli arg1 c4_i32
  let v16 : BitVec 32 := Scalar.addi v15 c0_i32_7
  let c4_i32_8 : BitVec 32 := 4#32
  let v17 : BitVec 32 := Scalar.subi v16 c4_i32_8
  let v18 : BitVec 32 := Scalar.maxsi c0_i32_9 v17
  let v19 : BitVec 32 := Scalar.minsi c120_i32 v18
  let c64_i32 : BitVec 32 := 64#32
  let v20 : BitVec 32 := Scalar.muli v19 c64_i32
  let v21 : BitVec 32 := v20
  let v24 : Index := Scalar.indexCast v21
  let c0_10 : Index := 0#32
  ![v24.toNat, 0]
def k0_off2 (i : grid0.Coords) (c0_i32_7 : BitVec 32) : Fin 4 → Nat :=
  let c0_12 : Index := 0#32
  let c120_i32 : BitVec 32 := 120#32
  let c0_i32_9 : BitVec 32 := 0#32
  let arg1 : BitVec 32 := BitVec.ofNat 32 (i 1).val
  let c4_i32 : BitVec 32 := 4#32
  let v15 : BitVec 32 := Scalar.muli arg1 c4_i32
  let v16 : BitVec 32 := Scalar.addi v15 c0_i32_7
  let c4_i32_8 : BitVec 32 := 4#32
  let v17 : BitVec 32 := Scalar.subi v16 c4_i32_8
  let v18 : BitVec 32 := Scalar.maxsi c0_i32_9 v17
  let v19 : BitVec 32 := Scalar.minsi c120_i32 v18
  let v30 : BitVec 32 := Scalar.subi v19 v16
  let c7_i32 : BitVec 32 := 7#32
  let v31 : BitVec 32 := Scalar.addi v30 c7_i32
  let v32 : Index := Scalar.indexCast v31
  let c0_13 : Index := 0#32
  let c0_14 : Index := 0#32
  ![0, v32.toNat, 0, 0]
def k0_mult2 (i : grid0.Coords) : BitVec 32 :=
  let c120_i32_18 : BitVec 32 := 120#32
  let c0_i32_17 : BitVec 32 := 0#32
  let arg1 : BitVec 32 := BitVec.ofNat 32 (i 1).val
  let c4_i32_15 : BitVec 32 := 4#32
  let v35 : BitVec 32 := Scalar.muli arg1 c4_i32_15
  let c1_i32 : BitVec 32 := 1#32
  let v36 : BitVec 32 := Scalar.addi v35 c1_i32
  let c4_i32_16 : BitVec 32 := 4#32
  let v37 : BitVec 32 := Scalar.subi v36 c4_i32_16
  let v38 : BitVec 32 := Scalar.maxsi c0_i32_17 v37
  let v39 : BitVec 32 := Scalar.minsi c120_i32_18 v38
  let c64_i32_19 : BitVec 32 := 64#32
  let v40 : BitVec 32 := Scalar.muli v39 c64_i32_19
  v40
def k0_mult3 (i : grid0.Coords) : BitVec 32 :=
  let c120_i32_29 : BitVec 32 := 120#32
  let c0_i32_28 : BitVec 32 := 0#32
  let arg1 : BitVec 32 := BitVec.ofNat 32 (i 1).val
  let c4_i32_26 : BitVec 32 := 4#32
  let v55 : BitVec 32 := Scalar.muli arg1 c4_i32_26
  let c2_i32 : BitVec 32 := 2#32
  let v56 : BitVec 32 := Scalar.addi v55 c2_i32
  let c4_i32_27 : BitVec 32 := 4#32
  let v57 : BitVec 32 := Scalar.subi v56 c4_i32_27
  let v58 : BitVec 32 := Scalar.maxsi c0_i32_28 v57
  let v59 : BitVec 32 := Scalar.minsi c120_i32_29 v58
  let c64_i32_30 : BitVec 32 := 64#32
  let v60 : BitVec 32 := Scalar.muli v59 c64_i32_30
  v60
def k0_mult4 (i : grid0.Coords) : BitVec 32 :=
  let c120_i32_40 : BitVec 32 := 120#32
  let c0_i32_39 : BitVec 32 := 0#32
  let arg1 : BitVec 32 := BitVec.ofNat 32 (i 1).val
  let c4_i32_37 : BitVec 32 := 4#32
  let v75 : BitVec 32 := Scalar.muli arg1 c4_i32_37
  let c3_i32 : BitVec 32 := 3#32
  let v76 : BitVec 32 := Scalar.addi v75 c3_i32
  let c4_i32_38 : BitVec 32 := 4#32
  let v77 : BitVec 32 := Scalar.subi v76 c4_i32_38
  let v78 : BitVec 32 := Scalar.maxsi c0_i32_39 v77
  let v79 : BitVec 32 := Scalar.minsi c120_i32_40 v78
  let c64_i32_41 : BitVec 32 := 64#32
  let v80 : BitVec 32 := Scalar.muli v79 c64_i32_41
  v80
def k0_cond1 (i : grid0.Coords) : BitVec 1 :=
  let arg1 : BitVec 32 := BitVec.ofNat 32 (i 1).val
  let c32_i32 : BitVec 32 := 32#32
  let v4 : BitVec 1 := Scalar.cmpi .eq arg1 c32_i32
  let v5 : BitVec 32 := Scalar.extui v4
  let c0_i32 : BitVec 32 := 0#32
  let v6 : BitVec 1 := Scalar.cmpi .ne v5 c0_i32
  v6

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference26Ideal.lean ====
abbrev S8448x6144 : Shape := ⟨2, ![8448, 6144]⟩
abbrev S8x8x64x512 : Shape := ⟨4, ![8, 8, 64, 512]⟩
abbrev S8448x1024 : Shape := ⟨2, ![8448, 1024]⟩
abbrev S8448x8x128 : Shape := ⟨3, ![8448, 8, 128]⟩
abbrev S256x8x128 : Shape := ⟨3, ![256, 8, 128]⟩
abbrev S8192x8x128 : Shape := ⟨3, ![8192, 8, 128]⟩
abbrev S128x64x8x128 : Shape := ⟨4, ![128, 64, 8, 128]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S128x8x64x8x128 : Shape := ⟨5, ![128, 8, 64, 8, 128]⟩
abbrev S8x128x64x512 : Shape := ⟨4, ![8, 128, 64, 512]⟩
abbrev S128x8x64x512 : Shape := ⟨4, ![128, 8, 64, 512]⟩
abbrev S128x8x64x8x64 : Shape := ⟨5, ![128, 8, 64, 8, 64]⟩
abbrev S8x256x128x64 : Shape := ⟨4, ![8, 256, 128, 64]⟩
abbrev S128x8x64x256 : Shape := ⟨4, ![128, 8, 64, 256]⟩
abbrev S128x8x64x768 : Shape := ⟨4, ![128, 8, 64, 768]⟩
abbrev S128x8x64 : Shape := ⟨3, ![128, 8, 64]⟩
abbrev S128x8x64x1 : Shape := ⟨4, ![128, 8, 64, 1]⟩
abbrev S8x128x128x64 : Shape := ⟨4, ![8, 128, 128, 64]⟩
abbrev S128x8x128x64 : Shape := ⟨4, ![128, 8, 128, 64]⟩
abbrev S8192x1024 : Shape := ⟨2, ![8192, 1024]⟩
abbrev S8x256x256 : Shape := ⟨3, ![8, 256, 256]⟩
abbrev S8x256 : Shape := ⟨2, ![8, 256]⟩
abbrev S8x256x1 : Shape := ⟨3, ![8, 256, 1]⟩
abbrev S8x128x256 : Shape := ⟨3, ![8, 128, 256]⟩
abbrev S256x1024 : Shape := ⟨2, ![256, 1024]⟩

abbrev nBuf : Space → Nat
  | .hbm => 125
  | .vmem => 0
  | .smem => 0
  | _ => 0

abbrev bufTy : (tb : Table) → Fin (tcTables nBuf tb) → BufTy
  | .hbm, ⟨0, _⟩ => ⟨S8448x6144, .f32⟩
  | .hbm, ⟨1, _⟩ => ⟨S8x8x64x512, .f32⟩
  | .hbm, ⟨2, _⟩ => ⟨S8448x1024, .f32⟩
  | .hbm, ⟨3, _⟩ => ⟨S8448x8x128, .f32⟩
  | .hbm, ⟨4, _⟩ => ⟨S8448x1024, .f32⟩
  | .hbm, ⟨5, _⟩ => ⟨S8448x8x128, .f32⟩
  | .hbm, ⟨6, _⟩ => ⟨S8448x1024, .f32⟩
  | .hbm, ⟨7, _⟩ => ⟨S8448x8x128, .f32⟩
  | .hbm, ⟨8, _⟩ => ⟨S256x8x128, .f32⟩
  | .hbm, ⟨9, _⟩ => ⟨S256x8x128, .f32⟩
  | .hbm, ⟨10, _⟩ => ⟨S8192x8x128, .f32⟩
  | .hbm, ⟨11, _⟩ => ⟨S128x64x8x128, .f32⟩
  | .hbm, ⟨12, _⟩ => ⟨S8192x8x128, .f32⟩
  | .hbm, ⟨13, _⟩ => ⟨S128x64x8x128, .f32⟩
  | .hbm, ⟨14, _⟩ => ⟨S8192x8x128, .f32⟩
  | .hbm, ⟨15, _⟩ => ⟨S128x64x8x128, .f32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S8, .i32⟩
  | .hbm, ⟨30, _⟩ => ⟨S1x8, .i32⟩
  | .hbm, ⟨31, _⟩ => ⟨S128x8, .i32⟩
  | .hbm, ⟨32, _⟩ => ⟨S128x8, .i32⟩
  | .hbm, ⟨33, _⟩ => ⟨S128x8, .i32⟩
  | .hbm, ⟨34, _⟩ => ⟨S_, .i32⟩
  | .hbm, ⟨35, _⟩ => ⟨S128x8, .i32⟩
  | .hbm, ⟨36, _⟩ => ⟨S128x8, .i1⟩
  | .hbm, ⟨37, _⟩ => ⟨S_, .i32⟩
  | .hbm, ⟨38, _⟩ => ⟨S128x8, .i32⟩
  | .hbm, ⟨39, _⟩ => ⟨S128x8, .i32⟩
  | .hbm, ⟨40, _⟩ => ⟨S128x8, .i32⟩
  | .hbm, ⟨41, _⟩ => ⟨S128x8x1, .i32⟩
  | .hbm, ⟨42, _⟩ => ⟨S128x8x64x8x128, .f32⟩
  | .hbm, ⟨43, _⟩ => ⟨S_, .i32⟩
  | .hbm, ⟨44, _⟩ => ⟨S128x8, .i32⟩
  | .hbm, ⟨45, _⟩ => ⟨S128x8, .i1⟩
  | .hbm, ⟨46, _⟩ => ⟨S_, .i32⟩
  | .hbm, ⟨47, _⟩ => ⟨S128x8, .i32⟩
  | .hbm, ⟨48, _⟩ => ⟨S128x8, .i32⟩
  | .hbm, ⟨49, _⟩ => ⟨S128x8, .i32⟩
  | .hbm, ⟨50, _⟩ => ⟨S128x8x1, .i32⟩
  | .hbm, ⟨51, _⟩ => ⟨S128x8x64x8x128, .f32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S128x1, .i32⟩
  | .hbm, ⟨64, _⟩ => ⟨S8x128x64x512, .f32⟩
  | .hbm, ⟨65, _⟩ => ⟨S128x8x64x512, .f32⟩
  | .hbm, ⟨66, _⟩ => ⟨S128x8x64x8x64, .f32⟩
  | .hbm, ⟨67, _⟩ => ⟨S128x8x64x512, .f32⟩
  | .hbm, ⟨68, _⟩ => ⟨S_, .f32⟩
  | .hbm, ⟨69, _⟩ => ⟨S128x8x64x512, .f32⟩
  | .hbm, ⟨70, _⟩ => ⟨S128x8x64x512, .f32⟩
  | .hbm, ⟨71, _⟩ => ⟨S128x8x64x512, .f32⟩
  | .hbm, ⟨72, _⟩ => ⟨S8x256x128x64, .f32⟩
  | .hbm, ⟨73, _⟩ => ⟨S128x8x64x256, .f32⟩
  | .hbm, ⟨74, _⟩ => ⟨S_, .f32⟩
  | .hbm, ⟨75, _⟩ => ⟨S128x8x64x256, .f32⟩
  | .hbm, ⟨76, _⟩ => ⟨S128x8x64x256, .f32⟩
  | .hbm, ⟨77, _⟩ => ⟨S128x8x64x768, .f32⟩
  | .hbm, ⟨78, _⟩ => ⟨S_, .f32⟩
  | .hbm, ⟨79, _⟩ => ⟨S128x8x64, .f32⟩
  | .hbm, ⟨80, _⟩ => ⟨S_, .f32⟩
  | .hbm, ⟨81, _⟩ => ⟨S128x8x64, .f32⟩
  | .hbm, ⟨82, _⟩ => ⟨S128x8x64, .f32⟩
  | .hbm, ⟨83, _⟩ => ⟨S128x8x64x1, .f32⟩
  | .hbm, ⟨84, _⟩ => ⟨S128x8x64x768, .f32⟩
  | .hbm, ⟨85, _⟩ => ⟨S128x8x64x768, .f32⟩
  | .hbm, ⟨86, _⟩ => ⟨S128x8x64x768, .f32⟩
  | .hbm, ⟨87, _⟩ => ⟨S_, .f32⟩
  | .hbm, ⟨88, _⟩ => ⟨S128x8x64, .f32⟩
  | .hbm, ⟨89, _⟩ => ⟨S128x8x64x1, .f32⟩
  | .hbm, ⟨90, _⟩ => ⟨S128x8x64x768, .f32⟩
  | .hbm, ⟨91, _⟩ => ⟨S128x8x64x768, .f32⟩
  | .hbm, ⟨92, _⟩ => ⟨S128x8x64x512, .f32⟩
  | .hbm, ⟨93, _⟩ => ⟨S128x8x64x8x64, .f32⟩
  | .hbm, ⟨94, _⟩ => ⟨S128x8x64x256, .f32⟩
  | .hbm, ⟨95, _⟩ => ⟨S8x128x128x64, .f32⟩
  | .hbm, ⟨96, _⟩ => ⟨S128x64x8x128, .f32⟩
  | .hbm, ⟨97, _⟩ => ⟨S128x8x128x64, .f32⟩
  | .hbm, ⟨98, _⟩ => ⟨S128x64x8x128, .f32⟩
  | .hbm, ⟨99, _⟩ => ⟨S128x64x8x128, .f32⟩
  | .hbm, ⟨100, _⟩ => ⟨S8192x1024, .f32⟩
  | .hbm, ⟨101, _⟩ => ⟨S256x8x128, .f32⟩
  | .hbm, ⟨102, _⟩ => ⟨S8x256x256, .f32⟩
  | .hbm, ⟨103, _⟩ => ⟨S_, .f32⟩
  | .hbm, ⟨104, _⟩ => ⟨S8x256x256, .f32⟩
  | .hbm, ⟨105, _⟩ => ⟨S8x256x256, .f32⟩
  | .hbm, ⟨106, _⟩ => ⟨S_, .f32⟩
  | .hbm, ⟨107, _⟩ => ⟨S8x256, .f32⟩
  | .hbm, ⟨108, _⟩ => ⟨S_, .f32⟩
  | .hbm, ⟨109, _⟩ => ⟨S8x256, .f32⟩
  | .hbm, ⟨110, _⟩ => ⟨S8x256, .f32⟩
  | .hbm, ⟨111, _⟩ => ⟨S8x256x1, .f32⟩
  | .hbm, ⟨112, _⟩ => ⟨S8x256x256, .f32⟩
  | .hbm, ⟨113, _⟩ => ⟨S8x256x256, .f32⟩
  | .hbm, ⟨114, _⟩ => ⟨S8x256x256, .f32⟩
  | .hbm, ⟨115, _⟩ => ⟨S_, .f32⟩
  | .hbm, ⟨116, _⟩ => ⟨S8x256, .f32⟩
  | .hbm, ⟨117, _⟩ => ⟨S8x256x1, .f32⟩
  | .hbm, ⟨118, _⟩ => ⟨S8x256x256, .f32⟩
  | .hbm, ⟨119, _⟩ => ⟨S8x256x256, .f32⟩
  | .hbm, ⟨120, _⟩ => ⟨S8x128x256, .f32⟩
  | .hbm, ⟨121, _⟩ => ⟨S256x8x128, .f32⟩
  | .hbm, ⟨122, _⟩ => ⟨S256x1024, .f32⟩
  | .hbm, ⟨123, _⟩ => ⟨S8448x1024, .f32⟩
  | .hbm, ⟨124, _⟩ => ⟨S8448x1024, .bf16⟩
  | _, _ => ⟨S8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_cst_14 : Ref sig .tc := ⟨.hbm, 106, rfl⟩
abbrev main_v83 : Ref sig .tc := ⟨.hbm, 107, rfl⟩
abbrev main_cst_15 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_16 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩

abbrev nD : Nat := 1
abbrev τ : Topo := Topo.v7x

variable {F : FTy → Type} [FloatOps F]
-- ==== Kernel27.lean ====
abbrev S8448x2048 : Shape := ⟨2, ![8448, 2048]⟩
abbrev S8x12288 : Shape := ⟨2, ![8, 12288]⟩
abbrev S256x2048 : Shape := ⟨2, ![256, 2048]⟩
abbrev S8x2048 : Shape := ⟨2, ![8, 2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S8x12288, .f32⟩
  | .hbm, ⟨2, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S256x2048, .bf16⟩
  | .local _ .vmem, ⟨5, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S8448x2048 : Shape := ⟨2, ![8448, 2048]⟩
abbrev S8x12288 : Shape := ⟨2, ![8, 12288]⟩
abbrev S1x12288 : Shape := ⟨2, ![1, 12288]⟩
abbrev S1x2048 : Shape := ⟨2, ![1, 2048]⟩
abbrev S8192x2048 : Shape := ⟨2, ![8192, 2048]⟩
abbrev S_ : Shape := ⟨0, ![]⟩
abbrev S256x2048 : Shape := ⟨2, ![256, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8x12288, .f32⟩
  | .hbm, ⟨2, _⟩ => ⟨S1x12288, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x12288, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S8192x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S256x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S8448x2048, .f32⟩
  | .hbm, ⟨33, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel28.lean ====
abbrev S8448x2048 : Shape := ⟨2, ![8448, 2048]⟩
abbrev S8x12288 : Shape := ⟨2, ![8, 12288]⟩
abbrev S2048 : Shape := ⟨1, ![2048]⟩
abbrev S2048x16 : Shape := ⟨2, ![2048, 16]⟩
abbrev S1x2048 : Shape := ⟨2, ![1, 2048]⟩
abbrev S16x2048 : Shape := ⟨2, ![16, 2048]⟩
abbrev S16x8448 : Shape := ⟨2, ![16, 8448]⟩
abbrev S256x2048 : Shape := ⟨2, ![256, 2048]⟩
abbrev S8x2048 : Shape := ⟨2, ![8, 2048]⟩
abbrev S16x256 : Shape := ⟨2, ![16, 256]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8x12288, .f32⟩
  | .hbm, ⟨3, _⟩ => ⟨S2048, .f32⟩
  | .hbm, ⟨4, _⟩ => ⟨S2048, .f32⟩
  | .hbm, ⟨5, _⟩ => ⟨S2048x16, .f32⟩
  | .hbm, ⟨6, _⟩ => ⟨S1x2048, .f32⟩
  | .hbm, ⟨7, _⟩ => ⟨S1x2048, .f32⟩
  | .hbm, ⟨8, _⟩ => ⟨S16x2048, .f32⟩
  | .hbm, ⟨9, _⟩ => ⟨S8448x2048, .f32⟩
  | .hbm, ⟨10, _⟩ => ⟨S8448x2048, .f32⟩
  | .hbm, ⟨11, _⟩ => ⟨S16x8448, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x2048, .f32⟩
  | .local _ .vmem, ⟨5, _⟩ => ⟨S1x2048, .f32⟩
  | .local _ .vmem, ⟨6, _⟩ => ⟨S1x2048, .f32⟩
  | .local _ .vmem, ⟨7, _⟩ => ⟨S8x2048, .f32⟩
  | .local _ .vmem, ⟨8, _⟩ => ⟨S8x2048, .f32⟩
  | .local _ .vmem, ⟨9, _⟩ => ⟨S16x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S16x256, .f32⟩
  | .local _ .vmem, ⟨15, _⟩ => ⟨S16x256, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference28Ideal.lean ====
abbrev S8448x2048 : Shape := ⟨2, ![8448, 2048]⟩
abbrev S8x12288 : Shape := ⟨2, ![8, 12288]⟩
abbrev S2048 : Shape := ⟨1, ![2048]⟩
abbrev S2048x16 : Shape := ⟨2, ![2048, 16]⟩
abbrev S1x12288 : Shape := ⟨2, ![1, 12288]⟩
abbrev S1x2048 : Shape := ⟨2, ![1, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S256x2048 : Shape := ⟨2, ![256, 2048]⟩
abbrev S256 : Shape := ⟨1, ![256]⟩
abbrev S256x1 : Shape := ⟨2, ![256, 1]⟩
abbrev S8192x16 : Shape := ⟨2, ![8192, 16]⟩
abbrev S256x16 : Shape := ⟨2, ![256, 16]⟩
abbrev S8448x16 : Shape := ⟨2, ![8448, 16]⟩
abbrev S16x8448 : Shape := ⟨2, ![16, 8448]⟩

abbrev nBuf : Space → Nat
  | .hbm => 114
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8x12288, .f32⟩
  | .hbm, ⟨3, _⟩ => ⟨S2048, .f32⟩
  | .hbm, ⟨4, _⟩ => ⟨S2048, .f32⟩
  | .hbm, ⟨5, _⟩ => ⟨S2048x16, .f32⟩
  | .hbm, ⟨6, _⟩ => ⟨S1x12288, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x12288, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S256x2048, .f32⟩
  | .hbm, ⟨58, _⟩ => ⟨S_, .f32⟩
  | .hbm, ⟨59, _⟩ => ⟨S256x2048, .f32⟩
  | .hbm, ⟨60, _⟩ => ⟨S256x2048, .f32⟩
  | .hbm, ⟨61, _⟩ => ⟨S256x2048, .f32⟩
  | .hbm, ⟨62, _⟩ => ⟨S256x2048, .f32⟩
  | .hbm, ⟨63, _⟩ => ⟨S256x2048, .f32⟩
  | .hbm, ⟨64, _⟩ => ⟨S256x2048, .f32⟩
  | .hbm, ⟨65, _⟩ => ⟨S_, .f32⟩
  | .hbm, ⟨66, _⟩ => ⟨S256, .f32⟩
  | .hbm, ⟨67, _⟩ => ⟨S256x1, .f32⟩
  | .hbm, ⟨68, _⟩ => ⟨S_, .f32⟩
  | .hbm, ⟨69, _⟩ => ⟨S256x1, .f32⟩
  | .hbm, ⟨70, _⟩ => ⟨S256x1, .f32⟩
  | .hbm, ⟨71, _⟩ => ⟨S256x2048, .f32⟩
  | .hbm, ⟨72, _⟩ => ⟨S256x2048, .f32⟩
  | .hbm, ⟨73, _⟩ => ⟨S256x2048, .f32⟩
  | .hbm, ⟨74, _⟩ => ⟨S_, .f32⟩
  | .hbm, ⟨75, _⟩ => ⟨S256, .f32⟩
  | .hbm, ⟨76, _⟩ => ⟨S256x1, .f32⟩
  | .hbm, ⟨77, _⟩ => ⟨S_, .f32⟩
  | .hbm, ⟨78, _⟩ => ⟨S256x1, .f32⟩
  | .hbm, ⟨79, _⟩ => ⟨S256x1, .f32⟩
  | .hbm, ⟨80, _⟩ => ⟨S256x2048, .f32⟩
  | .hbm, ⟨81, _⟩ => ⟨S256x2048, .f32⟩
  | .hbm, ⟨82, _⟩ => ⟨S_, .f32⟩
  | .hbm, ⟨83, _⟩ => ⟨S256x1, .f32⟩
  | .hbm, ⟨84, _⟩ => ⟨S256x1, .f32⟩
  | .hbm, ⟨85, _⟩ => ⟨S256x1, .f32⟩
  | .hbm, ⟨86, _⟩ => ⟨S256x2048, .f32⟩
  | .hbm, ⟨87, _⟩ => ⟨S256x2048, .f32⟩
  | .hbm, ⟨88, _⟩ => ⟨S1x2048, .f32⟩
  | .hbm, ⟨89, _⟩ => ⟨S256x2048, .f32⟩
  | .hbm, ⟨90, _⟩ => ⟨S256x2048, .f32⟩
  | .hbm, ⟨91, _⟩ => ⟨S1x2048, .f32⟩
  | .hbm, ⟨92, _⟩ => ⟨S256x2048, .f32⟩
  | .hbm, ⟨93, _⟩ => ⟨S256x2048, .f32⟩
  | .hbm, ⟨94, _⟩ => ⟨S_, .f32⟩
  | .hbm, ⟨95, _⟩ => ⟨S1x2048, .f32⟩
  | .hbm, ⟨96, _⟩ => ⟨S1x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S8192x2048, .f32⟩
  | .hbm, ⟨101, _⟩ => ⟨S_, .f32⟩
  | .hbm, ⟨102, _⟩ => ⟨S1x2048, .f32⟩
  | .hbm, ⟨103, _⟩ => ⟨S1x2048, .f32⟩
  | .hbm, ⟨104, _⟩ => ⟨S256x2048, .f32⟩
  | .hbm, ⟨105, _⟩ => ⟨S256x2048, .f32⟩
  | .hbm, ⟨106, _⟩ => ⟨S256x2048, .f32⟩
  | .hbm, ⟨107, _⟩ => ⟨S256x2048, .f32⟩
  | .hbm, ⟨108, _⟩ => ⟨S8192x16, .f32⟩
  | .hbm, ⟨109, _⟩ => ⟨S256x16, .f32⟩
  | .hbm, ⟨110, _⟩ => ⟨S8448x16, .f32⟩
  | .hbm, ⟨111, _⟩ => ⟨S8448x2048, .f32⟩
  | .hbm, ⟨112, _⟩ => ⟨S8448x2048, .f32⟩
  | .hbm, ⟨113, _⟩ => ⟨S16x8448, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_11 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩

abbrev nD : Nat := 1
abbrev τ : Topo := Topo.v7x

variable {F : FTy → Type} [FloatOps F]
-- ==== Kernel29.lean ====
abbrev S1x2048 : Shape := ⟨2, ![1, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S2048x128 : Shape := ⟨2, ![2048, 128]⟩
abbrev S1 : Shape := ⟨1, ![1]⟩
abbrev S4x1x12288 : Shape := ⟨3, ![4, 1, 12288]⟩
abbrev S4x8x12288 : Shape := ⟨3, ![4, 8, 12288]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S2048x1 : Shape := ⟨2, ![2048, 1]⟩
abbrev S512 : Shape := ⟨1, ![512]⟩
abbrev S1x512 : Shape := ⟨2, ![1, 512]⟩
abbrev S6x512 : Shape := ⟨2, ![6, 512]⟩
abbrev S8x512 : Shape := ⟨2, ![8, 512]⟩

abbrev nBuf : Space → Nat
  | .hbm => 15
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S_, .f32⟩
  | .hbm, ⟨5, _⟩ => ⟨S2048x128, .f32⟩
  | .hbm, ⟨6, _⟩ => ⟨S2048, .f32⟩
  | .hbm, ⟨7, _⟩ => ⟨S_, .i32⟩
  | .hbm, ⟨8, _⟩ => ⟨S1, .i32⟩
  | .hbm, ⟨9, _⟩ => ⟨S2048x128, .f32⟩
  | .hbm, ⟨10, _⟩ => ⟨S_, .i32⟩
  | .hbm, ⟨11, _⟩ => ⟨S1, .i32⟩
  | .hbm, ⟨12, _⟩ => ⟨S2048x128, .f32⟩
  | .hbm, ⟨13, _⟩ => ⟨S4x1x12288, .f32⟩
  | .hbm, ⟨14, _⟩ => ⟨S4x8x12288, .f32⟩
  | .local _ .vmem, ⟨0, _⟩ => ⟨S2048x128, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference29Ideal.lean ====
abbrev S1x2048 : Shape := ⟨2, ![1, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S6x12288 : Shape := ⟨2, ![6, 12288]⟩
abbrev S8x12288 : Shape := ⟨2, ![8, 12288]⟩
abbrev S1x8x12288 : Shape := ⟨3, ![1, 8, 12288]⟩
abbrev S4x8x12288 : Shape := ⟨3, ![4, 8, 12288]⟩

abbrev nBuf : Space → Nat
  | .hbm => 95
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048x12288, .f32⟩
  | .hbm, ⟨23, _⟩ => ⟨S2048x12288, .f32⟩
  | .hbm, ⟨24, _⟩ => ⟨S1x12288, .f32⟩
  | .hbm, ⟨25, _⟩ => ⟨S1x12288, .f32⟩
  | .hbm, ⟨26, _⟩ => ⟨S12288, .f32⟩
  | .hbm, ⟨27, _⟩ => ⟨S1x12288, .f32⟩
  | .hbm, ⟨28, _⟩ => ⟨S1x12288, .f32⟩
  | .hbm, ⟨29, _⟩ => ⟨S1x2048x12288, .f32⟩
  | .hbm, ⟨30, _⟩ => ⟨S2048x12288, .f32⟩
  | .hbm, ⟨31, _⟩ => ⟨S12288, .f32⟩
  | .hbm, ⟨32, _⟩ => ⟨S1x12288, .f32⟩
  | .hbm, ⟨33, _⟩ => ⟨S12288, .f32⟩
  | .hbm, ⟨34, _⟩ => ⟨S12288, .f32⟩
  | .hbm, ⟨35, _⟩ => ⟨S1x12288, .f32⟩
  | .hbm, ⟨36, _⟩ => ⟨S_, .f32⟩
  | .hbm, ⟨37, _⟩ => ⟨S6x12288, .f32⟩
  | .hbm, ⟨38, _⟩ => ⟨S8x12288, .f32⟩
  | .hbm, ⟨39, _⟩ => ⟨S1x2048x12288, .f32⟩
  | .hbm, ⟨40, _⟩ => ⟨S2048x12288, .f32⟩
  | .hbm, ⟨41, _⟩ => ⟨S1x12288, .f32⟩
  | .hbm, ⟨42, _⟩ => ⟨S1x12288, .f32⟩
  | .hbm, ⟨43, _⟩ => ⟨S12288, .f32⟩
  | .hbm, ⟨44, _⟩ => ⟨S1x12288, .f32⟩
  | .hbm, ⟨45, _⟩ => ⟨S1x12288, .f32⟩
  | .hbm, ⟨46, _⟩ => ⟨S1x2048x12288, .f32⟩
  | .hbm, ⟨47, _⟩ => ⟨S2048x12288, .f32⟩
  | .hbm, ⟨48, _⟩ => ⟨S12288, .f32⟩
  | .hbm, ⟨49, _⟩ => ⟨S1x12288, .f32⟩
  | .hbm, ⟨50, _⟩ => ⟨S12288, .f32⟩
  | .hbm, ⟨51, _⟩ => ⟨S12288, .f32⟩
  | .hbm, ⟨52, _⟩ => ⟨S1x12288, .f32⟩
  | .hbm, ⟨53, _⟩ => ⟨S_, .f32⟩
  | .hbm, ⟨54, _⟩ => ⟨S6x12288, .f32⟩
  | .hbm, ⟨55, _⟩ => ⟨S8x12288, .f32⟩
  | .hbm, ⟨56, _⟩ => ⟨S1x2048x12288, .f32⟩
  | .hbm, ⟨57, _⟩ => ⟨S2048x12288, .f32⟩
  | .hbm, ⟨58, _⟩ => ⟨S1x12288, .f32⟩
  | .hbm, ⟨59, _⟩ => ⟨S1x12288, .f32⟩
  | .hbm, ⟨60, _⟩ => ⟨S12288, .f32⟩
  | .hbm, ⟨61, _⟩ => ⟨S1x12288, .f32⟩
  | .hbm, ⟨62, _⟩ => ⟨S1x12288, .f32⟩
  | .hbm, ⟨63, _⟩ => ⟨S1x2048x12288, .f32⟩
  | .hbm, ⟨64, _⟩ => ⟨S2048x12288, .f32⟩
  | .hbm, ⟨65, _⟩ => ⟨S12288, .f32⟩
  | .hbm, ⟨66, _⟩ => ⟨S1x12288, .f32⟩
  | .hbm, ⟨67, _⟩ => ⟨S12288, .f32⟩
  | .hbm, ⟨68, _⟩ => ⟨S12288, .f32⟩
  | .hbm, ⟨69, _⟩ => ⟨S1x12288, .f32⟩
  | .hbm, ⟨70, _⟩ => ⟨S_, .f32⟩
  | .hbm, ⟨71, _⟩ => ⟨S6x12288, .f32⟩
  | .hbm, ⟨72, _⟩ => ⟨S8x12288, .f32⟩
  | .hbm, ⟨73, _⟩ => ⟨S1x2048x12288, .f32⟩
  | .hbm, ⟨74, _⟩ => ⟨S2048x12288, .f32⟩
  | .hbm, ⟨75, _⟩ => ⟨S1x12288, .f32⟩
  | .hbm, ⟨76, _⟩ => ⟨S1x12288, .f32⟩
  | .hbm, ⟨77, _⟩ => ⟨S12288, .f32⟩
  | .hbm, ⟨78, _⟩ => ⟨S1x12288, .f32⟩
  | .hbm, ⟨79, _⟩ => ⟨S1x12288, .f32⟩
  | .hbm, ⟨80, _⟩ => ⟨S1x2048x12288, .f32⟩
  | .hbm, ⟨81, _⟩ => ⟨S2048x12288, .f32⟩
  | .hbm, ⟨82, _⟩ => ⟨S12288, .f32⟩
  | .hbm, ⟨83, _⟩ => ⟨S1x12288, .f32⟩
  | .hbm, ⟨84, _⟩ => ⟨S12288, .f32⟩
  | .hbm, ⟨85, _⟩ => ⟨S12288, .f32⟩
  | .hbm, ⟨86, _⟩ => ⟨S1x12288, .f32⟩
  | .hbm, ⟨87, _⟩ => ⟨S_, .f32⟩
  | .hbm, ⟨88, _⟩ => ⟨S6x12288, .f32⟩
  | .hbm, ⟨89, _⟩ => ⟨S8x12288, .f32⟩
  | .hbm, ⟨90, _⟩ => ⟨S1x8x12288, .f32⟩
  | .hbm, ⟨91, _⟩ => ⟨S1x8x12288, .f32⟩
  | .hbm, ⟨92, _⟩ => ⟨S1x8x12288, .f32⟩
  | .hbm, ⟨93, _⟩ => ⟨S1x8x12288, .f32⟩
  | .hbm, ⟨94, _⟩ => ⟨S4x8x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_1 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_2 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Proof.Attn.Spec.lean ====
/- The mathematics of the windowed attention with sink logits over the extended reals, apart from both programs: scores,
   the keys a query row sees, their softmax with the sink, and the laws that take the division by the softmax's
   denominator in and out of the weighted sum of the values. -/
module

public import Idealize.ShloMosaic.PureOps.Ideal
public import Idealize.ShloMosaic.Lib.Pointwise

@[expose] public section

noncomputable section

namespace Cert.Attn

open Idealize.ShloMosaic

/-! ## Sums and maxima over a window of keys -/

/-- A sum over window positions, those off the mask contributing 0, is the sum over the set of keys the masked positions
    stand for. -/
theorem sum_window {n : ℕ} (P : Fin n → Prop) [DecidablePred P] (row : Fin n → ℕ) (W : Finset ℕ) (φ : ℕ → EReal)
    (u : Fin n → EReal) (hinj : ∀ a b, P a → P b → row a = row b → a = b) (hW : ∀ j, j ∈ W ↔ ∃ k, P k ∧ row k = j)
    (hu : ∀ k, u k = if P k then φ (row k) else 0) : ∑ k, u k = ∑ j ∈ W, φ j := by
  have hWe : W = (Finset.univ.filter P).image row := by
    ext j; rw [hW]; simp
  rw [hWe, Finset.sum_image (fun a ha b hb h => hinj a b (by simpa using ha) (by simpa using hb) h), Finset.sum_filter]
  exact Finset.sum_congr rfl fun k _ => hu k

/-- The maximum over window positions, those off the mask at −∞, is the maximum over the same set of keys. -/
theorem sup_window {n : ℕ} (P : Fin n → Prop) [DecidablePred P] (row : Fin n → ℕ) (W : Finset ℕ) (φ : ℕ → EReal)
    (u : Fin n → EReal) (hW : ∀ j, j ∈ W ↔ ∃ k, P k ∧ row k = j)
    (hu : ∀ k, u k = if P k then φ (row k) else ⊥) : Finset.univ.sup u = W.sup φ := by
  apply le_antisymm
  · refine Finset.sup_le fun k _ => ?_
    rw [hu]
    split
    · exact Finset.le_sup (f := φ) ((hW _).2 ⟨k, ‹_›, rfl⟩)
    · exact bot_le
  · refine Finset.sup_le fun j hj => ?_
    obtain ⟨k, hk, rfl⟩ := (hW j).1 hj
    have := Finset.le_sup (f := u) (Finset.mem_univ k)
    rwa [hu, if_pos hk] at this

/-- A left fold of the maximum from −∞ over all positions is their supremum. -/
theorem fold_max {n : ℕ} (u : Fin n → EReal) : Finset.univ.fold max ⊥ u = Finset.univ.sup u := rfl

/-- The maximum over `a + b` positions is the larger of the maxima over the first `a` and the last `b`. -/
theorem sup_append {n a b : ℕ} (h : n = a + b) (f : Fin a → EReal) (g : Fin b → EReal) (u : Fin n → EReal)
    (hf : ∀ (k : Fin a) (K : Fin n), (K : ℕ) = k → u K = f k) (hg : ∀ (k : Fin b) (K : Fin n), (K : ℕ) = a + k → u K = g k) :
    Finset.univ.sup u = max (Finset.univ.sup f) (Finset.univ.sup g) := by
  subst h
  apply le_antisymm
  · refine Finset.sup_le fun k _ => ?_
    induction k using Fin.addCases with
    | left k => rw [hf k _ rfl]; exact le_max_of_le_left (Finset.le_sup (Finset.mem_univ k))
    | right k => rw [hg k _ rfl]; exact le_max_of_le_right (Finset.le_sup (Finset.mem_univ k))
  · refine max_le (Finset.sup_le fun k _ => ?_) (Finset.sup_le fun k _ => ?_)
    · rw [← hf k (Fin.castAdd b k) rfl]; exact Finset.le_sup (Finset.mem_univ _)
    · rw [← hg k (Fin.natAdd a k) rfl]; exact Finset.le_sup (Finset.mem_univ _)

/-! ## The layer's attention -/

/-- Element `(n, c)` of the array of queries, keys and values, 0 off the array. -/
def at2 (X : FVec Ideal (⟨2, ![8448, 1536]⟩ : Shape) .bf16) (n c : ℕ) : EReal :=
  if h : n < 8448 ∧ c < 1536 then X (ix2 ⟨n, h.1⟩ ⟨c, h.2⟩) else 0

/-- The score of query row `i` of head `a` against key row `j`. -/
def score (X : FVec Ideal (⟨2, ![8448, 1536]⟩ : Shape) .bf16) (a i j : ℕ) : EReal :=
  (∑ d : Fin 128, at2 X i (a * 128 + d) * at2 X j (1024 + a / 4 * 128 + d)) * (((Real.sqrt 128)⁻¹ : ℝ) : EReal)

/-- The latent key rows that query row `i` sees: those within 128 of it, and none for a context row. -/
def window (i : ℕ) : Finset ℕ := (Finset.range 8192).filter fun j => i < 8192 ∧ j ≤ i + 128 ∧ i ≤ j + 128

/-- The largest of row `i`'s scores and its sink logit `s`. -/
def top (X : FVec Ideal (⟨2, ![8448, 1536]⟩ : Shape) .bf16) (s : EReal) (a i : ℕ) : EReal :=
  max (max (Finset.univ.sup fun k : Fin 256 => score X a i (8192 + k)) ((window i).sup (score X a i))) s

/-- The unnormalised weight of key row `j`. -/
def weight (X : FVec Ideal (⟨2, ![8448, 1536]⟩ : Shape) .bf16) (s : EReal) (a i j : ℕ) : EReal :=
  Ideal.exp (score X a i j - top X s a i)

/-- The softmax's denominator: the weights and the sink's. -/
def den (X : FVec Ideal (⟨2, ![8448, 1536]⟩ : Shape) .bf16) (s : EReal) (a i : ℕ) : EReal :=
  (∑ k : Fin 256, weight X s a i (8192 + k)) + (∑ j ∈ window i, weight X s a i j) + Ideal.exp (s - top X s a i)

/-- Component `d` of the attention's result at row `i` of head `a`: the weighted sum of the values over the denominator. -/
def out (X : FVec Ideal (⟨2, ![8448, 1536]⟩ : Shape) .bf16) (s : EReal) (a i d : ℕ) : EReal :=
  Ideal.div ((∑ k : Fin 256, weight X s a i (8192 + k) * at2 X (8192 + k) (1280 + a / 4 * 128 + d))
    + ∑ j ∈ window i, weight X s a i j * at2 X j (1280 + a / 4 * 128 + d)) (den X s a i)

/-- The queries and the keys are finite. -/
structure Finite (X : FVec Ideal (⟨2, ![8448, 1536]⟩ : Shape) .bf16) : Prop where
  qk : ∀ n c, c < 1280 → ∃ r : ℝ, at2 X n c = (r : EReal)

/-- A sum of reals is a real. -/
theorem sum_real {ι : Type*} (S : Finset ι) (f : ι → EReal) (h : ∀ k ∈ S, ∃ r : ℝ, f k = (r : EReal)) :
    ∃ r : ℝ, ∑ k ∈ S, f k = (r : EReal) := by
  classical
  induction S using Finset.induction_on with
  | empty => exact ⟨0, by simp⟩
  | insert a S ha ih =>
    obtain ⟨r, hr⟩ := ih fun k hk => h k (Finset.mem_insert_of_mem hk)
    obtain ⟨q, hq⟩ := h a (Finset.mem_insert_self a S)
    exact ⟨q + r, by rw [Finset.sum_insert ha, hr, hq, EReal.coe_add]⟩

/-- A maximum of reals is −∞ or a real. -/
theorem sup_real {ι : Type*} (S : Finset ι) (f : ι → EReal) (h : ∀ k ∈ S, ∃ r : ℝ, f k = (r : EReal)) : S.sup f ≠ ⊤ := by
  have : S.sup f < ⊤ := (Finset.sup_lt_iff bot_lt_top).2 fun k hk => by
    obtain ⟨r, hr⟩ := h k hk; rw [hr]; exact EReal.coe_lt_top r
  exact this.ne

/-- Scores of finite queries and keys are real. -/
theorem score_real {X} (hX : Finite X) {a : ℕ} (ha : a < 8) (i j : ℕ) : ∃ r : ℝ, score X a i j = (r : EReal) := by
  obtain ⟨r, hr⟩ := sum_real Finset.univ (fun d : Fin 128 => at2 X i (a * 128 + d) * at2 X j (1024 + a / 4 * 128 + d))
    fun d _ => by
      obtain ⟨p, hp⟩ := hX.qk i (a * 128 + d) (by omega)
      obtain ⟨q, hq⟩ := hX.qk j (1024 + a / 4 * 128 + d) (by omega)
      exact ⟨p * q, by rw [hp, hq, EReal.coe_mul]⟩
  exact ⟨r * (Real.sqrt 128)⁻¹, by rw [score, hr, EReal.coe_mul]⟩

/-- The largest score is real. -/
theorem top_real {X} (hX : Finite X) {a : ℕ} (ha : a < 8) (i : ℕ) (s : ℝ) : ∃ r : ℝ, top X s a i = (r : EReal) := by
  have h1 : top X s a i ≠ ⊤ := by
    have hs : (s : EReal) < ⊤ := EReal.coe_lt_top s
    have := lt_top_iff_ne_top.2 (sup_real Finset.univ (fun k : Fin 256 => score X a i (8192 + k)) fun k _ => score_real hX ha _ _)
    have h2 := lt_top_iff_ne_top.2 (sup_real (window i) (score X a i) fun k _ => score_real hX ha _ _)
    exact (max_lt (max_lt this h2) hs).ne
  have h2 : top X s a i ≠ ⊥ := by
    have : (s : EReal) ≤ top X s a i := le_max_right _ _
    exact (lt_of_lt_of_le (EReal.bot_lt_coe s) this).ne'
  exact ⟨(top X s a i).toReal, (EReal.coe_toReal h1 h2).symm⟩

/-- Weights are positive reals. -/
theorem weight_real {X} (hX : Finite X) {a : ℕ} (ha : a < 8) (i j : ℕ) (s : ℝ) :
    ∃ r : ℝ, 0 < r ∧ weight X s a i j = (r : EReal) := by
  obtain ⟨p, hp⟩ := score_real hX ha i j
  obtain ⟨q, hq⟩ := top_real hX ha i s
  exact ⟨Real.exp (p - q), Real.exp_pos _, by rw [weight, hp, hq, ← EReal.coe_sub, Ideal.exp_coe]⟩

/-- A sum of positive reals is a real at least 0. -/
theorem sum_pos_real {ι : Type*} (S : Finset ι) (f : ι → EReal) (h : ∀ k ∈ S, ∃ r : ℝ, 0 < r ∧ f k = (r : EReal)) :
    ∃ r : ℝ, 0 ≤ r ∧ ∑ k ∈ S, f k = (r : EReal) := by
  obtain ⟨r, hr⟩ := sum_real S f fun k hk => (h k hk).imp fun _ h => h.2
  refine ⟨r, ?_, hr⟩
  have : (0 : EReal) ≤ ∑ k ∈ S, f k := Finset.sum_nonneg fun k hk => by
    obtain ⟨q, hq, e⟩ := h k hk; rw [e]; exact_mod_cast hq.le
  rw [hr] at this; exact_mod_cast this

/-- The denominator is a positive real. -/
theorem den_real {X} (hX : Finite X) {a : ℕ} (ha : a < 8) (i : ℕ) (s : ℝ) : ∃ r : ℝ, 0 < r ∧ den X s a i = (r : EReal) := by
  obtain ⟨p, hp, e1⟩ := sum_pos_real Finset.univ (fun k : Fin 256 => weight X s a i (8192 + k)) fun k _ => weight_real hX ha _ _ _
  obtain ⟨q, hq, e2⟩ := sum_pos_real (window i) (weight X s a i) fun k _ => weight_real hX ha _ _ _
  obtain ⟨t, ht⟩ := top_real hX ha i s
  refine ⟨p + q + Real.exp (s - t), by positivity, ?_⟩
  rw [den, e1, e2, ht, ← EReal.coe_sub, Ideal.exp_coe, EReal.coe_add, EReal.coe_add]

/-- A product with a nonnegative real distributes over a sum of extended reals. -/
theorem sum_mul_real {ι : Type*} (S : Finset ι) (f : ι → EReal) {c : ℝ} (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha, ← ih, mul_comm, EReal.left_distrib_of_nonneg_of_ne_top (by exact_mod_cast hc) (EReal.coe_ne_top c),
      mul_comm (c : EReal), mul_comm (c : EReal)]

/-- The weighted sum of the values over the denominator is the sum of the values weighted by the normalised weights. -/
theorem out_eq {X} (hX : Finite X) {a : ℕ} (ha : a < 8) (i d : ℕ) (s : ℝ) :
    out X s a i d = (∑ k : Fin 256, at2 X (8192 + k) (1280 + a / 4 * 128 + d) * Ideal.div (weight X s a i (8192 + k)) (den X s a i))
      + ∑ j ∈ window i, at2 X j (1280 + a / 4 * 128 + d) * Ideal.div (weight X s a i j) (den X s a i) := by
  obtain ⟨r, hr, e⟩ := den_real hX ha i s
  have hc : 0 ≤ 1 / r := by positivity
  simp only [out, e, Ideal.div_coe hr.ne']
  rw [mul_comm, EReal.left_distrib_of_nonneg_of_ne_top (by exact_mod_cast hc) (EReal.coe_ne_top _), mul_comm, mul_comm _ (∑ j ∈ _, _),
    sum_mul_real _ _ hc, sum_mul_real _ _ hc]
  exact congrArg₂ (· + ·) (Finset.sum_congr rfl fun k _ => by rw [mul_comm (weight _ _ _ _ _), mul_assoc])
    (Finset.sum_congr rfl fun k _ => by rw [mul_comm (weight _ _ _ _ _), mul_assoc])

end Cert.Attn

end
-- ==== Proof.Attn.Word.lean ====
module

public import Idealize.ShloMosaic.Lib.WordCmp
public import Idealize.ShloMosaic.Lib.Pointwise
public import Idealize.ShloMosaic.PureOps.Ideal

@[expose] public section

set_option maxRecDepth 16384

namespace Cert.Attn

open Idealize.ShloMosaic

/-- The distance of two small naturals, as words, is at most 128 exactly when each is within 128 of the other. -/
theorem near (p q : ℕ) (hp : p < 1000000) (hq : q < 1000000) :
    IntOp.cmpi .sle (IntOp.absi (IntOp.subi (BitVec.ofNat 32 p) (BitVec.ofNat 32 q))) 128#32
      = BitVec.ofBool (decide (p ≤ q + 128 ∧ q ≤ p + 128)) := by
  rw [WordCmp.cmpi_sle_eq]
  congr 2
  have h128 : (128#32 : BitVec 32).toInt = 128 := by decide
  rw [h128]
  unfold IntOp.absi IntOp.subi
  rcases Nat.lt_or_ge p q with h | h
  · have e : BitVec.ofNat 32 p - BitVec.ofNat 32 q = -(BitVec.ofNat 32 (q - p)) := by
      apply BitVec.eq_of_toNat_eq
      simp only [BitVec.toNat_sub, BitVec.toNat_neg, BitVec.toNat_ofNat]
      omega
    have hm : (-(BitVec.ofNat 32 (q - p))).msb = true := by
      rw [BitVec.msb_eq_decide]
      simp only [BitVec.toNat_neg, BitVec.toNat_ofNat, decide_eq_true_eq]
      omega
    rw [e, if_pos hm, BitVec.neg_neg, WordCmp.toInt_ofNat_of_lt (by omega)]
    apply propext; omega
  · have e : BitVec.ofNat 32 p - BitVec.ofNat 32 q = BitVec.ofNat 32 (p - q) := by
      apply BitVec.eq_of_toNat_eq
      simp only [BitVec.toNat_sub, BitVec.toNat_ofNat]
      omega
    have hm : (BitVec.ofNat 32 (p - q)).msb = false := by
      rw [BitVec.msb_eq_decide]
      simp only [BitVec.toNat_ofNat, decide_eq_false_iff_not]
      omega
    rw [e, if_neg (by rw [hm]; decide), WordCmp.toInt_ofNat_of_lt (by omega)]
    apply propext; omega

/-- Selecting on a decided proposition. -/
theorem select_decide {α : Type} (p : Prop) [Decidable p] (x y : α) :
    Scalar.select (BitVec.ofBool (decide p)) x y = if p then x else y := by
  by_cases h : p <;> simp [Scalar.select, h]

/-- The remainder of a row number by 128, as the kernel computes it. -/
theorem row_rem (R : Fin 512) :
    Scalar.select
      (IntOp.andi
        (IntOp.xori
          (IntOp.cmpi CmpIPredicate.slt
            (IntOp.remsi ArithUnit.vector (BitVec.ofNat 32 (R : ℕ))
              (Scalar.select (Scalar.cmpi CmpIPredicate.eq 128#32 0#32) 1#32 128#32))
            0#32)
          (Scalar.cmpi CmpIPredicate.slt 128#32 0#32))
        (IntOp.cmpi CmpIPredicate.ne
          (IntOp.remsi ArithUnit.vector (BitVec.ofNat 32 (R : ℕ))
            (Scalar.select (Scalar.cmpi CmpIPredicate.eq 128#32 0#32) 1#32 128#32))
          0#32))
      (IntOp.addi
        (IntOp.remsi ArithUnit.vector (BitVec.ofNat 32 (R : ℕ))
          (Scalar.select (Scalar.cmpi CmpIPredicate.eq 128#32 0#32) 1#32 128#32))
        128#32)
      (IntOp.remsi ArithUnit.vector (BitVec.ofNat 32 (R : ℕ))
        (Scalar.select (Scalar.cmpi CmpIPredicate.eq 128#32 0#32) 1#32 128#32)) = BitVec.ofNat 32 ((R : ℕ) % 128) := by
  revert R; decide +kernel

/-- The head of a row number, as the kernel computes it. -/
theorem row_head (R : Fin 512) :
    Scalar.select
      (IntOp.andi
        (IntOp.cmpi CmpIPredicate.ne
          (IntOp.subi (BitVec.setWidth 32 (IntOp.cmpi CmpIPredicate.sgt (BitVec.ofNat 32 (R : ℕ)) 0#32))
            (BitVec.setWidth 32 (IntOp.cmpi CmpIPredicate.slt (BitVec.ofNat 32 (R : ℕ)) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 (R : ℕ)) 128#32) 0#32))
      (IntOp.subi (IntOp.divsi ArithUnit.vector (BitVec.ofNat 32 (R : ℕ)) 128#32) 1#32)
      (IntOp.divsi ArithUnit.vector (BitVec.ofNat 32 (R : ℕ)) 128#32) = BitVec.ofNat 32 ((R : ℕ) / 128) := by
  revert R; decide +kernel

/-- The first row of the key window of row block `b`: the block before, kept inside the latent rows. -/
theorem start (b : Fin 66) :
    Scalar.minsi (7808#32) (Scalar.maxsi (0#32) (Scalar.muli (Scalar.subi (BitVec.ofNat 32 (b : ℕ)) 1#32) 128#32))
      = BitVec.ofNat 32 (min 7808 (((b : ℕ) - 1) * 128)) := by
  revert b; decide +kernel

/-- The first row of row block `b`. -/
theorem base (b : Fin 66) : Scalar.muli (BitVec.ofNat 32 (b : ℕ)) 128#32 = BitVec.ofNat 32 ((b : ℕ) * 128) := by
  revert b; decide +kernel

/-- Whether row block `b` is of latent rows. -/
theorem latent (b : Fin 66) :
    Scalar.cmpi CmpIPredicate.slt (BitVec.ofNat 32 (b : ℕ)) 64#32 = BitVec.ofBool (decide ((b : ℕ) < 64)) := by
  revert b; decide +kernel

end Cert.Attn

end
-- ==== Proof.Attn.Ref.lean ====
module

public import proofs.«01_k».proof.Proof.Gen.ReferenceIdeal.Run
public import proofs.«01_k».proof.Proof.Attn.Spec
public import proofs.«01_k».proof.Proof.Attn.Word

@[expose] public section

set_option maxRecDepth 16384

noncomputable section

namespace Cert.Attn.Ref

open Cert.ReferenceIdeal Cert.ReferenceIdeal.Gen Idealize.ShloMosaic Idealize.ShloMosaic.TcCoe Idealize.SL.Sem

/-! ## The reference in stages -/

/-- The context keys. -/
def kCtx (X : FVec Ideal S8448x1536 .bf16) : FVec Ideal S1x256x2x128 .f32 :=
  shapeCast _ (extractStridedSlice S1x256x256 ![0, 0, 1024] (extractStridedSlice S1x256x1536 ![0, 8192, 0] (broadcastInDim S1x8448x1536 ![1, 2]
    bcast_S8448x1536_S1x8448x1536_1_2 (extf .f32 X bitsLt_bf16_f32)) slices_S1x8448x1536_S1x256x1536_0_8192_0) slices_S1x256x1536_S1x256x256_0_0_1024)
    shapeCasts_S1x256x256_S1x256x2x128

/-- The context values. -/
def vCtx (X : FVec Ideal S8448x1536 .bf16) : FVec Ideal S1x256x2x128 .f32 :=
  shapeCast _ (extractStridedSlice S1x256x256 ![0, 0, 1280] (extractStridedSlice S1x256x1536 ![0, 8192, 0] (broadcastInDim S1x8448x1536 ![1, 2]
    bcast_S8448x1536_S1x8448x1536_1_2 (extf .f32 X bitsLt_bf16_f32)) slices_S1x8448x1536_S1x256x1536_0_8192_0) slices_S1x256x1536_S1x256x256_0_0_1280)
    shapeCasts_S1x256x256_S1x256x2x128

/-- The scale. -/
def scl : FVec Ideal S_ .f32 :=
  Host.divf (constant S_ .f32 0x3F800000#32) (Host.sqrt (constant S_ .f32 0x43000000#32))

/-- The sink logits by key/value head and head of the group. -/
def snk (S : FVec Ideal S8 .f32) : FVec Ideal S2x4x1x1 .f32 :=
  broadcastInDim S2x4x1x1 ![0, 1] bcast_S2x4_S2x4x1x1_0_1 (shapeCast _ S shapeCasts_S8_S2x4)

/-- The latent queries by block, row, key/value head and head of the group. -/
def qLat (X : FVec Ideal S8448x1536 .bf16) : FVec Ideal S1x64x128x2x4x128 .f32 :=
  shapeCast _ (shapeCast _ (extractStridedSlice S1x8192x1024 ![0, 0, 0] (extractStridedSlice S1x8192x1536 ![0, 0, 0] (broadcastInDim S1x8448x1536 ![1, 2]
    bcast_S8448x1536_S1x8448x1536_1_2 (extf .f32 X bitsLt_bf16_f32)) slices_S1x8448x1536_S1x8192x1536_0_0_0) slices_S1x8192x1536_S1x8192x1024_0_0_0)
    shapeCasts_S1x8192x1024_S1x8192x8x128) shapeCasts_S1x8192x8x128_S1x64x128x2x4x128

/-- The latent keys by block. -/
def kLat (X : FVec Ideal S8448x1536 .bf16) : FVec Ideal S1x64x128x2x128 .f32 :=
  shapeCast _ (shapeCast _ (extractStridedSlice S1x8192x256 ![0, 0, 1024] (extractStridedSlice S1x8192x1536 ![0, 0, 0] (broadcastInDim S1x8448x1536 ![1, 2]
    bcast_S8448x1536_S1x8448x1536_1_2 (extf .f32 X bitsLt_bf16_f32)) slices_S1x8448x1536_S1x8192x1536_0_0_0) slices_S1x8192x1536_S1x8192x256_0_0_1024)
    shapeCasts_S1x8192x256_S1x8192x2x128) shapeCasts_S1x8192x2x128_S1x64x128x2x128

/-- The keys of each block and of the blocks beside it. -/
def kBand (X : FVec Ideal S8448x1536 .bf16) : FVec Ideal S1x64x384x2x128 .f32 :=
  (concatenate S1x64x384x2x128 2 [⟨S1x64x128x2x128, ((concatenate S1x64x128x2x128 1 [⟨S1x1x128x2x128, (broadcastInDim S1x1x128x2x128 ![] bcast_S_S1x1x128x2x128
    (constant S_ .f32 0x00000000#32))⟩, ⟨S1x63x128x2x128, (extractStridedSlice S1x63x128x2x128 ![0, 0, 0, 0, 0] (kLat X)
    slices_S1x64x128x2x128_S1x63x128x2x128_0_0_0_0_0)⟩] concatenates_S1x1x128x2x128_S1x63x128x2x128_S1x64x128x2x128_d1) : FVec Ideal S1x64x128x2x128 .f32)⟩,
    ⟨S1x64x128x2x128, ((kLat X) : FVec Ideal S1x64x128x2x128 .f32)⟩, ⟨S1x64x128x2x128, ((concatenate S1x64x128x2x128 1 [⟨S1x63x128x2x128, (extractStridedSlice
    S1x63x128x2x128 ![0, 1, 0, 0, 0] (kLat X) slices_S1x64x128x2x128_S1x63x128x2x128_0_1_0_0_0)⟩, ⟨S1x1x128x2x128, (broadcastInDim S1x1x128x2x128 ![]
    bcast_S_S1x1x128x2x128 (constant S_ .f32 0x00000000#32))⟩] concatenates_S1x63x128x2x128_S1x1x128x2x128_S1x64x128x2x128_d1) : FVec Ideal S1x64x128x2x128
    .f32)⟩] concatenates_S1x64x128x2x128_S1x64x128x2x128_S1x64x128x2x128_S1x64x384x2x128_d2 : FVec Ideal S1x64x384x2x128 .f32)

/-- The latent values by block. -/
def vLat (X : FVec Ideal S8448x1536 .bf16) : FVec Ideal S1x64x128x2x128 .f32 :=
  shapeCast _ (shapeCast _ (extractStridedSlice S1x8192x256 ![0, 0, 1280] (extractStridedSlice S1x8192x1536 ![0, 0, 0] (broadcastInDim S1x8448x1536 ![1, 2]
    bcast_S8448x1536_S1x8448x1536_1_2 (extf .f32 X bitsLt_bf16_f32)) slices_S1x8448x1536_S1x8192x1536_0_0_0) slices_S1x8192x1536_S1x8192x256_0_0_1280)
    shapeCasts_S1x8192x256_S1x8192x2x128) shapeCasts_S1x8192x2x128_S1x64x128x2x128

/-- The values of each block and of the blocks beside it. -/
def vBand (X : FVec Ideal S8448x1536 .bf16) : FVec Ideal S1x64x384x2x128 .f32 :=
  (concatenate S1x64x384x2x128 2 [⟨S1x64x128x2x128, ((concatenate S1x64x128x2x128 1 [⟨S1x1x128x2x128, (broadcastInDim S1x1x128x2x128 ![] bcast_S_S1x1x128x2x128
    (constant S_ .f32 0x00000000#32))⟩, ⟨S1x63x128x2x128, (extractStridedSlice S1x63x128x2x128 ![0, 0, 0, 0, 0] (vLat X)
    slices_S1x64x128x2x128_S1x63x128x2x128_0_0_0_0_0)⟩] concatenates_S1x1x128x2x128_S1x63x128x2x128_S1x64x128x2x128_d1) : FVec Ideal S1x64x128x2x128 .f32)⟩,
    ⟨S1x64x128x2x128, ((vLat X) : FVec Ideal S1x64x128x2x128 .f32)⟩, ⟨S1x64x128x2x128, ((concatenate S1x64x128x2x128 1 [⟨S1x63x128x2x128, (extractStridedSlice
    S1x63x128x2x128 ![0, 1, 0, 0, 0] (vLat X) slices_S1x64x128x2x128_S1x63x128x2x128_0_1_0_0_0)⟩, ⟨S1x1x128x2x128, (broadcastInDim S1x1x128x2x128 ![]
    bcast_S_S1x1x128x2x128 (constant S_ .f32 0x00000000#32))⟩] concatenates_S1x63x128x2x128_S1x1x128x2x128_S1x64x128x2x128_d1) : FVec Ideal S1x64x128x2x128
    .f32)⟩] concatenates_S1x64x128x2x128_S1x64x128x2x128_S1x64x128x2x128_S1x64x384x2x128_d2 : FVec Ideal S1x64x384x2x128 .f32)

/-- The mask of the window. -/
def inWin : IVec S64x128x384 1 :=
  andi (broadcastInDim S64x128x384 ![0, 1, 2] bcast_S1x128x384_S64x128x384_0_1_2 (broadcastInDim S1x128x384 ![1, 2] bcast_S128x384_S1x128x384_1_2 (cmpi .sle (absi
    (subi (broadcastInDim S128x384 ![0, 1] bcast_S1x384_S128x384_0_1 (broadcastInDim S1x384 ![1] bcast_S384_S1x384_1 (subi (iotaInDim S384 32 0) (broadcastInDim
    S384 ![] bcast_S_S384 (constantI S_ 32 128#32))))) (broadcastInDim S128x384 ![0, 1] bcast_S128x1_S128x384_0_1 (broadcastInDim S128x1 ![0] bcast_S128_S128x1_0
    (iotaInDim S128 32 0))))) (broadcastInDim S128x384 ![] bcast_S_S128x384 (constantI S_ 32 128#32))))) (broadcastInDim S64x128x384 ![0, 1, 2]
    bcast_S64x1x384_S64x128x384_0_1_2 (broadcastInDim S64x1x384 ![0, 2] bcast_S64x384_S64x1x384_0_2 (andi (cmpi .sge (addi (broadcastInDim S64x384 ![0, 1]
    bcast_S64x1_S64x384_0_1 (muli (broadcastInDim S64x1 ![0] bcast_S64_S64x1_0 (iotaInDim S64 32 0)) (broadcastInDim S64x1 ![] bcast_S_S64x1 (constantI S_ 32
    128#32)))) (broadcastInDim S64x384 ![0, 1] bcast_S1x384_S64x384_0_1 (broadcastInDim S1x384 ![1] bcast_S384_S1x384_1 (subi (iotaInDim S384 32 0)
    (broadcastInDim S384 ![] bcast_S_S384 (constantI S_ 32 128#32)))))) (broadcastInDim S64x384 ![] bcast_S_S64x384 (constantI S_ 32 0#32))) (cmpi .slt (addi
    (broadcastInDim S64x384 ![0, 1] bcast_S64x1_S64x384_0_1 (muli (broadcastInDim S64x1 ![0] bcast_S64_S64x1_0 (iotaInDim S64 32 0)) (broadcastInDim S64x1 ![]
    bcast_S_S64x1 (constantI S_ 32 128#32)))) (broadcastInDim S64x384 ![0, 1] bcast_S1x384_S64x384_0_1 (broadcastInDim S1x384 ![1] bcast_S384_S1x384_1 (subi
    (iotaInDim S384 32 0) (broadcastInDim S384 ![] bcast_S_S384 (constantI S_ 32 128#32)))))) (broadcastInDim S64x384 ![] bcast_S_S64x384 (constantI S_ 32
    8192#32))))))

/-- The masked scores of the window. -/
def sWin (X : FVec Ideal S8448x1536 .bf16) : FVec Ideal S1x64x2x4x128x384 .f32 :=
  select (broadcastInDim S1x64x2x4x128x384 ![0, 1, 2, 3, 4, 5] bcast_S1x64x1x1x128x384_S1x64x2x4x128x384_0_1_2_3_4_5 (broadcastInDim S1x64x1x1x128x384 ![1, 4, 5]
    bcast_S64x128x384_S1x64x1x1x128x384_1_4_5 (inWin))) (mulf (transpose S1x64x2x4x128x384 [0, 1, 2, 5, 4, 3] (Host.dotGeneral
    dot_S1x64x384x2x128_S1x64x128x2x4x128_S1x64x2x384x128x4_4_5_2_24_013_013 none (kBand X) (qLat X)) transposes_S1x64x2x384x128x4_S1x64x2x4x128x384_0_1_2_5_4_3)
    (broadcastInDim S1x64x2x4x128x384 ![] bcast_S_S1x64x2x4x128x384 (scl))) (broadcastInDim S1x64x2x4x128x384 ![] bcast_S_S1x64x2x4x128x384 (id (constant S_ .f32
    0xFF800000#32)))

/-- The scores of the context keys. -/
def sCtx (X : FVec Ideal S8448x1536 .bf16) : FVec Ideal S1x64x2x4x128x256 .f32 :=
  mulf (transpose S1x64x2x4x128x256 [0, 3, 1, 5, 4, 2] (Host.dotGeneral dot_S1x256x2x128_S1x64x128x2x4x128_S1x2x256x64x128x4_3_5_1_124_02_03 none (kCtx X) (qLat
    X)) transposes_S1x2x256x64x128x4_S1x64x2x4x128x256_0_3_1_5_4_2) (broadcastInDim S1x64x2x4x128x256 ![] bcast_S_S1x64x2x4x128x256 (scl))

/-- Both kinds of scores side by side. -/
def sAll (X : FVec Ideal S8448x1536 .bf16) : FVec Ideal S1x64x2x4x128x640 .f32 :=
  concatenate S1x64x2x4x128x640 5 [⟨S1x64x2x4x128x256, (sCtx X)⟩, ⟨S1x64x2x4x128x384, (sWin X)⟩] concatenates_S1x64x2x4x128x256_S1x64x2x4x128x384_S1x64x2x4x128x640_d5

/-- Their largest. -/
def sMax (X : FVec Ideal S8448x1536 .bf16) : FVec Ideal S1x64x2x4x128 .f32 :=
  Host.reduce FloatOps.maximumf (sAll X) (constant S_ .f32 0xFF800000#32) reducesTo_S1x64x2x4x128x640_S1x64x2x4x128_d5 h_S_

/-- The largest of the scores and the sink logit. -/
def top0 (X : FVec Ideal S8448x1536 .bf16) (S : FVec Ideal S8 .f32) : FVec Ideal S1x64x2x4x128x1 .f32 :=
  maximumf (broadcastInDim S1x64x2x4x128x1 ![0, 1, 2, 3, 4] bcast_S1x64x2x4x128_S1x64x2x4x128x1_0_1_2_3_4 (sMax X)) (broadcastInDim S1x64x2x4x128x1 ![0, 1, 2, 3,
    4, 5] bcast_S1x1x2x4x1x1_S1x64x2x4x128x1_0_1_2_3_4_5 (broadcastInDim S1x1x2x4x1x1 ![2, 3, 4, 5] bcast_S2x4x1x1_S1x1x2x4x1x1_2_3_4_5 (snk S)))

/-- The exponentials of the scores. -/
def eAll (X : FVec Ideal S8448x1536 .bf16) (S : FVec Ideal S8 .f32) : FVec Ideal S1x64x2x4x128x640 .f32 :=
  Host.exp (subf (sAll X) (broadcastInDim S1x64x2x4x128x640 ![0, 1, 2, 3, 4, 5] bcast_S1x64x2x4x128x1_S1x64x2x4x128x640_0_1_2_3_4_5 (top0 X S)))

/-- Their sum. -/
def eSum (X : FVec Ideal S8448x1536 .bf16) (S : FVec Ideal S8 .f32) : FVec Ideal S1x64x2x4x128 .f32 :=
  Host.reduceAdd (eAll X S) (constant S_ .f32 0x00000000#32) reducesTo_S1x64x2x4x128x640_S1x64x2x4x128_d5 h_S_

/-- The weights. -/
def pAll (X : FVec Ideal S8448x1536 .bf16) (S : FVec Ideal S8 .f32) : FVec Ideal S1x64x2x4x128x640 .f32 :=
  Host.divf (eAll X S) (broadcastInDim S1x64x2x4x128x640 ![0, 1, 2, 3, 4, 5] bcast_S1x64x2x4x128x1_S1x64x2x4x128x640_0_1_2_3_4_5 (addf (broadcastInDim
    S1x64x2x4x128x1 ![0, 1, 2, 3, 4] bcast_S1x64x2x4x128_S1x64x2x4x128x1_0_1_2_3_4 (eSum X S)) (Host.exp (subf (broadcastInDim S1x64x2x4x128x1 ![0, 1, 2, 3, 4,
    5] bcast_S1x1x2x4x1x1_S1x64x2x4x128x1_0_1_2_3_4_5 (broadcastInDim S1x1x2x4x1x1 ![2, 3, 4, 5] bcast_S2x4x1x1_S1x1x2x4x1x1_2_3_4_5 (snk S))) (top0 X S)))))

/-- The result of the latent rows by block, row, key/value head and head of the group. -/
def oBlk (X : FVec Ideal S8448x1536 .bf16) (S : FVec Ideal S8 .f32) : FVec Ideal S1x64x128x2x4x128 .f32 :=
  addf (transpose S1x64x128x2x4x128 [0, 3, 5, 1, 4, 2] (Host.dotGeneral dot_S1x256x2x128_S1x64x2x4x128x256_S1x2x128x64x4x128_1_5_3_134_02_02 none (vCtx X)
    (extractStridedSlice S1x64x2x4x128x256 ![0, 0, 0, 0, 0, 0] (pAll X S) slices_S1x64x2x4x128x640_S1x64x2x4x128x256_0_0_0_0_0_0))
    transposes_S1x2x128x64x4x128_S1x64x128x2x4x128_0_3_5_1_4_2) (transpose S1x64x128x2x4x128 [0, 1, 5, 2, 4, 3] (Host.dotGeneral
    dot_S1x64x384x2x128_S1x64x2x4x128x384_S1x64x2x128x4x128_2_5_4_34_013_012 none (vBand X) (extractStridedSlice S1x64x2x4x128x384 ![0, 0, 0, 0, 0, 256] (pAll X
    S) slices_S1x64x2x4x128x640_S1x64x2x4x128x384_0_0_0_0_0_256)) transposes_S1x64x2x128x4x128_S1x64x128x2x4x128_0_1_5_2_4_3)

/-- The result of the latent rows. -/
def oLat (X : FVec Ideal S8448x1536 .bf16) (S : FVec Ideal S8 .f32) : FVec Ideal S1x8192x1024 .f32 :=
  shapeCast _ (oBlk X S) shapeCasts_S1x64x128x2x4x128_S1x8192x1024

/-- The context queries. -/
def qCtx (X : FVec Ideal S8448x1536 .bf16) : FVec Ideal S1x256x2x4x128 .f32 :=
  shapeCast _ (shapeCast _ (extractStridedSlice S1x256x1024 ![0, 0, 0] (extractStridedSlice S1x256x1536 ![0, 8192, 0] (broadcastInDim S1x8448x1536 ![1, 2]
    bcast_S8448x1536_S1x8448x1536_1_2 (extf .f32 X bitsLt_bf16_f32)) slices_S1x8448x1536_S1x256x1536_0_8192_0) slices_S1x256x1536_S1x256x1024_0_0_0)
    shapeCasts_S1x256x1024_S1x256x8x128) shapeCasts_S1x256x8x128_S1x256x2x4x128

/-- The scores of the context queries. -/
def sCC (X : FVec Ideal S8448x1536 .bf16) : FVec Ideal S1x2x4x256x256 .f32 :=
  mulf (transpose S1x2x4x256x256 [0, 1, 4, 3, 2] (Host.dotGeneral dot_S1x256x2x128_S1x256x2x4x128_S1x2x256x256x4_3_4_1_13_02_02 none (kCtx X) (qCtx X))
    transposes_S1x2x256x256x4_S1x2x4x256x256_0_1_4_3_2) (broadcastInDim S1x2x4x256x256 ![] bcast_S_S1x2x4x256x256 (scl))

/-- The largest of them and the sink logit. -/
def topC (X : FVec Ideal S8448x1536 .bf16) (S : FVec Ideal S8 .f32) : FVec Ideal S1x2x4x256x1 .f32 :=
  maximumf (broadcastInDim S1x2x4x256x1 ![0, 1, 2, 3] bcast_S1x2x4x256_S1x2x4x256x1_0_1_2_3 (Host.reduce FloatOps.maximumf (sCC X) (constant S_ .f32 0xFF800000#32)
    reducesTo_S1x2x4x256x256_S1x2x4x256_d4 h_S_)) (broadcastInDim S1x2x4x256x1 ![0, 1, 2, 3, 4] bcast_S1x2x4x1x1_S1x2x4x256x1_0_1_2_3_4 (broadcastInDim
    S1x2x4x1x1 ![1, 2, 3, 4] bcast_S2x4x1x1_S1x2x4x1x1_1_2_3_4 (snk S)))

/-- Their exponentials. -/
def eCC (X : FVec Ideal S8448x1536 .bf16) (S : FVec Ideal S8 .f32) : FVec Ideal S1x2x4x256x256 .f32 :=
  Host.exp (subf (sCC X) (broadcastInDim S1x2x4x256x256 ![0, 1, 2, 3, 4] bcast_S1x2x4x256x1_S1x2x4x256x256_0_1_2_3_4 (topC X S)))

/-- The weights of the context queries. -/
def pCC (X : FVec Ideal S8448x1536 .bf16) (S : FVec Ideal S8 .f32) : FVec Ideal S1x2x4x256x256 .f32 :=
  Host.divf (eCC X S) (broadcastInDim S1x2x4x256x256 ![0, 1, 2, 3, 4] bcast_S1x2x4x256x1_S1x2x4x256x256_0_1_2_3_4 (addf (broadcastInDim S1x2x4x256x1 ![0, 1, 2, 3]
    bcast_S1x2x4x256_S1x2x4x256x1_0_1_2_3 (Host.reduceAdd (eCC X S) (constant S_ .f32 0x00000000#32) reducesTo_S1x2x4x256x256_S1x2x4x256_d4 h_S_)) (Host.exp
    (subf (broadcastInDim S1x2x4x256x1 ![0, 1, 2, 3, 4] bcast_S1x2x4x1x1_S1x2x4x256x1_0_1_2_3_4 (broadcastInDim S1x2x4x1x1 ![1, 2, 3, 4]
    bcast_S2x4x1x1_S1x2x4x1x1_1_2_3_4 (snk S))) (topC X S)))))

/-- The result of the context rows by row, key/value head and head of the group. -/
def oGrp (X : FVec Ideal S8448x1536 .bf16) (S : FVec Ideal S8 .f32) : FVec Ideal S1x256x2x4x128 .f32 :=
  transpose S1x256x2x4x128 [0, 4, 1, 3, 2] (Host.dotGeneral dot_S1x256x2x128_S1x2x4x256x256_S1x2x128x4x256_1_4_3_23_02_01 none (vCtx X) (pCC X S))
    transposes_S1x2x128x4x256_S1x256x2x4x128_0_4_1_3_2

/-- The result of the context rows. -/
def oCtx (X : FVec Ideal S8448x1536 .bf16) (S : FVec Ideal S8 .f32) : FVec Ideal S1x256x1024 .f32 :=
  shapeCast _ (oGrp X S) shapeCasts_S1x256x2x4x128_S1x256x1024

/-- The whole result. -/
def res (X : FVec Ideal S8448x1536 .bf16) (S : FVec Ideal S8 .f32) : FVec Ideal S8448x1024 .bf16 :=
  truncf .bf16 (shapeCast _ (concatenate S1x8448x1024 1 [⟨S1x8192x1024, (oLat X S)⟩, ⟨S1x256x1024, (oCtx X S)⟩]
    concatenates_S1x8192x1024_S1x256x1024_S1x8448x1024_d1) shapeCasts_S1x8448x1024_S8448x1024) bitsLt_bf16_f32

/-- The reference's composed term is the last stage. -/
theorem res_eq (m : (ℓ : Loc nD τ sig) → Buf (Elt Ideal) ℓ) (c : Dev nD) :
    Value.res_main_v130 m c = res (m ((c.tc : Thread nD τ).loc main_arg0)) (m ((c.tc : Thread nD τ).loc main_arg1)) := by
  unfold Value.res_main_v130; rfl

/-! ## Each stage at an index -/

variable (X : FVec Ideal S8448x1536 .bf16) (S : FVec Ideal S8 .f32)

/-- The pattern of 128. -/
theorem bits_128 : Ideal.ofBits FTy.f32 1124073472#32 = ((128 : ℝ) : EReal) := by
  simp [Ideal.ofBits, Ideal.ieee]
  rw [← EReal.coe_mul]; norm_num

/-- The pattern of −∞ reads as −∞. -/
theorem bits_bot : Ideal.ofBits FTy.f32 4286578688#32 = (⊥ : EReal) := by
  simp [Ideal.ofBits, Ideal.ieee]

/-- The scale is the inverse square root of 128. -/
theorem scl_at : (scl ix0 : EReal) = (((Real.sqrt 128)⁻¹ : ℝ) : EReal) := by
  pointwise [scl]
  rw [bits_128, Ideal.sqrt_coe, if_neg (by norm_num), Ideal.div_coe (by positivity), one_mul, one_div]

theorem qLat_at (b : Fin 64) (h : Fin 2) (g : Fin 4) (r d : Fin 128) :
    qLat X (ix6 0 b r h g d) = at2 X (b * 128 + r) ((h * 4 + g) * 128 + d) := by
  pointwise [qLat]
  rw [at2, dif_pos ⟨by omega, by omega⟩]
  exact congrArg X ((ix2_inj ..).2 ⟨rfl, Fin.ext (by dsimp only <;> omega)⟩)

theorem kBand_in (b : Fin 64) (h : Fin 2) (k : Fin 384) (d : Fin 128) (hk : 128 ≤ (b : ℕ) * 128 + k ∧ (b : ℕ) * 128 + k < 8320) :
    kBand X (ix5 0 b k h d) = at2 X ((b : ℕ) * 128 + k - 128) (1024 + h * 128 + d) := by
  refine Eq.trans ?_ (dif_pos (c := (b : ℕ) * 128 + k - 128 < 8448 ∧ 1024 + (h : ℕ) * 128 + d < 1536) ⟨by omega, by omega⟩).symm
  pointwise [kBand, kLat]
  split_ifs <;> first | omega | exact congrArg X ((ix2_inj ..).2 ⟨Fin.ext (by dsimp only <;> omega), Fin.ext (by dsimp only <;> omega)⟩)

theorem kBand_out (b : Fin 64) (h : Fin 2) (k : Fin 384) (d : Fin 128) (hk : ¬ (128 ≤ (b : ℕ) * 128 + k ∧ (b : ℕ) * 128 + k < 8320)) :
    kBand X (ix5 0 b k h d) = (0 : EReal) := by
  pointwise [kBand, kLat]
  split_ifs <;> first | omega | rfl

theorem kBand_at (b : Fin 64) (h : Fin 2) (k : Fin 384) (d : Fin 128) :
    kBand X (ix5 0 b k h d) = if 128 ≤ (b : ℕ) * 128 + k ∧ (b : ℕ) * 128 + k < 8320 then at2 X ((b : ℕ) * 128 + k - 128) (1024 + h * 128 + d) else (0 : EReal) := by
  split
  · exact kBand_in X b h k d ‹_›
  · exact kBand_out X b h k d ‹_›

theorem vBand_in (b : Fin 64) (h : Fin 2) (k : Fin 384) (d : Fin 128) (hk : 128 ≤ (b : ℕ) * 128 + k ∧ (b : ℕ) * 128 + k < 8320) :
    vBand X (ix5 0 b k h d) = at2 X ((b : ℕ) * 128 + k - 128) (1280 + h * 128 + d) := by
  refine Eq.trans ?_ (dif_pos (c := (b : ℕ) * 128 + k - 128 < 8448 ∧ 1280 + (h : ℕ) * 128 + d < 1536) ⟨by omega, by omega⟩).symm
  pointwise [vBand, vLat]
  split_ifs <;> first | omega | exact congrArg X ((ix2_inj ..).2 ⟨Fin.ext (by dsimp only <;> omega), Fin.ext (by dsimp only <;> omega)⟩)

theorem vBand_out (b : Fin 64) (h : Fin 2) (k : Fin 384) (d : Fin 128) (hk : ¬ (128 ≤ (b : ℕ) * 128 + k ∧ (b : ℕ) * 128 + k < 8320)) :
    vBand X (ix5 0 b k h d) = (0 : EReal) := by
  pointwise [vBand, vLat]
  split_ifs <;> first | omega | rfl

theorem vBand_at (b : Fin 64) (h : Fin 2) (k : Fin 384) (d : Fin 128) :
    vBand X (ix5 0 b k h d) = if 128 ≤ (b : ℕ) * 128 + k ∧ (b : ℕ) * 128 + k < 8320 then at2 X ((b : ℕ) * 128 + k - 128) (1280 + h * 128 + d) else (0 : EReal) := by
  split
  · exact vBand_in X b h k d ‹_›
  · exact vBand_out X b h k d ‹_›

theorem near_word (r : Fin 128) (k : Fin 384) :
    IntOp.cmpi CmpIPredicate.sle (IntOp.absi (IntOp.subi (IntOp.subi (BitVec.ofNat 32 k) 128#32) (BitVec.ofNat 32 r))) 128#32
      = BitVec.ofBool (decide ((k : ℕ) ≤ r + 128 + 128 ∧ (r : ℕ) + 128 ≤ k + 128)) := by
  rw [← near k (r + 128) (by omega) (by omega)]
  congr 2
  apply BitVec.eq_of_toNat_eq
  simp only [IntOp.subi, BitVec.toNat_sub, BitVec.toNat_ofNat]
  omega

theorem inside_word : ∀ (b : Fin 64) (k : Fin 384),
    IntOp.andi
        (IntOp.cmpi CmpIPredicate.sge
          (IntOp.addi (IntOp.muli (BitVec.ofNat 32 b) 128#32) (IntOp.subi (BitVec.ofNat 32 k) 128#32)) 0#32)
        (IntOp.cmpi CmpIPredicate.slt
          (IntOp.addi (IntOp.muli (BitVec.ofNat 32 b) 128#32) (IntOp.subi (BitVec.ofNat 32 k) 128#32)) 8192#32)
      = BitVec.ofBool (decide (128 ≤ (b : ℕ) * 128 + k ∧ (b : ℕ) * 128 + k < 8320)) := by
  decide +kernel

/-- Position `k` of the window of row `r` of block `b` is a key the row sees. -/
abbrev Sees (b : Fin 64) (r : Fin 128) (k : Fin 384) : Prop :=
  ((k : ℕ) ≤ r + 128 + 128 ∧ (r : ℕ) + 128 ≤ k + 128) ∧ (128 ≤ (b : ℕ) * 128 + k ∧ (b : ℕ) * 128 + k < 8320)

theorem inWin_at (b : Fin 64) (r : Fin 128) (k : Fin 384) : inWin (ix3 b r k) = BitVec.ofBool (decide (Sees b r k)) := by
  pointwise [inWin]
  rw [near_word, inside_word, WordCmp.andi_ofBool, ← Bool.decide_and]

theorem sWin_at (b : Fin 64) (h : Fin 2) (g : Fin 4) (r : Fin 128) (k : Fin 384) :
    sWin X (ix6 0 b h g r k) = if Sees b r k then score X (h * 4 + g) (b * 128 + r) ((b : ℕ) * 128 + k - 128) else (⊥ : EReal) := by
  have hdiv : ((h : ℕ) * 4 + g) / 4 = h := by omega
  pointwise [sWin, inWin_at, scl_at, kBand_at, qLat_at]
  split
  next hs =>
    rw [score, hdiv]
    refine congrArg (· * _) (Finset.sum_congr rfl fun d _ => ?_)
    rw [if_pos hs.2, mul_comm]
  next => exact bits_bot

theorem kCtx_at (h : Fin 2) (k : Fin 256) (d : Fin 128) : kCtx X (ix4 0 k h d) = at2 X (8192 + k) (1024 + h * 128 + d) := by
  pointwise [kCtx]
  unfold at2
  rw [dif_pos ⟨by omega, by omega⟩]
  exact congrArg X ((ix2_inj ..).2 ⟨rfl, Fin.ext (by dsimp only <;> omega)⟩)

theorem vCtx_at (h : Fin 2) (k : Fin 256) (d : Fin 128) : vCtx X (ix4 0 k h d) = at2 X (8192 + k) (1280 + h * 128 + d) := by
  pointwise [vCtx]
  unfold at2
  rw [dif_pos ⟨by omega, by omega⟩]
  exact congrArg X ((ix2_inj ..).2 ⟨rfl, Fin.ext (by dsimp only <;> omega)⟩)

theorem qCtx_at (h : Fin 2) (g : Fin 4) (r : Fin 256) (d : Fin 128) : qCtx X (ix5 0 r h g d) = at2 X (8192 + r) ((h * 4 + g) * 128 + d) := by
  pointwise [qCtx]
  unfold at2
  rw [dif_pos ⟨by omega, by omega⟩]
  exact congrArg X ((ix2_inj ..).2 ⟨rfl, Fin.ext (by dsimp only <;> omega)⟩)

theorem sCtx_at (b : Fin 64) (h : Fin 2) (g : Fin 4) (r : Fin 128) (k : Fin 256) :
    sCtx X (ix6 0 b h g r k) = score X (h * 4 + g) (b * 128 + r) (8192 + k) := by
  have hdiv : ((h : ℕ) * 4 + g) / 4 = h := by omega
  pointwise [sCtx, scl_at]
  rw [score, hdiv]
  refine congrArg (· * _) (Finset.sum_congr rfl fun d _ => ?_)
  rw [kCtx_at, qLat_at, mul_comm]

theorem sCC_at (h : Fin 2) (g : Fin 4) (r : Fin 256) (k : Fin 256) :
    sCC X (ix5 0 h g r k) = score X (h * 4 + g) (8192 + r) (8192 + k) := by
  have hdiv : ((h : ℕ) * 4 + g) / 4 = h := by omega
  pointwise [sCC, scl_at]
  rw [score, hdiv]
  refine congrArg (· * _) (Finset.sum_congr rfl fun d _ => ?_)
  rw [kCtx_at, qCtx_at, mul_comm]

theorem fiber (b : Fin 64) (h : Fin 2) (g : Fin 4) (r : Fin 128) (i : S1x64x2x4x128x640.Idx) :
    reducesTo_S1x64x2x4x128x640_S1x64x2x4x128_d5.drop i = ix5 0 b h g r ↔ ∃ k : Fin 640, ix6 0 b h g r k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem sMax_at (b : Fin 64) (h : Fin 2) (g : Fin 4) (r : Fin 128) :
    sMax X (ix5 0 b h g r) = Finset.univ.sup fun k : Fin 640 => (sAll X (ix6 0 b h g r k) : EReal) := by
  pointwise [sMax]
  rw [bits_bot]
  exact Finset.fold_filter_eq_fold_of_fiber max _ (fun k : Fin 640 => (ix6 0 b h g r k : S1x64x2x4x128x640.Idx)) (fun _ _ e => congrFun e 5) (fiber b h g r) ⊥ _

theorem eSum_at (b : Fin 64) (h : Fin 2) (g : Fin 4) (r : Fin 128) :
    eSum X S (ix5 0 b h g r) = ∑ k : Fin 640, (eAll X S (ix6 0 b h g r k) : EReal) := by
  pointwise [eSum]
  refine (congrArg (_ + ·) (Finset.sum_filter_eq_sum_of_fiber _ (fun k : Fin 640 => (ix6 0 b h g r k : S1x64x2x4x128x640.Idx)) (fun _ _ e => congrFun e 5) (fiber b h g r) _)).trans ?_
  simp

end Cert.Attn.Ref

end
-- ==== Proof.Attn.Rows.lean ====
module

public import proofs.«01_k».proof.Proof.Attn.Ref

@[expose] public section

set_option maxRecDepth 16384

noncomputable section

namespace Cert.Attn.Ref

open Cert.ReferenceIdeal Cert.ReferenceIdeal.Gen Idealize.ShloMosaic Idealize.ShloMosaic.TcCoe Idealize.SL.Sem

variable (X : FVec Ideal S8448x1536 .bf16) (S : FVec Ideal S8 .f32)

theorem snk_at (h : Fin 2) (g : Fin 4) : snk S (ix4 h g 0 0) = S (ix1 ⟨h * 4 + g, by omega⟩) := by
  pointwise [snk]

theorem seen (b : Fin 64) (r : Fin 128) (j : ℕ) : j ∈ window (b * 128 + r) ↔ ∃ k : Fin 384, Sees b r k ∧ (b : ℕ) * 128 + k - 128 = j := by
  simp only [window, Finset.mem_filter, Finset.mem_range, Sees]
  constructor
  · rintro ⟨h1, h2, h3, h4⟩
    exact ⟨⟨j + 128 - b * 128, by omega⟩, by dsimp only <;> omega, by dsimp only <;> omega⟩
  · rintro ⟨k, hk, rfl⟩
    omega

theorem seen_inj (b : Fin 64) (r : Fin 128) (k k' : Fin 384) (hk : Sees b r k) (hk' : Sees b r k')
    (e : (b : ℕ) * 128 + k - 128 = (b : ℕ) * 128 + k' - 128) : k = k' := by
  simp only [Sees] at hk hk'
  apply Fin.ext; omega

theorem sAll_lo (b : Fin 64) (h : Fin 2) (g : Fin 4) (r : Fin 128) (k : Fin 256) (K : Fin 640) (hK : (K : ℕ) = k) :
    sAll X (ix6 0 b h g r K) = score X (h * 4 + g) (b * 128 + r) (8192 + k) := by
  obtain ⟨K, hlt⟩ := K
  dsimp only at hK; subst hK
  pointwise [sAll]
  exact sCtx_at X b h g r k

theorem sAll_hi (b : Fin 64) (h : Fin 2) (g : Fin 4) (r : Fin 128) (k : Fin 384) (K : Fin 640) (hK : (K : ℕ) = 256 + k) :
    sAll X (ix6 0 b h g r K) = if Sees b r k then score X (h * 4 + g) (b * 128 + r) ((b : ℕ) * 128 + k - 128) else (⊥ : EReal) := by
  obtain ⟨K, hlt⟩ := K
  dsimp only at hK; subst hK
  pointwise [sAll]
  rw [← sWin_at X b h g r k]

/-- The larger of a row's value and its head's, at an entry. -/
theorem max_bcast (T : FVec Ideal S1x64x2x4x128 .f32) (U : FVec Ideal S2x4x1x1 .f32) (b : Fin 64) (h : Fin 2) (g : Fin 4) (r : Fin 128) :
    (maximumf (broadcastInDim S1x64x2x4x128x1 ![0, 1, 2, 3, 4] bcast_S1x64x2x4x128_S1x64x2x4x128x1_0_1_2_3_4 T)
      (broadcastInDim S1x64x2x4x128x1 ![0, 1, 2, 3, 4, 5] bcast_S1x1x2x4x1x1_S1x64x2x4x128x1_0_1_2_3_4_5
        (broadcastInDim S1x1x2x4x1x1 ![2, 3, 4, 5] bcast_S2x4x1x1_S1x1x2x4x1x1_2_3_4_5 U)) : FVec Ideal S1x64x2x4x128x1 .f32) (ix6 0 b h g r 0)
      = max (T (ix5 0 b h g r)) (U (ix4 h g 0 0)) := by
  pointwise

theorem top0_max (b : Fin 64) (h : Fin 2) (g : Fin 4) (r : Fin 128) :
    top0 X S (ix6 0 b h g r 0) = max (Finset.univ.sup fun k : Fin 640 => (sAll X (ix6 0 b h g r k) : EReal)) (S (ix1 ⟨h * 4 + g, by omega⟩)) := by
  unfold top0
  rw [max_bcast, sMax_at, snk_at]

theorem sup_row (b : Fin 64) (h : Fin 2) (g : Fin 4) (r : Fin 128) :
    (Finset.univ.sup fun k : Fin 640 => (sAll X (ix6 0 b h g r k) : EReal))
      = max (Finset.univ.sup fun k : Fin 256 => score X (h * 4 + g) (b * 128 + r) (8192 + k)) ((window (b * 128 + r)).sup (score X (h * 4 + g) (b * 128 + r))) := by
  refine (sup_append (n := 640) (a := 256) (b := 384) (by norm_num) (fun k => score X (h * 4 + g) (b * 128 + r) (8192 + k))
    (fun k => if Sees b r k then score X (h * 4 + g) (b * 128 + r) ((b : ℕ) * 128 + k - 128) else (⊥ : EReal)) _
    (fun k K hK => sAll_lo X b h g r k K hK) (fun k K hK => sAll_hi X b h g r k K hK)).trans (congrArg (max _) ?_)
  exact sup_window (Sees b r) (fun k => (b : ℕ) * 128 + k - 128) (window (b * 128 + r)) (score X (h * 4 + g) (b * 128 + r)) _ (seen b r) (fun _ => rfl)

theorem top0_at (b : Fin 64) (h : Fin 2) (g : Fin 4) (r : Fin 128) :
    top0 X S (ix6 0 b h g r 0) = top X (S (ix1 ⟨h * 4 + g, by omega⟩)) (h * 4 + g) (b * 128 + r) := by
  rw [top0_max, sup_row, top]

theorem eAll_lo (b : Fin 64) (h : Fin 2) (g : Fin 4) (r : Fin 128) (k : Fin 256) (K : Fin 640) (hK : (K : ℕ) = k) :
    eAll X S (ix6 0 b h g r K) = weight X (S (ix1 ⟨h * 4 + g, by omega⟩)) (h * 4 + g) (b * 128 + r) (8192 + k) := by
  pointwise [eAll, top0_at]
  rw [sAll_lo X b h g r k K hK]
  rfl

theorem eAll_hi (b : Fin 64) (h : Fin 2) (g : Fin 4) (r : Fin 128) (k : Fin 384) (K : Fin 640) (hK : (K : ℕ) = 256 + k) :
    eAll X S (ix6 0 b h g r K) = if Sees b r k then weight X (S (ix1 ⟨h * 4 + g, by omega⟩)) (h * 4 + g) (b * 128 + r) ((b : ℕ) * 128 + k - 128) else (0 : EReal) := by
  pointwise [eAll, top0_at]
  rw [sAll_hi X b h g r k K hK]
  split
  · rfl
  · rw [EReal.bot_sub]; simp

theorem pAll_at (b : Fin 64) (h : Fin 2) (g : Fin 4) (r : Fin 128) (K : Fin 640) :
    pAll X S (ix6 0 b h g r K) = Ideal.div (eAll X S (ix6 0 b h g r K)) (den X (S (ix1 ⟨h * 4 + g, by omega⟩)) (h * 4 + g) (b * 128 + r)) := by
  pointwise [pAll]
  refine congrArg (Ideal.div _) ?_
  rw [eSum_at, snk_at, top0_at, den]
  refine congrArg (· + _) ?_
  refine (Fin.sum_univ_add (a := 256) (b := 384) _).trans (congrArg₂ (· + ·) (Finset.sum_congr rfl fun k _ => eAll_lo X S b h g r k _ rfl) ?_)
  exact sum_window (Sees b r) (fun k => (b : ℕ) * 128 + k - 128) (window (b * 128 + r)) (weight X (S (ix1 ⟨h * 4 + g, by omega⟩)) (h * 4 + g) (b * 128 + r))
    _ (seen_inj b r) (seen b r) (fun k => eAll_hi X S b h g r k _ rfl)

/-- The reference's result at a latent row. -/
theorem oBlk_at (hX : Finite X) (b : Fin 64) (h : Fin 2) (g : Fin 4) (r d : Fin 128) (s : ℝ) (hs : S (ix1 ⟨h * 4 + g, by omega⟩) = (s : EReal)) :
    oBlk X S (ix6 0 b r h g d) = out X (S (ix1 ⟨h * 4 + g, by omega⟩)) (h * 4 + g) (b * 128 + r) d := by
  have hdiv : ((h : ℕ) * 4 + g) / 4 = h := by omega
  obtain ⟨q, hq, e⟩ := den_real hX (a := h * 4 + g) (by omega) (b * 128 + r) s
  pointwise [oBlk]
  rw [hs, out_eq hX (by omega), hdiv]
  refine congrArg₂ (· + ·) (Finset.sum_congr rfl fun k _ => ?_) ?_
  · rw [vCtx_at, pAll_at, eAll_lo X S b h g r k _ rfl, hs]
  · refine sum_window (Sees b r) (fun k => (b : ℕ) * 128 + k - 128) (window (b * 128 + r))
      (fun j => at2 X j (1280 + h * 128 + d) * Ideal.div (weight X s (h * 4 + g) (b * 128 + r) j) (den X s (h * 4 + g) (b * 128 + r)))
      _ (seen_inj b r) (seen b r) fun k => ?_
    rw [vBand_at, pAll_at, eAll_hi X S b h g r k _ rfl, hs]
    by_cases hk : Sees b r k
    · rw [if_pos hk, if_pos hk, if_pos hk.2]
    · rw [if_neg hk, if_neg hk, e, Ideal.div_coe hq.ne', zero_mul, mul_zero]

end Cert.Attn.Ref

end
-- ==== Proof.Attn.Pay.lean ====
module

public import proofs.«01_k».proof.Proof.Gen.KernelIdeal.Value
public import proofs.«01_k».proof.Proof.Attn.Spec
public import proofs.«01_k».proof.Proof.Attn.Word
public import Idealize.ShloMosaic.Lib.Pipeline.ValueKit

@[expose] public section

set_option maxRecDepth 16384

noncomputable section

namespace Cert.Attn.Kernel

open Cert.KernelIdeal Cert.KernelIdeal.Gen Idealize.ShloMosaic Idealize.ShloMosaic.TcCoe Idealize.SL.Sem
open Idealize.ShloMosaic.Pipeline (Dat)

/-- The named scale is the inverse square root of the head's width. -/
theorem scale : Named.named (F := Ideal) κ "scale" (φ := .f32) 0x3DB504F3#32 = (((Real.sqrt 128)⁻¹ : ℝ) : EReal) :=
  IdealRules.named_const.ideal_named_scalar _ _ _ _ rfl

/-- The named mask is −∞. -/
theorem mask : Named.named (F := Ideal) κ "mask" (φ := .f32) 0xF149F2CA#32 = (⊥ : EReal) :=
  IdealRules.named_const.ideal_named_scalar _ _ _ _ rfl

/-- The pattern of −∞ reads as −∞. -/
theorem bits_bot : Ideal.ofBits FTy.f32 4286578688#32 = (⊥ : EReal) := by
  simp [Ideal.ofBits, Ideal.ieee]

/-- The queries stacked by head: row `g * 128 + r` is query row `r` of head `g`. -/
theorem pay6 (q : FVec Ideal S128x512 .bf16) (g : Fin 4) (r d : Fin 128) :
    k0_pay6 (F := Ideal) q (ix2 ⟨g * 128 + r, by omega⟩ d) = q (ix2 r ⟨g * 128 + d, by omega⟩) := by
  pointwise [k0_pay6]
  split_ifs <;> exact congrArg q ((ix2_inj ..).2 ⟨Fin.ext (by dsimp only; omega), Fin.ext (by dsimp only; omega)⟩)

/-- A scaled product of a query row and a context key. -/
theorem pay7 (q : FVec Ideal S128x512 .bf16) (k : FVec Ideal S256x128 .bf16) (g : Fin 4) (r : Fin 128) (j : Fin 256) :
    k0_pay7 (F := Ideal) q k (ix2 ⟨g * 128 + r, by omega⟩ j)
      = ((∑ d : Fin 128, q (ix2 r ⟨g * 128 + d, by omega⟩) * k (ix2 j d)) * (((Real.sqrt 128)⁻¹ : ℝ) : EReal) : EReal) := by
  pointwise [k0_pay7, scale, pay6]

/-- A scaled product of a query row and a key of the window. -/
theorem pay8 (q : FVec Ideal S128x512 .bf16) (k : FVec Ideal S384x128 .bf16) (g : Fin 4) (r : Fin 128) (j : Fin 384) :
    k0_pay8 (F := Ideal) q k (ix2 ⟨g * 128 + r, by omega⟩ j)
      = ((∑ d : Fin 128, q (ix2 r ⟨g * 128 + d, by omega⟩) * k (ix2 j d)) * (((Real.sqrt 128)⁻¹ : ℝ) : EReal) : EReal) := by
  pointwise [k0_pay8, scale, pay6]

/-- The masked score: −∞ off the window. -/
theorem pay12 (b : Fin 66) (s : FVec Ideal S512x384 .f32) (g : Fin 4) (r : Fin 128) (j : Fin 384) :
    k0_pay12 (F := Ideal) (Scalar.cmpi CmpIPredicate.slt (BitVec.ofNat 32 (b : ℕ)) 64#32)
        (Scalar.minsi (7808#32) (Scalar.maxsi (0#32) (Scalar.muli (Scalar.subi (BitVec.ofNat 32 (b : ℕ)) 1#32) 128#32))) s
        (iota .tc S512x384 32 [1] iota_S512x384_d1_w32) (Scalar.muli (BitVec.ofNat 32 (b : ℕ)) 128#32) 128#32 k0_pay9 k0_pay10 k0_pay11
        (ix2 ⟨g * 128 + r, by omega⟩ j)
      = (if (b : ℕ) < 64 ∧ min 7808 (((b : ℕ) - 1) * 128) + (j : ℕ) ≤ (b : ℕ) * 128 + (r : ℕ) + 128 ∧ (b : ℕ) * 128 + (r : ℕ) ≤ min 7808 (((b : ℕ) - 1) * 128) + (j : ℕ) + 128
          then s (ix2 ⟨g * 128 + r, by omega⟩ j) else (⊥ : EReal)) := by
  pointwise [k0_pay12, k0_pay9, k0_pay10, k0_pay11, mask]
  rw [row_rem ⟨g * 128 + r, by omega⟩, start, base, latent,
    show (g * 128 + r : ℕ) % 128 = r by omega]
  simp only [IntOp.addi, ← BitVec.ofNat_add]
  rw [near _ _ (by omega) (by omega), WordCmp.andi_ofBool, ← Bool.decide_and, select_decide]

/-- The sink logit of a row is that of its head. -/
theorem pay16 (e0 e1 e2 e3 : EReal) (g : Fin 4) (r : Fin 128) :
    k0_pay16 (F := Ideal) k0_pay13 k0_pay14 k0_pay15 e0 e1 e2 e3 (ix2 ⟨g * 128 + r, by omega⟩ 0) = ![e0, e1, e2, e3] g := by
  pointwise [k0_pay16, k0_pay13, k0_pay14, k0_pay15]
  rw [row_head ⟨g * 128 + r, by omega⟩]
  have : (g * 128 + r : ℕ) / 128 = g := by omega
  simp only [this]
  fin_cases g <;> rfl

/-- The softmax over a row's context scores, window scores and sink logit, applied to the values. -/
theorem pay1 (vc : FVec Ideal S256x128 .bf16) (vw : FVec Ideal S384x128 .bf16) (sc : FVec Ideal S512x256 .f32) (sl : FVec Ideal S512x384 .f32)
    (v79 : IVec S512x1 32) (v80 : FVec Ideal S512x1 .f32) (v82 : IVec S512x1 1) (e0 e1 e2 e3 : EReal) (r : Fin 512) (d : Fin 128)
    (s t : EReal) (hs : k0_pay16 (F := Ideal) v79 v80 v82 e0 e1 e2 e3 (ix2 r 0) = s)
    (ht : max (max (Finset.univ.sup fun k : Fin 256 => (sc (ix2 r k) : EReal)) (Finset.univ.sup fun k : Fin 384 => (sl (ix2 r k) : EReal))) s = t) :
    k0_pay1 (F := Ideal) vc vw (k0_pay16 v79 v80 v82 e0 e1 e2 e3) (k0_pay17 sc sl v79 v80 v82 e0 e1 e2 e3) (k0_pay18 sc sl v79 v80 v82 e0 e1 e2 e3)
        (k0_pay19 sc sl v79 v80 v82 e0 e1 e2 e3) (k0_pay20 sc sl v79 v80 v82 e0 e1 e2 e3) (k0_pay21 sc sl v79 v80 v82 e0 e1 e2 e3) (ix2 r d)
      = Ideal.div ((∑ k : Fin 256, Ideal.exp (sc (ix2 r k) - t) * vc (ix2 k d)) + ∑ k : Fin 384, Ideal.exp (sl (ix2 r k) - t) * vw (ix2 k d))
          ((∑ k : Fin 256, Ideal.exp (sc (ix2 r k) - t)) + (∑ k : Fin 384, Ideal.exp (sl (ix2 r k) - t)) + Ideal.exp (s - t)) := by
  generalize h16 : k0_pay16 (F := Ideal) v79 v80 v82 e0 e1 e2 e3 = u at hs ⊢
  pointwise [k0_pay1, k0_pay17, k0_pay18, k0_pay19, k0_pay20, k0_pay21, h16]
  rw [bits_bot]
  simp only [fold_max, hs, ht]

/-- What the kernel computes for row `r` of head `g` of block `(h, b)` from its blocks of the array `X` is the windowed attention. -/
theorem block (X : FVec Ideal S8448x1536 .bf16) (h : Fin 2) (b : Fin 66) (q : FVec Ideal S128x512 .bf16) (kc vc : FVec Ideal S256x128 .bf16)
    (kw vw : FVec Ideal S384x128 .bf16) (e0 e1 e2 e3 : EReal)
    (hq : ∀ r c, q (ix2 r c) = at2 X (b * 128 + r) (h * 512 + c))
    (hkc : ∀ k d, kc (ix2 k d) = at2 X (8192 + k) (1024 + h * 128 + d))
    (hvc : ∀ k d, vc (ix2 k d) = at2 X (8192 + k) (1280 + h * 128 + d))
    (hkw : ∀ k d, kw (ix2 k d) = at2 X (min 7808 (((b : ℕ) - 1) * 128) + k) (1024 + h * 128 + d))
    (hvw : ∀ k d, vw (ix2 k d) = at2 X (min 7808 (((b : ℕ) - 1) * 128) + k) (1280 + h * 128 + d))
    (sc : FVec Ideal S512x256 .f32) (sl : FVec Ideal S512x384 .f32) (hsc : sc = k0_pay7 q kc)
    (hsl : sl = k0_pay12 (F := Ideal) (Scalar.cmpi CmpIPredicate.slt (BitVec.ofNat 32 (b : ℕ)) 64#32)
        (Scalar.minsi (7808#32) (Scalar.maxsi (0#32) (Scalar.muli (Scalar.subi (BitVec.ofNat 32 (b : ℕ)) 1#32) 128#32))) (k0_pay8 q kw)
        (iota .tc S512x384 32 [1] iota_S512x384_d1_w32) (Scalar.muli (BitVec.ofNat 32 (b : ℕ)) 128#32) 128#32 k0_pay9 k0_pay10 k0_pay11)
    (g : Fin 4) (r d : Fin 128) (R : Fin 512) (hR : (R : ℕ) = g * 128 + r) :
    k0_pay1 (F := Ideal) vc vw (k0_pay16 k0_pay13 k0_pay14 k0_pay15 e0 e1 e2 e3) (k0_pay17 sc sl k0_pay13 k0_pay14 k0_pay15 e0 e1 e2 e3)
        (k0_pay18 sc sl k0_pay13 k0_pay14 k0_pay15 e0 e1 e2 e3) (k0_pay19 sc sl k0_pay13 k0_pay14 k0_pay15 e0 e1 e2 e3)
        (k0_pay20 sc sl k0_pay13 k0_pay14 k0_pay15 e0 e1 e2 e3) (k0_pay21 sc sl k0_pay13 k0_pay14 k0_pay15 e0 e1 e2 e3) (ix2 R d)
      = out X (![e0, e1, e2, e3] g) (h * 4 + g) (b * 128 + r) d := by
  obtain ⟨R, hlt⟩ := R
  dsimp only at hR
  subst hR
  have hdiv : ((h : ℕ) * 4 + g) / 4 = h := by omega
  have hcol : ∀ e : ℕ, (h : ℕ) * 512 + (g * 128 + e) = (h * 4 + g) * 128 + e := fun e => by omega
  have hc : ∀ k : Fin 256, sc (ix2 ⟨g * 128 + r, by omega⟩ k) = score X (h * 4 + g) (b * 128 + r) (8192 + k) := fun k => by
    rw [hsc, pay7, score, hdiv]
    refine congrArg (· * _) (Finset.sum_congr rfl fun e _ => ?_)
    rw [hq, hkc, ← hcol]
  have hl : ∀ k : Fin 384, sl (ix2 ⟨g * 128 + r, by omega⟩ k)
      = if (b : ℕ) < 64 ∧ min 7808 (((b : ℕ) - 1) * 128) + (k : ℕ) ≤ (b : ℕ) * 128 + (r : ℕ) + 128 ∧ (b : ℕ) * 128 + (r : ℕ) ≤ min 7808 (((b : ℕ) - 1) * 128) + (k : ℕ) + 128
        then score X (h * 4 + g) (b * 128 + r) (min 7808 (((b : ℕ) - 1) * 128) + k) else ⊥ := fun k => by
    rw [hsl, pay12]
    refine if_congr Iff.rfl ?_ rfl
    rw [pay8, score, hdiv]
    refine congrArg (· * _) (Finset.sum_congr rfl fun e _ => ?_)
    rw [hq, hkw, ← hcol]
  have hW : ∀ j, j ∈ window (b * 128 + r) ↔ ∃ k : Fin 384, ((b : ℕ) < 64 ∧ min 7808 (((b : ℕ) - 1) * 128) + (k : ℕ) ≤ (b : ℕ) * 128 + (r : ℕ) + 128
      ∧ (b : ℕ) * 128 + (r : ℕ) ≤ min 7808 (((b : ℕ) - 1) * 128) + (k : ℕ) + 128) ∧ min 7808 (((b : ℕ) - 1) * 128) + (k : ℕ) = j := fun j => by
    simp only [window, Finset.mem_filter, Finset.mem_range]
    constructor
    · rintro ⟨h1, h2, h3, h4⟩
      exact ⟨⟨j - min 7808 (((b : ℕ) - 1) * 128), by omega⟩, by dsimp only; omega, by dsimp only; omega⟩
    · rintro ⟨k, ⟨h1, h2, h3⟩, rfl⟩
      omega
  have hinj : ∀ k k' : Fin 384, min 7808 (((b : ℕ) - 1) * 128) + (k : ℕ) = min 7808 (((b : ℕ) - 1) * 128) + (k' : ℕ) → k = k' := fun k k' e => by
    apply Fin.ext; omega
  have htop : max (max (Finset.univ.sup fun k : Fin 256 => (sc (ix2 ⟨g * 128 + r, by omega⟩ k) : EReal))
      (Finset.univ.sup fun k : Fin 384 => (sl (ix2 ⟨g * 128 + r, by omega⟩ k) : EReal))) (![e0, e1, e2, e3] g)
      = top X (![e0, e1, e2, e3] g) (h * 4 + g) (b * 128 + r) := by
    rw [top]
    refine congrArg (max · _) (congrArg₂ max (congrArg _ (funext hc)) ?_)
    exact sup_window _ _ _ _ _ hW hl
  rw [pay1 _ _ _ _ _ _ _ _ _ _ _ _ _ _ _ (pay16 e0 e1 e2 e3 g r) htop, out, den]
  refine congrArg₂ Ideal.div (congrArg₂ (· + ·) ?_ ?_) (congrArg (· + _) (congrArg₂ (· + ·) ?_ ?_))
  · refine Finset.sum_congr rfl fun k _ => ?_
    rw [hc, hvc, hdiv]; rfl
  · refine sum_window _ _ _ (fun j => weight X (![e0, e1, e2, e3] g) (h * 4 + g) (b * 128 + r) j * at2 X j (1280 + (h * 4 + g) / 4 * 128 + d)) _ (fun k k' _ _ => hinj k k') hW fun k => ?_
    rw [hl, hvw, hdiv]
    split
    · rfl
    · rw [EReal.bot_sub]; simp
  · refine Finset.sum_congr rfl fun k _ => ?_
    rw [hc]; rfl
  · refine sum_window _ _ _ (fun j => weight X (![e0, e1, e2, e3] g) (h * 4 + g) (b * 128 + r) j) _ (fun k k' _ _ => hinj k k') hW fun k => ?_
    rw [hl]
    split
    · rfl
    · rw [EReal.bot_sub]; simp

end Cert.Attn.Kernel

end
-- ==== Proof.Attn.Block.lean ====
module

public import proofs.«01_k».proof.Proof.Attn.Pay

@[expose] public section

set_option maxRecDepth 16384

noncomputable section

namespace Cert.Attn.Kernel

open Cert.KernelIdeal Cert.KernelIdeal.Gen Idealize.ShloMosaic Idealize.ShloMosaic.TcCoe Idealize.SL.Sem
open Idealize.ShloMosaic.Pipeline (Dat)

/-- The block each window shows at grid point `t`, which is row block `t % 66` of key/value head `t / 66`. -/
theorem idx : ∀ t : Fin cfg0.N, win0_0.index t = ![0] ∧ win0_1.index t = ![t.val % 66, t.val / 66] ∧ win0_2.index t = ![0, 8 + t.val / 66]
    ∧ win0_3.index t = ![0, 10 + t.val / 66] ∧ win0_4.index t = ![t.val % 66, t.val / 66] :=
  (by decide +kernel : ∀ t : Fin grid0.N, _)

/-- The grid coordinates of point `t`. -/
theorem coords : ∀ t : Fin cfg0.N, (grid0.coords t 0 : ℕ) = t.val / 66 ∧ (grid0.coords t 1 : ℕ) = t.val % 66 :=
  (by decide +kernel : ∀ t : Fin grid0.N, _)

/-- Where the window's keys and values and the four sink logits are read. -/
theorem offs : ∀ t : Fin cfg0.N, k0_off1 (grid0.coords t) = ![min 7808 ((t.val % 66 - 1) * 128), 0]
    ∧ k0_off2 (grid0.coords t) 0#32 = ![t.val / 66 * 4] ∧ k0_off2 (grid0.coords t) 1#32 = ![t.val / 66 * 4 + 1]
    ∧ k0_off2 (grid0.coords t) 2#32 = ![t.val / 66 * 4 + 2] ∧ k0_off2 (grid0.coords t) 3#32 = ![t.val / 66 * 4 + 3] :=
  (by decide +kernel : ∀ t : Fin grid0.N, _)

/-- The attention's result array: rows by position, columns by head and component. -/
def G (X : FVec Ideal S8448x1536 .bf16) (S : FVec Ideal S8 .f32) : FVec Ideal S8448x1024 .bf16 := fun i =>
  out X (S (ix1 ⟨(i 1 : ℕ) / 128, by have : (i 1 : ℕ) < 1024 := (i 1).isLt; omega⟩)) ((i 1 : ℕ) / 128) (i 0) ((i 1 : ℕ) % 128)

/-- The attention's result array at an index given by its coordinates. -/
theorem G_at (X : FVec Ideal S8448x1536 .bf16) (S : FVec Ideal S8 .f32) (i : S8448x1024.Idx) (a p d : ℕ) (ha : a < 8)
    (h0 : (i 0 : ℕ) = p) (h1 : (i 1 : ℕ) / 128 = a) (hd : (i 1 : ℕ) % 128 = d) : out X (S (ix1 ⟨a, ha⟩)) a p d = G X S i := by
  subst h0 h1 hd; rfl

variable (m : (ℓ : Loc nD τ sig) → Buf (Elt Ideal) ℓ)

/-- A block of queries, as entries of the array. -/
theorem at_q (c : Dev nD) (t : Fin cfg0.N) (r : Fin 128) (l : Fin 512) :
    iblk m c 1 t (ix2 r l) = at2 (m ((c : Thread nD τ).loc main_arg0)) ((grid0.coords t 1 : ℕ) * 128 + r) ((grid0.coords t 0 : ℕ) * 512 + l) := by
  have ht : t.val < 132 := t.isLt
  rw [(coords t).1, (coords t).2, at2, dif_pos ⟨by omega, by omega⟩]
  blk_point [iblk, V, idx t]

/-- A column of keys, as entries of the array. -/
theorem at_k (c : Dev nD) (t : Fin cfg0.N) (r : Fin 8448) (l : Fin 128) :
    iblk m c 2 t (ix2 r l) = at2 (m ((c : Thread nD τ).loc main_arg0)) r (1024 + (grid0.coords t 0 : ℕ) * 128 + l) := by
  have ht : t.val < 132 := t.isLt
  rw [(coords t).1, at2, dif_pos ⟨by omega, by omega⟩]
  blk_point [iblk, V, idx t]

/-- A column of values, as entries of the array. -/
theorem at_v (c : Dev nD) (t : Fin cfg0.N) (r : Fin 8448) (l : Fin 128) :
    iblk m c 3 t (ix2 r l) = at2 (m ((c : Thread nD τ).loc main_arg0)) r (1280 + (grid0.coords t 0 : ℕ) * 128 + l) := by
  have ht : t.val < 132 := t.isLt
  rw [(coords t).1, at2, dif_pos ⟨by omega, by omega⟩]
  blk_point [iblk, V, idx t]

/-- A key of the window, at the offset the load uses. -/
theorem at_k_win (c : Dev nD) (t : Fin cfg0.N) (k : Fin 384) (d : Fin 128) (r : Fin 8448) (l : Fin 128)
    (hr : (r : ℕ) = k0_off1 (grid0.coords t) 0 + k) (hl : (l : ℕ) = k0_off1 (grid0.coords t) 1 + d) :
    iblk m c 2 t (ix2 r l) = at2 (m ((c : Thread nD τ).loc main_arg0)) (min 7808 (((grid0.coords t 1 : ℕ) - 1) * 128) + k)
      (1024 + (grid0.coords t 0 : ℕ) * 128 + d) := by
  rw [(offs t).1] at hr hl
  rw [at_k m c t r l, hr, hl, (coords t).2]
  simp

/-- A value of the window, at the offset the load uses. -/
theorem at_v_win (c : Dev nD) (t : Fin cfg0.N) (k : Fin 384) (d : Fin 128) (r : Fin 8448) (l : Fin 128)
    (hr : (r : ℕ) = k0_off1 (grid0.coords t) 0 + k) (hl : (l : ℕ) = k0_off1 (grid0.coords t) 1 + d) :
    iblk m c 3 t (ix2 r l) = at2 (m ((c : Thread nD τ).loc main_arg0)) (min 7808 (((grid0.coords t 1 : ℕ) - 1) * 128) + k)
      (1280 + (grid0.coords t 0 : ℕ) * 128 + d) := by
  rw [(offs t).1] at hr hl
  rw [at_v m c t r l, hr, hl, (coords t).2]
  simp

/-- A sink logit, where the load reads it. -/
theorem at_s (c : Dev nD) (t : Fin cfg0.N) (k n : Fin 8) (h : (k : ℕ) = n) :
    iblk m c 0 t (ix1 k) = m ((c : Thread nD τ).loc main_arg1) (ix1 n) := by
  obtain rfl := Fin.ext h
  blk_point [iblk, V, idx t]

/-- Head `g`'s part of a block. -/
theorem out_head (c : Dev nD) (t : Fin cfg0.N) (r : Fin 128) (l : Fin 512) (g : Fin 4) (x0 x1 : Fin 128) (h0 : (r : ℕ) = x0) (h1 : (l : ℕ) = g * 128 + x1)
    (hl : t.val / 66 * 4 + (l : ℕ) / 128 < 8) (e : EReal) (he : e = m ((c : Thread nD τ).loc main_arg1) (ix1 ⟨t.val / 66 * 4 + (l : ℕ) / 128, hl⟩)) :
    out (m ((c : Thread nD τ).loc main_arg0)) e ((grid0.coords t 0 : ℕ) * 4 + g) ((grid0.coords t 1 : ℕ) * 128 + x0) x1
      = out (m ((c : Thread nD τ).loc main_arg0)) (m ((c : Thread nD τ).loc main_arg1) (ix1 ⟨t.val / 66 * 4 + (l : ℕ) / 128, hl⟩))
        (t.val / 66 * 4 + (l : ℕ) / 128) (t.val % 66 * 128 + r) ((l : ℕ) % 128) := by
  rw [(coords t).1, (coords t).2, he, h0, show (l : ℕ) % 128 = x1 by omega]
  congr 1
  omega

/-- The kernel's block at grid point `t` is the attention at the block's rows and the four heads of its key/value head. -/
theorem point (c : Dev nD) (t : Fin cfg0.N) (r : Fin 128) (l : Fin 512) (hl : t.val / 66 * 4 + (l : ℕ) / 128 < 8) :
    outsAt0 m c t (ix2 r l) = out (m ((c : Thread nD τ).loc main_arg0)) (m ((c : Thread nD τ).loc main_arg1) (ix1 ⟨t.val / 66 * 4 + (l : ℕ) / 128, hl⟩))
      (t.val / 66 * 4 + (l : ℕ) / 128) (t.val % 66 * 128 + r) ((l : ℕ) % 128) := by
  unfold outsAt0; frame_out
  canon_tiles x h
  all_goals (simp only [ix2_0, ix2_1] at h0 h1)
  case piece0 =>
    pointwise [k0_pay5]
    refine (block (m ((c : Thread nD τ).loc main_arg0)) (grid0.coords t 0) (grid0.coords t 1) _ _ _ _ _ _ _ _ _ (at_q m c t) ?_ ?_ ?_ ?_ _ _ rfl rfl 3 (x 0) (x 1) _ (by simp)).trans ?_
    · intro k d; pointwise; exact at_k m c t _ _
    · intro k d; pointwise; exact at_v m c t _ _
    · intro k d; pointwise; exact at_k_win m c t _ _ _ _ rfl rfl
    · intro k d; pointwise; exact at_v_win m c t _ _ _ _ rfl rfl
    · exact out_head m c t r l 3 (x 0) (x 1) h0 (by simpa using h1) hl _ (at_s m c t _ _ (by dsimp only; rw [(offs t).2.2.2.2]; simp; omega))
  case piece1 =>
    pointwise [k0_pay4]
    refine (block (m ((c : Thread nD τ).loc main_arg0)) (grid0.coords t 0) (grid0.coords t 1) _ _ _ _ _ _ _ _ _ (at_q m c t) ?_ ?_ ?_ ?_ _ _ rfl rfl 2 (x 0) (x 1) _ (by simp)).trans ?_
    · intro k d; pointwise; exact at_k m c t _ _
    · intro k d; pointwise; exact at_v m c t _ _
    · intro k d; pointwise; exact at_k_win m c t _ _ _ _ rfl rfl
    · intro k d; pointwise; exact at_v_win m c t _ _ _ _ rfl rfl
    · exact out_head m c t r l 2 (x 0) (x 1) h0 (by simpa using h1) hl _ (at_s m c t _ _ (by dsimp only; rw [(offs t).2.2.2.1]; simp; omega))
  case piece2 =>
    pointwise [k0_pay3]
    refine (block (m ((c : Thread nD τ).loc main_arg0)) (grid0.coords t 0) (grid0.coords t 1) _ _ _ _ _ _ _ _ _ (at_q m c t) ?_ ?_ ?_ ?_ _ _ rfl rfl 1 (x 0) (x 1) _ (by simp)).trans ?_
    · intro k d; pointwise; exact at_k m c t _ _
    · intro k d; pointwise; exact at_v m c t _ _
    · intro k d; pointwise; exact at_k_win m c t _ _ _ _ rfl rfl
    · intro k d; pointwise; exact at_v_win m c t _ _ _ _ rfl rfl
    · exact out_head m c t r l 1 (x 0) (x 1) h0 (by simpa using h1) hl _ (at_s m c t _ _ (by dsimp only; rw [(offs t).2.2.1]; simp; omega))
  case piece3 =>
    pointwise [k0_pay2]
    refine (block (m ((c : Thread nD τ).loc main_arg0)) (grid0.coords t 0) (grid0.coords t 1) _ _ _ _ _ _ _ _ _ (at_q m c t) ?_ ?_ ?_ ?_ _ _ rfl rfl 0 (x 0) (x 1) _ (by simp)).trans ?_
    · intro k d; pointwise; exact at_k m c t _ _
    · intro k d; pointwise; exact at_v m c t _ _
    · intro k d; pointwise; exact at_k_win m c t _ _ _ _ rfl rfl
    · intro k d; pointwise; exact at_v_win m c t _ _ _ _ rfl rfl
    · exact out_head m c t r l 0 (x 0) (x 1) h0 (by simpa using h1) hl _ (at_s m c t _ _ (by dsimp only; rw [(offs t).2.1]; simp; omega))

/-- The kernel's result array is the attention's. -/
theorem final (c : Dev nD) : (dats m 0 c).arrAt 4 cfg0.N = G (m ((c : Thread nD τ).loc main_arg0)) (m ((c : Thread nD τ).loc main_arg1)) := by
  refine (dats m 0 c).arrAt_eq_of_covers 4 _ (by decide +kernel) fun t _ y => ?_
  have ht : t.val < 132 := t.isLt
  blk_simp
  rw [after0_4]
  idx_vars y
  refine (point m c t y0 y1 (by omega)).trans (G_at _ _ _ _ _ _ _ ?_ ?_ ?_)
  all_goals (blk_simp [idx t] <;> try omega)

end Cert.Attn.Kernel

end
-- ==== Proof.Attn.Res.lean ====
module

public import proofs.«01_k».proof.Proof.Attn.Rows
public import proofs.«01_k».proof.Proof.Attn.Block

@[expose] public section

set_option maxRecDepth 16384

noncomputable section

namespace Cert.Attn.Ref

open Cert.ReferenceIdeal Cert.ReferenceIdeal.Gen Idealize.ShloMosaic Idealize.ShloMosaic.TcCoe Idealize.SL.Sem

variable (X : FVec Ideal S8448x1536 .bf16) (S : FVec Ideal S8 .f32)

/-- A context row sees no latent keys. -/
theorem window_ctx (r : Fin 256) : window (8192 + r) = ∅ := by
  ext j; simp [window]

theorem topC_at (h : Fin 2) (g : Fin 4) (r : Fin 256) :
    topC X S (ix5 0 h g r 0) = top X (S (ix1 ⟨h * 4 + g, by omega⟩)) (h * 4 + g) (8192 + r) := by
  pointwise [topC, sCC_at, snk_at]
  rw [bits_bot, fold_max, top, window_ctx, Finset.sup_empty, max_bot_right]

theorem eCC_at (h : Fin 2) (g : Fin 4) (r k : Fin 256) :
    eCC X S (ix5 0 h g r k) = weight X (S (ix1 ⟨h * 4 + g, by omega⟩)) (h * 4 + g) (8192 + r) (8192 + k) := by
  pointwise [eCC, sCC_at]
  rw [topC_at]
  rfl

theorem pCC_at (h : Fin 2) (g : Fin 4) (r k : Fin 256) :
    pCC X S (ix5 0 h g r k) = Ideal.div (weight X (S (ix1 ⟨h * 4 + g, by omega⟩)) (h * 4 + g) (8192 + r) (8192 + k))
      (den X (S (ix1 ⟨h * 4 + g, by omega⟩)) (h * 4 + g) (8192 + r)) := by
  pointwise [pCC, eCC_at]
  rw [den, window_ctx, Finset.sum_empty, add_zero, snk_at, topC_at]

/-- The reference's result at a context row. -/
theorem oGrp_at (hX : Finite X) (h : Fin 2) (g : Fin 4) (r : Fin 256) (d : Fin 128) (s : ℝ) (hs : S (ix1 ⟨h * 4 + g, by omega⟩) = (s : EReal)) :
    oGrp X S (ix5 0 r h g d) = out X (S (ix1 ⟨h * 4 + g, by omega⟩)) (h * 4 + g) (8192 + r) d := by
  have hdiv : ((h : ℕ) * 4 + g) / 4 = h := by omega
  pointwise [oGrp, vCtx_at, pCC_at]
  rw [hs, out_eq hX (by omega), hdiv, window_ctx, Finset.sum_empty, add_zero]

/-- The reference's result at row `i` and column `l` is the attention there. -/
theorem res_at (hX : Finite X) (hS : ∀ k, ∃ s : ℝ, S (ix1 k) = (s : EReal)) (i : Fin 8448) (l : Fin 1024) :
    res X S (ix2 i l) = out X (S (ix1 ⟨l / 128, by omega⟩)) (l / 128) i (l % 128) := by
  pointwise [res, oLat, oCtx]
  by_cases hi : (i : ℕ) < 8192
  · obtain ⟨s, hs⟩ := hS ⟨l / 128, by omega⟩
    have e1 : (l : ℕ) / 512 * 4 + l / 128 % 4 = l / 128 := by omega
    have e2 : (i : ℕ) / 128 * 128 + i % 128 = i := by omega
    have := oBlk_at X S hX ⟨i / 128, by omega⟩ ⟨l / 512, by omega⟩ ⟨l / 128 % 4, by omega⟩ ⟨i % 128, by omega⟩ ⟨l % 128, by omega⟩ s
      (by rw [← hs]; exact congrArg (fun z => S (ix1 z)) (Fin.ext e1))
    rw [dif_pos hi, this]
    dsimp only
    simp only [e1, e2]
  · obtain ⟨s, hs⟩ := hS ⟨l / 128, by omega⟩
    have e1 : (l : ℕ) / 512 * 4 + l / 128 % 4 = l / 128 := by omega
    have e2 : 8192 + ((i : ℕ) - 8192) = i := by omega
    have := oGrp_at X S hX ⟨l / 512, by omega⟩ ⟨l / 128 % 4, by omega⟩ ⟨i - 8192, by omega⟩ ⟨l % 128, by omega⟩ s
      (by rw [← hs]; exact congrArg (fun z => S (ix1 z)) (Fin.ext e1))
    rw [dif_neg hi, this]
    dsimp only
    simp only [e1, e2]

/-- The reference's result is the attention at every entry. -/
theorem res_eq_G (hX : Finite X) (hS : ∀ k, ∃ s : ℝ, S (ix1 k) = (s : EReal)) : res X S = Cert.Attn.Kernel.G X S := by
  funext i
  idx_vars i
  exact res_at X S hX hS _ _

end Cert.Attn.Ref

end
-- ==== Proof.Attn.Pre.lean ====
module

public import proofs.«01_k».proof.Proof.Gen.Pre_finite
public import proofs.«01_k».proof.Proof.Attn.Spec
public import Idealize.ShloMosaic.Lib.ReduceAll
public import Idealize.ShloMosaic.Lib.Pointwise

@[expose] public section

noncomputable section

namespace Cert.Attn.Pre

open Cert.Pre_finite Cert.Pre_finite.Gen Idealize.ShloMosaic

theorem inf_bf16 : (Ideal.ofBits .bf16 0x7F80#16 : EReal) = ⊤ := by simp [Ideal.ofBits, Ideal.ieee]

theorem inf_f32 : (Ideal.ofBits .f32 0x7F800000#32 : EReal) = ⊤ := by simp [Ideal.ofBits, Ideal.ieee]

/-- A number whose absolute value is below ∞ is real. -/
theorem real_of_abs {x : EReal} (h : max x (-x) < ⊤) : ∃ r : ℝ, x = r := by
  induction x using EReal.rec with
  | bot => simp at h
  | coe r => exact ⟨r, rfl⟩
  | top => simp at h

theorem both {a b : BitVec 1} (h : IntOp.andi a b = 1#1) : a = 1#1 ∧ b = 1#1 := by
  revert a b; decide

/-- A conjunction of bits is 1 only if every bit is. -/
theorem all_one {n : ℕ} (f : Fin n → BitVec 1) (W : Finset (Fin n)) (h : W.fold IntOp.andi 1#1 f = 1#1) : ∀ k ∈ W, f k = 1#1 := by
  induction W using Finset.induction_on with
  | empty => intro k hk; simp at hk
  | insert a W ha ih =>
    rw [Finset.fold_insert ha] at h
    intro k hk
    rcases Finset.mem_insert.1 hk with rfl | hk
    · exact (both h).1
    · exact ih (both h).2 k hk

theorem of_bit {p : Prop} [Decidable p] (h : BitVec.ofBool (decide p) = 1#1) : p := by
  by_contra hp
  rw [decide_eq_false hp] at h
  exact absurd h (by decide)

/-- What the precondition says: the queries, the keys and the sink logits are real. -/
theorem read (X : FVec Ideal S8448x1536 .bf16) (S : FVec Ideal S8 .f32) (h : fn (F := Ideal) X S = fun _ => 1#1) :
    Finite X ∧ ∀ k, ∃ s : ℝ, S (ix1 k) = (s : EReal) := by
  have hp : ∀ (n : Fin 8448) (c : Fin 1280), fn (F := Ideal) X S (ix2 n c) = 1#1 := fun n c => congrFun h _
  pointwise [fn] at hp
  rw [inf_bf16, inf_f32] at hp
  refine ⟨⟨fun n c hc => ?_⟩, fun k => ?_⟩
  · rw [at2]
    split
    · exact real_of_abs (of_bit (both (hp ⟨n, by omega⟩ ⟨c, hc⟩)).1)
    · exact ⟨0, rfl⟩
  · exact real_of_abs (of_bit (all_one _ _ (both (hp 0 0)).2 k (Finset.mem_univ _)))

end Cert.Attn.Pre

end
-- ==== Proof.Attn.Claims.lean ====
module

public import proofs.«01_k».proof.Defs
public import proofs.«01_k».proof.Proof.Gen.Kernel.Frame
public import proofs.«01_k».proof.Proof.Gen.KernelIdeal.Frame
public import proofs.«01_k».proof.Proof.Attn.Res
public import proofs.«01_k».proof.Proof.Attn.Pre
public import Idealize.ShloMosaic.Lib.Quiescent

@[expose] public section

noncomputable section

namespace Cert.Attn.Claims

open Idealize.ShloMosaic Idealize.SL.Sem

/-- The kernel runs, leaves its arguments and every semaphore counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

theorem frame_ideal_pre : Cert.quiescent_KernelIdeal_pre_finite := fun m ρ _ => Cert.KernelIdeal.Gen.frame m ρ

/-- The reference runs, leaves its arguments and every semaphore counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

theorem frame_reference_pre : Cert.quiescent_ReferenceIdeal_pre_finite := fun m ρ _ => frame_reference m ρ trivial

/-- The named constants are the literals' values. -/
theorem preserves : Cert.preserves_Kernel_KernelIdeal :=
  ⟨IdealRules.named_const.statement Cert.KernelIdeal.κ "scale" .f32 0x3DB504F3#32 _ rfl,
    IdealRules.named_const.statement Cert.KernelIdeal.κ "mask" .f32 0xF149F2CA#32 _ rfl⟩

/-- The windowed attention's kernel and its reference end with equal results, both the attention of `Spec`. -/
theorem algebraic : Cert.algebraic_KernelIdeal_ReferenceIdeal_pre_finite := by
  intro m ρ m' ρ' hpre hagree
  refine ⟨fun c => Kernel.G (m (c.tc.loc Cert.KernelIdeal.main_arg0)) (m (c.tc.loc Cert.KernelIdeal.main_arg1)),
    (θ_run Cert.KernelIdeal.defs _ _).mono (fun _ h c => ⟨(h c).1.trans (Kernel.final m c), (h c).2⟩) (Cert.KernelIdeal.Value.run_blocks m ρ),
    (θ_run Cert.ReferenceIdeal.defs _ _).mono (fun _ h c => ⟨(h c).1.trans ?_, (h c).2⟩) (Cert.ReferenceIdeal.Value.run (F := Ideal) m' ρ')⟩
  obtain ⟨hX, hS⟩ := Pre.read _ _ (hpre c)
  rw [Ref.res_eq, (hagree c).1, (hagree c).2]
  exact Ref.res_eq_G _ _ hX hS

end Cert.Attn.Claims

end
-- ==== Proof.Neigh.Spec.lean ====
/- The mathematics of the neighbourhood attention over the extended reals, apart from both programs: scores against the context
   keys and against the keys of a window of grid rows, their softmax, and the law that takes the division by the softmax's
   denominator in and out of the weighted sum of the values. -/
module

public import proofs.«01_k».proof.Proof.Attn.Spec

@[expose] public section

noncomputable section

namespace Cert.Neigh

open Idealize.ShloMosaic Cert.Attn

/-! ## A softmax over the context keys and a window's keys -/

/-- The weighted sum of the values over the sum of the weights, the weights the exponentials of the scores less their maximum. -/
def pair {n q : ℕ} (sc : Fin n → EReal) (sl : Fin q → EReal) (vc : Fin n → EReal) (vl : Fin q → EReal) : EReal :=
  Ideal.div ((∑ k, Ideal.exp (sc k - max (Finset.univ.sup sc) (Finset.univ.sup sl)) * vc k)
      + ∑ k, Ideal.exp (sl k - max (Finset.univ.sup sc) (Finset.univ.sup sl)) * vl k)
    ((∑ k, Ideal.exp (sc k - max (Finset.univ.sup sc) (Finset.univ.sup sl))) + ∑ k, Ideal.exp (sl k - max (Finset.univ.sup sc) (Finset.univ.sup sl)))

/-- The same over one set of keys. -/
def one {n : ℕ} (s v : Fin n → EReal) : EReal :=
  Ideal.div (∑ k, Ideal.exp (s k - Finset.univ.sup s) * v k) (∑ k, Ideal.exp (s k - Finset.univ.sup s))

/-- A maximum over a nonempty family of reals is real. -/
theorem sup_isReal {n : ℕ} (s : Fin (n + 1) → EReal) (h : ∀ k, ∃ r : ℝ, s k = (r : EReal)) : ∃ r : ℝ, Finset.univ.sup s = (r : EReal) := by
  have h1 : Finset.univ.sup s ≠ ⊤ := sup_real Finset.univ s fun k _ => h k
  have h2 : Finset.univ.sup s ≠ ⊥ := by
    obtain ⟨r, hr⟩ := h 0
    have := Finset.le_sup (f := s) (Finset.mem_univ 0)
    rw [hr] at this
    exact (lt_of_lt_of_le (EReal.bot_lt_coe r) this).ne'
  exact ⟨_, (EReal.coe_toReal h1 h2).symm⟩

/-- A sum of exponentials of reals over a nonempty family is a positive real. -/
theorem exps_real {n : ℕ} (s : Fin (n + 1) → EReal) (t : ℝ) (h : ∀ k, ∃ r : ℝ, s k = (r : EReal)) :
    ∃ r : ℝ, 0 < r ∧ ∑ k, Ideal.exp (s k - t) = (r : EReal) := by
  choose f hf using h
  refine ⟨∑ k, Real.exp (f k - t), Finset.sum_pos (fun k _ => Real.exp_pos _) ⟨0, Finset.mem_univ 0⟩, ?_⟩
  simp only [hf, ← EReal.coe_sub, Ideal.exp_coe]
  induction (Finset.univ : Finset (Fin (n + 1))) using Finset.induction_on with
  | empty => simp
  | insert a S ha ih => rw [Finset.sum_insert ha, Finset.sum_insert ha, ih, EReal.coe_add]

/-- A sum of exponentials of numbers below ∞ is a nonnegative real. -/
theorem exps_nonneg {n : ℕ} (s : Fin n → EReal) (t : ℝ) (h : ∀ k, s k ≠ ⊤) : ∃ r : ℝ, 0 ≤ r ∧ ∑ k, Ideal.exp (s k - t) = (r : EReal) := by
  have e : ∀ k, ∃ r : ℝ, 0 ≤ r ∧ Ideal.exp (s k - t) = (r : EReal) := fun k => by
    have hk := h k
    generalize s k = x at hk ⊢
    induction x using EReal.rec with
    | bot => exact ⟨0, le_rfl, by rw [EReal.bot_sub]; rfl⟩
    | coe r => exact ⟨Real.exp (r - t), (Real.exp_pos _).le, by rw [← EReal.coe_sub, Ideal.exp_coe]⟩
    | top => exact absurd rfl hk
  choose f hf using e
  refine ⟨∑ k, f k, Finset.sum_nonneg fun k _ => (hf k).1, ?_⟩
  simp only [fun k => (hf k).2]
  induction (Finset.univ : Finset (Fin n)) using Finset.induction_on with
  | empty => simp
  | insert a S ha ih => rw [Finset.sum_insert ha, Finset.sum_insert ha, ih, EReal.coe_add]

/-- A maximum of numbers below ∞ is below ∞. -/
theorem sup_ne_top {n : ℕ} (s : Fin n → EReal) (h : ∀ k, s k ≠ ⊤) : Finset.univ.sup s ≠ ⊤ :=
  ((Finset.sup_lt_iff (bot_lt_top)).2 fun k _ => lt_top_iff_ne_top.2 (h k)).ne

/-- A quotient of sums over a positive real is a sum of normalised terms. -/
theorem sum_div {n : ℕ} (w v : Fin n → EReal) {r : ℝ} (hr : 0 < r) :
    (∑ k, w k * v k) * ((1 / r : ℝ) : EReal) = ∑ k, v k * Ideal.div (w k) (r : EReal) := by
  rw [sum_mul_real _ _ (by positivity : 0 ≤ 1 / r)]
  refine Finset.sum_congr rfl fun k _ => ?_
  rw [Ideal.div_coe hr.ne', mul_comm (w k), mul_assoc]

/-- With real scores of the first kind and scores below ∞ of the second the division by the denominator distributes over both sums. -/
theorem pair_eq {n q : ℕ} (sc : Fin (n + 1) → EReal) (sl : Fin q → EReal) (vc : Fin (n + 1) → EReal) (vl : Fin q → EReal)
    (hc : ∀ k, ∃ r : ℝ, sc k = (r : EReal)) (hl : ∀ k, sl k ≠ ⊤) (t D : EReal)
    (ht : t = max (Finset.univ.sup sc) (Finset.univ.sup sl)) (hD : D = (∑ k, Ideal.exp (sc k - t)) + ∑ k, Ideal.exp (sl k - t)) :
    pair sc sl vc vl = (∑ k, vc k * Ideal.div (Ideal.exp (sc k - t)) D) + ∑ k, vl k * Ideal.div (Ideal.exp (sl k - t)) D := by
  obtain ⟨p, hp⟩ := sup_isReal sc hc
  have hu := sup_ne_top sl hl
  have hmax : ∃ m : ℝ, max (Finset.univ.sup sc) (Finset.univ.sup sl) = (m : EReal) := by
    refine ⟨_, (EReal.coe_toReal ?_ ?_).symm⟩
    · exact (max_lt (lt_top_iff_ne_top.2 (by rw [hp]; exact EReal.coe_ne_top p)) (lt_top_iff_ne_top.2 hu)).ne
    · exact (lt_of_lt_of_le (by rw [hp]; exact EReal.bot_lt_coe p) (le_max_left _ _)).ne'
  obtain ⟨m, hm⟩ := hmax
  rw [pair, ← ht, ← hD]
  rw [hm] at ht
  subst ht
  obtain ⟨x, hx, e1⟩ := exps_real sc m hc
  obtain ⟨y, hy, e2⟩ := exps_nonneg sl m hl
  rw [e1, e2, ← EReal.coe_add] at hD
  subst hD
  have hr : 0 < x + y := by positivity
  rw [Ideal.div_coe hr.ne', mul_comm, EReal.left_distrib_of_nonneg_of_ne_top (by exact_mod_cast (by positivity : 0 ≤ 1 / (x + y))) (EReal.coe_ne_top _),
    mul_comm, mul_comm _ (∑ k, Ideal.exp (sl k - _) * _), sum_div _ _ hr, sum_div _ _ hr]

/-- The same over one set of keys. -/
theorem one_eq {n : ℕ} (s v : Fin (n + 1) → EReal) (h : ∀ k, ∃ r : ℝ, s k = (r : EReal)) (t D : EReal)
    (ht : t = Finset.univ.sup s) (hD : D = ∑ k, Ideal.exp (s k - t)) :
    one s v = ∑ k, v k * Ideal.div (Ideal.exp (s k - t)) D := by
  obtain ⟨p, hp⟩ := sup_isReal s h
  rw [one, ← ht, ← hD]
  rw [hp] at ht
  subst ht
  obtain ⟨x, hx, e1⟩ := exps_real s p h
  rw [e1] at hD
  subst hD
  rw [Ideal.div_coe hx.ne', sum_div _ _ hx]

/-! ## The layer's attention -/

/-- Element `(n, c)` of the array of projections, 0 off the array. -/
def at2 (X : FVec Ideal (⟨2, ![8448, 6144]⟩ : Shape) .f32) (n c : ℕ) : EReal :=
  if h : n < 8448 ∧ c < 6144 then X (ix2 ⟨n, h.1⟩ ⟨c, h.2⟩) else 0

/-- Element `(a, o, q, k)` of the array of biases, 0 off the array. -/
def at4 (B : FVec Ideal (⟨4, ![8, 8, 64, 512]⟩ : Shape) .f32) (a o q k : ℕ) : EReal :=
  if h : a < 8 ∧ o < 8 ∧ q < 64 ∧ k < 512 then B (ix4 ⟨a, h.1⟩ ⟨o, h.2.1⟩ ⟨q, h.2.2.1⟩ ⟨k, h.2.2.2⟩) else 0

/-- The scale of the scores. -/
def scl : EReal := Ideal.ofBits .f32 0x3DB504F3#32

/-- The first of the eight grid rows whose keys grid row `r` sees. -/
def first (r : ℕ) : ℕ := min 120 (r - 4)

/-- The score of query row `i` of head `a` against key row `j`. -/
def score (X : FVec Ideal (⟨2, ![8448, 6144]⟩ : Shape) .f32) (a i j : ℕ) : EReal :=
  (∑ d : Fin 128, at2 X i (3072 + a * 128 + d) * at2 X j (4096 + a * 128 + d)) * scl

/-- The score of position `q` of grid row `r` against key `k` of its window, the bias added. -/
def near (X : FVec Ideal (⟨2, ![8448, 6144]⟩ : Shape) .f32) (B : FVec Ideal (⟨4, ![8, 8, 64, 512]⟩ : Shape) .f32) (a r q k : ℕ) : EReal :=
  score X a (r * 64 + q) (first r * 64 + k) + at4 B a (first r + 7 - r) q k

/-- The attention's result at position `q` of grid row `r`. -/
def latent (X : FVec Ideal (⟨2, ![8448, 6144]⟩ : Shape) .f32) (B : FVec Ideal (⟨4, ![8, 8, 64, 512]⟩ : Shape) .f32) (a r q d : ℕ) : EReal :=
  pair (fun k : Fin 256 => score X a (r * 64 + q) (8192 + k)) (fun k : Fin 512 => near X B a r q k)
    (fun k => at2 X (8192 + k) (5120 + a * 128 + d)) (fun k => at2 X (first r * 64 + k) (5120 + a * 128 + d))

/-- The attention's result at context row `n`. -/
def context (X : FVec Ideal (⟨2, ![8448, 6144]⟩ : Shape) .f32) (a n d : ℕ) : EReal :=
  one (fun k : Fin 256 => score X a (8192 + n) (8192 + k)) (fun k => at2 X (8192 + k) (5120 + a * 128 + d))

/-- The attention's result at row `i`. -/
def out (X : FVec Ideal (⟨2, ![8448, 6144]⟩ : Shape) .f32) (B : FVec Ideal (⟨4, ![8, 8, 64, 512]⟩ : Shape) .f32) (a i d : ℕ) : EReal :=
  if i < 8192 then latent X B a (i / 64) (i % 64) d else context X a (i - 8192) d

/-- The queries and the keys are finite and the biases below ∞. -/
structure Finite (X : FVec Ideal (⟨2, ![8448, 6144]⟩ : Shape) .f32) (B : FVec Ideal (⟨4, ![8, 8, 64, 512]⟩ : Shape) .f32) : Prop where
  qk : ∀ n c, 3072 ≤ c → c < 5120 → ∃ r : ℝ, at2 X n c = (r : EReal)
  bias : ∀ i, B i ≠ ⊤

/-- The scale is a real. -/
theorem scl_real : ∃ r : ℝ, scl = (r : EReal) := by
  simp [scl, Ideal.ofBits, Ideal.ieee]
  exact ⟨_, (EReal.coe_mul _ _).symm⟩

/-- Scores of finite queries and keys are real. -/
theorem score_real {X B} (hX : Finite X B) {a : ℕ} (ha : a < 8) (i j : ℕ) : ∃ r : ℝ, score X a i j = (r : EReal) := by
  obtain ⟨r, hr⟩ := sum_real Finset.univ (fun d : Fin 128 => at2 X i (3072 + a * 128 + d) * at2 X j (4096 + a * 128 + d))
    fun d _ => by
      obtain ⟨p, hp⟩ := hX.qk i (3072 + a * 128 + d) (by omega) (by omega)
      obtain ⟨q, hq⟩ := hX.qk j (4096 + a * 128 + d) (by omega) (by omega)
      exact ⟨p * q, by rw [hp, hq, EReal.coe_mul]⟩
  obtain ⟨s, hs⟩ := scl_real
  exact ⟨r * s, by rw [score, hr, hs, EReal.coe_mul]⟩

/-- Scores with biases below ∞ are below ∞. -/
theorem near_ne_top {X B} (hX : Finite X B) {a : ℕ} (ha : a < 8) (r q k : ℕ) : near X B a r q k ≠ ⊤ := by
  obtain ⟨x, hx⟩ := score_real hX ha (r * 64 + q) (first r * 64 + k)
  rw [near, hx]
  refine EReal.add_ne_top (EReal.coe_ne_top x) ?_
  rw [at4]
  split
  · exact hX.bias _
  · exact EReal.zero_ne_top

end Cert.Neigh

end
-- ==== Proof.Neigh.Ref.lean ====
module

public import proofs.«01_k».proof.Proof.Gen.Reference26Ideal.Run
public import proofs.«01_k».proof.Proof.Neigh.Spec
public import Idealize.ShloMosaic.Lib.WordArith

@[expose] public section

set_option maxRecDepth 16384

noncomputable section

namespace Cert.Neigh.Ref

open Cert.Reference26Ideal Cert.Reference26Ideal.Gen Idealize.ShloMosaic Idealize.ShloMosaic.TcCoe Idealize.SL.Sem Cert.Attn

/-! ## The reference in stages -/

/-- The latent queries by grid row and position. -/
def qLat (X : FVec Ideal S8448x6144 .f32) : FVec Ideal S128x64x8x128 .f32 :=
  shapeCast _ (extractStridedSlice S8192x8x128 ![0, 0, 0] (shapeCast _ (extractStridedSlice S8448x1024 ![0, 3072] X slices_S8448x6144_S8448x1024_0_3072)
    shapeCasts_S8448x1024_S8448x8x128) slices_S8448x8x128_S8192x8x128_0_0_0) shapeCasts_S8192x8x128_S128x64x8x128

/-- The latent keys by grid row and position. -/
def kLat (X : FVec Ideal S8448x6144 .f32) : FVec Ideal S128x64x8x128 .f32 :=
  shapeCast _ (extractStridedSlice S8192x8x128 ![0, 0, 0] (shapeCast _ (extractStridedSlice S8448x1024 ![0, 4096] X slices_S8448x6144_S8448x1024_0_4096)
    shapeCasts_S8448x1024_S8448x8x128) slices_S8448x8x128_S8192x8x128_0_0_0) shapeCasts_S8192x8x128_S128x64x8x128

/-- The latent values by grid row and position. -/
def vLat (X : FVec Ideal S8448x6144 .f32) : FVec Ideal S128x64x8x128 .f32 :=
  shapeCast _ (extractStridedSlice S8192x8x128 ![0, 0, 0] (shapeCast _ (extractStridedSlice S8448x1024 ![0, 5120] X slices_S8448x6144_S8448x1024_0_5120)
    shapeCasts_S8448x1024_S8448x8x128) slices_S8448x8x128_S8192x8x128_0_0_0) shapeCasts_S8192x8x128_S128x64x8x128

/-- The context queries. -/
def qCtx (X : FVec Ideal S8448x6144 .f32) : FVec Ideal S256x8x128 .f32 :=
  extractStridedSlice S256x8x128 ![8192, 0, 0] (shapeCast _ (extractStridedSlice S8448x1024 ![0, 3072] X slices_S8448x6144_S8448x1024_0_3072)
    shapeCasts_S8448x1024_S8448x8x128) slices_S8448x8x128_S256x8x128_8192_0_0

/-- The context keys. -/
def kCtx (X : FVec Ideal S8448x6144 .f32) : FVec Ideal S256x8x128 .f32 :=
  extractStridedSlice S256x8x128 ![8192, 0, 0] (shapeCast _ (extractStridedSlice S8448x1024 ![0, 4096] X slices_S8448x6144_S8448x1024_0_4096)
    shapeCasts_S8448x1024_S8448x8x128) slices_S8448x8x128_S256x8x128_8192_0_0

/-- The context values. -/
def vCtx (X : FVec Ideal S8448x6144 .f32) : FVec Ideal S256x8x128 .f32 :=
  extractStridedSlice S256x8x128 ![8192, 0, 0] (shapeCast _ (extractStridedSlice S8448x1024 ![0, 5120] X slices_S8448x6144_S8448x1024_0_5120)
    shapeCasts_S8448x1024_S8448x8x128) slices_S8448x8x128_S256x8x128_8192_0_0

/-- The first row of the window of each grid row. -/
def fstRow : IVec S128 32 :=
  minsi (broadcastInDim S128 ![] bcast_S_S128 (id (constantI S_ 32 120#32))) (maxsi (broadcastInDim S128 ![] bcast_S_S128 (id (constantI S_ 32 0#32))) (subi
    (iotaInDim S128 32 0) (broadcastInDim S128 ![] bcast_S_S128 (constantI S_ 32 4#32))))

/-- The grid rows of each window. -/
def keyRow : IVec S128x8x1 32 :=
  broadcastInDim S128x8x1 ![0, 1] bcast_S128x8_S128x8x1_0_1 (select (cmpi .slt (addi (broadcastInDim S128x8 ![0, 1] bcast_S128x1_S128x8_0_1 (broadcastInDim
    S128x1 ![0] bcast_S128_S128x1_0 fstRow)) (broadcastInDim S128x8 ![0, 1] bcast_S1x8_S128x8_0_1 (broadcastInDim S1x8 ![1] bcast_S8_S1x8_1 (iotaInDim S8 32
    0)))) (broadcastInDim S128x8 ![] bcast_S_S128x8 (constantI S_ 32 0#32))) (addi (addi (broadcastInDim S128x8 ![0, 1] bcast_S128x1_S128x8_0_1
    (broadcastInDim S128x1 ![0] bcast_S128_S128x1_0 fstRow)) (broadcastInDim S128x8 ![0, 1] bcast_S1x8_S128x8_0_1 (broadcastInDim S1x8 ![1] bcast_S8_S1x8_1
    (iotaInDim S8 32 0)))) (broadcastInDim S128x8 ![] bcast_S_S128x8 (constantI S_ 32 128#32))) (addi (broadcastInDim S128x8 ![0, 1] bcast_S128x1_S128x8_0_1
    (broadcastInDim S128x1 ![0] bcast_S128_S128x1_0 fstRow)) (broadcastInDim S128x8 ![0, 1] bcast_S1x8_S128x8_0_1 (broadcastInDim S1x8 ![1] bcast_S8_S1x8_1
    (iotaInDim S8 32 0)))))

/-- The entry of the bias table each grid row reads. -/
def biasRow : IVec S128x1 32 :=
  broadcastInDim S128x1 ![0] bcast_S128_S128x1_0 (select (cmpi .slt (addi (subi fstRow (iotaInDim S128 32 0)) (broadcastInDim S128 ![] bcast_S_S128
    (constantI S_ 32 7#32))) (broadcastInDim S128 ![] bcast_S_S128 (constantI S_ 32 0#32))) (addi (addi (subi fstRow (iotaInDim S128 32 0)) (broadcastInDim
    S128 ![] bcast_S_S128 (constantI S_ 32 7#32))) (broadcastInDim S128 ![] bcast_S_S128 (constantI S_ 32 8#32))) (addi (subi fstRow (iotaInDim S128 32 0))
    (broadcastInDim S128 ![] bcast_S_S128 (constantI S_ 32 7#32))))

/-- The keys of the windows. -/
def kWin (X : FVec Ideal S8448x6144 .f32) : FVec Ideal S128x8x64x8x128 .f32 :=
  Host.gather gather_S128x64x8x128_S128x8x1_S128x8x64x8x128_234_0_n_n_0_2_1648128 (kLat X) keyRow

/-- The values of the windows. -/
def vWin (X : FVec Ideal S8448x6144 .f32) : FVec Ideal S128x8x64x8x128 .f32 :=
  Host.gather gather_S128x64x8x128_S128x8x1_S128x8x64x8x128_234_0_n_n_0_2_1648128 (vLat X) keyRow

/-- The biases of the windows. -/
def bias (B : FVec Ideal S8x8x64x512 .f32) : FVec Ideal S8x128x64x512 .f32 :=
  Host.gather gather_S8x8x64x512_S128x1_S8x128x64x512_023_1_n_n_1_1_8164512 B biasRow

/-- The scores of the context keys. -/
def sCtx (X : FVec Ideal S8448x6144 .f32) : FVec Ideal S128x8x64x256 .f32 :=
  mulf (transpose S128x8x64x256 [2, 0, 3, 1] (Host.dotGeneral dot_S256x8x128_S128x64x8x128_S8x256x128x64_2_3_0_01_1_2 none (kCtx X) (qLat X))
    transposes_S8x256x128x64_S128x8x64x256_2_0_3_1) (broadcastInDim S128x8x64x256 ![] bcast_S_S128x8x64x256 (constant S_ .f32 0x3DB504F3#32))

/-- The scores of the windows, the bias added. -/
def sWin (X : FVec Ideal S8448x6144 .f32) (B : FVec Ideal S8x8x64x512 .f32) : FVec Ideal S128x8x64x512 .f32 :=
  addf (mulf (shapeCast _ (Host.dotGeneral dot_S128x64x8x128_S128x8x64x8x128_S128x8x64x8x64_3_4_1_12_02_03 none (qLat X) (kWin X))
    shapeCasts_S128x8x64x8x64_S128x8x64x512) (broadcastInDim S128x8x64x512 ![] bcast_S_S128x8x64x512 (constant S_ .f32 0x3DB504F3#32))) (transpose
    S128x8x64x512 [1, 0, 2, 3] (bias B) transposes_S8x128x64x512_S128x8x64x512_1_0_2_3)

/-- Both kinds of scores side by side. -/
def sAll (X : FVec Ideal S8448x6144 .f32) (B : FVec Ideal S8x8x64x512 .f32) : FVec Ideal S128x8x64x768 .f32 :=
  concatenate S128x8x64x768 3 [⟨S128x8x64x256, (sCtx X)⟩, ⟨S128x8x64x512, (sWin X B)⟩] concatenates_S128x8x64x256_S128x8x64x512_S128x8x64x768_d3

/-- Their largest. -/
def sTop (X : FVec Ideal S8448x6144 .f32) (B : FVec Ideal S8x8x64x512 .f32) : FVec Ideal S128x8x64 .f32 :=
  maximumf (broadcastInDim S128x8x64 ![] bcast_S_S128x8x64 (constant S_ .f32 0xFF800000#32)) (Host.reduce FloatOps.maximumf (sAll X B) (constant S_ .f32
    0xFF800000#32) reducesTo_S128x8x64x768_S128x8x64_d3 h_S_)

/-- The exponentials of the scores less their largest. -/
def eAll (X : FVec Ideal S8448x6144 .f32) (B : FVec Ideal S8x8x64x512 .f32) : FVec Ideal S128x8x64x768 .f32 :=
  Host.exp (subf (sAll X B) (broadcastInDim S128x8x64x768 ![0, 1, 2, 3] bcast_S128x8x64x1_S128x8x64x768_0_1_2_3 (broadcastInDim S128x8x64x1 ![0, 1, 2]
    bcast_S128x8x64_S128x8x64x1_0_1_2 (sTop X B))))

/-- Their sum. -/
def eSum (X : FVec Ideal S8448x6144 .f32) (B : FVec Ideal S8x8x64x512 .f32) : FVec Ideal S128x8x64 .f32 :=
  Host.reduceAdd (eAll X B) (constant S_ .f32 0x00000000#32) reducesTo_S128x8x64x768_S128x8x64_d3 h_S_

/-- The weights. -/
def pAll (X : FVec Ideal S8448x6144 .f32) (B : FVec Ideal S8x8x64x512 .f32) : FVec Ideal S128x8x64x768 .f32 :=
  Host.divf (eAll X B) (broadcastInDim S128x8x64x768 ![0, 1, 2, 3] bcast_S128x8x64x1_S128x8x64x768_0_1_2_3 (broadcastInDim S128x8x64x1 ![0, 1, 2]
    bcast_S128x8x64_S128x8x64x1_0_1_2 (eSum X B)))

/-- The result of the latent rows by grid row, position, head and component. -/
def oGrid (X : FVec Ideal S8448x6144 .f32) (B : FVec Ideal S8x8x64x512 .f32) : FVec Ideal S128x64x8x128 .f32 :=
  addf (transpose S128x64x8x128 [2, 3, 0, 1] (Host.dotGeneral dot_S256x8x128_S128x8x64x256_S8x128x128x64_0_3_2_02_1_1 none (vCtx X) (extractStridedSlice
    S128x8x64x256 ![0, 0, 0, 0] (pAll X B) slices_S128x8x64x768_S128x8x64x256_0_0_0_0)) transposes_S8x128x128x64_S128x64x8x128_2_3_0_1) (transpose
    S128x64x8x128 [0, 3, 1, 2] (Host.dotGeneral dot_S128x8x64x8x128_S128x8x64x8x64_S128x8x128x64_12_34_4_2_03_01 none (vWin X) (shapeCast _
    (extractStridedSlice S128x8x64x512 ![0, 0, 0, 256] (pAll X B) slices_S128x8x64x768_S128x8x64x512_0_0_0_256) shapeCasts_S128x8x64x512_S128x8x64x8x64))
    transposes_S128x8x128x64_S128x64x8x128_0_3_1_2)

/-- The scores of the context queries. -/
def sCC (X : FVec Ideal S8448x6144 .f32) : FVec Ideal S8x256x256 .f32 :=
  mulf (Host.dotGeneral dot_S256x8x128_S256x8x128_S8x256x256_2_2_0_0_1_1 none (qCtx X) (kCtx X)) (broadcastInDim S8x256x256 ![] bcast_S_S8x256x256 (constant
    S_ .f32 0x3DB504F3#32))

/-- Their largest. -/
def topC (X : FVec Ideal S8448x6144 .f32) : FVec Ideal S8x256 .f32 :=
  maximumf (broadcastInDim S8x256 ![] bcast_S_S8x256 (constant S_ .f32 0xFF800000#32)) (Host.reduce FloatOps.maximumf (sCC X) (constant S_ .f32
    0xFF800000#32) reducesTo_S8x256x256_S8x256_d2 h_S_)

/-- Their exponentials. -/
def eCC (X : FVec Ideal S8448x6144 .f32) : FVec Ideal S8x256x256 .f32 :=
  Host.exp (subf (sCC X) (broadcastInDim S8x256x256 ![0, 1, 2] bcast_S8x256x1_S8x256x256_0_1_2 (broadcastInDim S8x256x1 ![0, 1] bcast_S8x256_S8x256x1_0_1
    (topC X))))

/-- Their sum. -/
def eSumC (X : FVec Ideal S8448x6144 .f32) : FVec Ideal S8x256 .f32 :=
  Host.reduceAdd (eCC X) (constant S_ .f32 0x00000000#32) reducesTo_S8x256x256_S8x256_d2 h_S_

/-- The weights of the context queries. -/
def pCC (X : FVec Ideal S8448x6144 .f32) : FVec Ideal S8x256x256 .f32 :=
  Host.divf (eCC X) (broadcastInDim S8x256x256 ![0, 1, 2] bcast_S8x256x1_S8x256x256_0_1_2 (broadcastInDim S8x256x1 ![0, 1] bcast_S8x256_S8x256x1_0_1 (eSumC
    X)))

/-- The result of the context rows by row, head and component. -/
def oRows (X : FVec Ideal S8448x6144 .f32) : FVec Ideal S256x8x128 .f32 :=
  transpose S256x8x128 [2, 0, 1] (Host.dotGeneral dot_S256x8x128_S8x256x256_S8x128x256_0_2_2_1_1_0 none (vCtx X) (pCC X))
    transposes_S8x128x256_S256x8x128_2_0_1

/-- The whole result. -/
def res (X : FVec Ideal S8448x6144 .f32) (B : FVec Ideal S8x8x64x512 .f32) : FVec Ideal S8448x1024 .bf16 :=
  truncf .bf16 (concatenate S8448x1024 0 [⟨S8192x1024, (shapeCast _ (oGrid X B) shapeCasts_S128x64x8x128_S8192x1024)⟩, ⟨S256x1024, (shapeCast _ (oRows X)
    shapeCasts_S256x8x128_S256x1024)⟩] concatenates_S8192x1024_S256x1024_S8448x1024_d0) bitsLt_bf16_f32

/-- The reference's composed term is the last stage. -/
theorem res_eq (m : (ℓ : Loc nD τ sig) → Buf (Elt Ideal) ℓ) (c : Dev nD) :
    Value.res_main_v98 m c = res (m ((c.tc : Thread nD τ).loc main_arg0)) (m ((c.tc : Thread nD τ).loc main_arg1)) := by
  unfold Value.res_main_v98; rfl

/-! ## Each stage at an index -/

variable (X : FVec Ideal S8448x6144 .f32) (B : FVec Ideal S8x8x64x512 .f32)

/-- The pattern of −∞ reads as −∞. -/
theorem bits_bot : Ideal.ofBits FTy.f32 4286578688#32 = (⊥ : EReal) := by
  simp [Ideal.ofBits, Ideal.ieee]

theorem qLat_at (r : Fin 128) (q : Fin 64) (a : Fin 8) (d : Fin 128) : qLat X (ix4 r q a d) = at2 X (r * 64 + q) (3072 + a * 128 + d) := by
  pointwise [qLat]
  rw [at2, dif_pos ⟨by omega, by omega⟩]
  exact congrArg X ((ix2_inj ..).2 ⟨Fin.ext (by dsimp only <;> omega), Fin.ext (by dsimp only <;> omega)⟩)

theorem kLat_at (r : Fin 128) (q : Fin 64) (a : Fin 8) (d : Fin 128) : kLat X (ix4 r q a d) = at2 X (r * 64 + q) (4096 + a * 128 + d) := by
  pointwise [kLat]
  rw [at2, dif_pos ⟨by omega, by omega⟩]
  exact congrArg X ((ix2_inj ..).2 ⟨Fin.ext (by dsimp only <;> omega), Fin.ext (by dsimp only <;> omega)⟩)

theorem vLat_at (r : Fin 128) (q : Fin 64) (a : Fin 8) (d : Fin 128) : vLat X (ix4 r q a d) = at2 X (r * 64 + q) (5120 + a * 128 + d) := by
  pointwise [vLat]
  rw [at2, dif_pos ⟨by omega, by omega⟩]
  exact congrArg X ((ix2_inj ..).2 ⟨Fin.ext (by dsimp only <;> omega), Fin.ext (by dsimp only <;> omega)⟩)

theorem qCtx_at (n : Fin 256) (a : Fin 8) (d : Fin 128) : qCtx X (ix3 n a d) = at2 X (8192 + n) (3072 + a * 128 + d) := by
  pointwise [qCtx]
  rw [at2, dif_pos ⟨by omega, by omega⟩]
  exact congrArg X ((ix2_inj ..).2 ⟨Fin.ext (by dsimp only <;> omega), Fin.ext (by dsimp only <;> omega)⟩)

theorem kCtx_at (n : Fin 256) (a : Fin 8) (d : Fin 128) : kCtx X (ix3 n a d) = at2 X (8192 + n) (4096 + a * 128 + d) := by
  pointwise [kCtx]
  rw [at2, dif_pos ⟨by omega, by omega⟩]
  exact congrArg X ((ix2_inj ..).2 ⟨Fin.ext (by dsimp only <;> omega), Fin.ext (by dsimp only <;> omega)⟩)

theorem vCtx_at (n : Fin 256) (a : Fin 8) (d : Fin 128) : vCtx X (ix3 n a d) = at2 X (8192 + n) (5120 + a * 128 + d) := by
  pointwise [vCtx]
  rw [at2, dif_pos ⟨by omega, by omega⟩]
  exact congrArg X ((ix2_inj ..).2 ⟨Fin.ext (by dsimp only <;> omega), Fin.ext (by dsimp only <;> omega)⟩)

/-! ## The gathered windows -/

theorem keyRow_at : ∀ (r : Fin 128) (j : Fin 8), keyRow (ix3 r j 0) = BitVec.ofNat 32 (first r + j) := by
  intro r j
  pointwise [keyRow, fstRow]
  revert r j
  decide +kernel

theorem biasRow_at : ∀ r : Fin 128, biasRow (ix2 r 0) = BitVec.ofNat 32 (first r + 7 - r) := by
  intro r
  pointwise [biasRow, fstRow]
  revert r
  decide +kernel

theorem first_le (r : Fin 128) : first r ≤ 120 := by
  unfold first; omega

/-- A gather of grid rows at an entry. -/
theorem rows_at (T : FVec Ideal S128x64x8x128 .f32) (r : Fin 128) (j : Fin 8) (q : Fin 64) (a : Fin 8) (d : Fin 128) :
    (Host.gather gather_S128x64x8x128_S128x8x1_S128x8x64x8x128_234_0_n_n_0_2_1648128 T keyRow : FVec Ideal S128x8x64x8x128 .f32) (ix5 r j q a d)
      = T (ix4 ⟨first r + j, by have := first_le r; omega⟩ q a d) := by
  unfold Host.gather
  refine congrArg T (funext fun b => Fin.ext ?_)
  match b with
  | ⟨0, _⟩ =>
    show min (keyRow (GatherDims.siIdx _ (ix5 r j q a d) ⟨0, by decide⟩)).toInt.toNat 127 + 0 + 0 = first r + j
    have hsi : GatherDims.siIdx gather_S128x64x8x128_S128x8x1_S128x8x64x8x128_234_0_n_n_0_2_1648128 (ix5 r j q a d) ⟨0, by decide⟩ = ix3 r j 0 := by
      funext b'; apply Fin.ext
      match b' with
      | ⟨0, _⟩ => rfl
      | ⟨1, _⟩ => rfl
      | ⟨2, _⟩ => rfl
    have := first_le r
    rw [hsi, keyRow_at, WordArith.toInt_ofNat_small _ (by omega)]
    omega
  | ⟨1, _⟩ => show 0 + 0 + (q : ℕ) = q; omega
  | ⟨2, _⟩ => show 0 + 0 + (a : ℕ) = a; omega
  | ⟨3, _⟩ => show 0 + 0 + (d : ℕ) = d; omega

theorem kWin_at (r : Fin 128) (j : Fin 8) (q : Fin 64) (a : Fin 8) (d : Fin 128) :
    kWin X (ix5 r j q a d) = at2 X ((first r + j) * 64 + q) (4096 + a * 128 + d) := by
  unfold kWin
  rw [rows_at, kLat_at]

theorem vWin_at (r : Fin 128) (j : Fin 8) (q : Fin 64) (a : Fin 8) (d : Fin 128) :
    vWin X (ix5 r j q a d) = at2 X ((first r + j) * 64 + q) (5120 + a * 128 + d) := by
  unfold vWin
  rw [rows_at, vLat_at]

theorem bias_at (a : Fin 8) (r : Fin 128) (q : Fin 64) (k : Fin 512) : bias B (ix4 a r q k) = at4 B a (first r + 7 - r) q k := by
  have hf : first r + 7 - r < 8 := by unfold first; omega
  rw [at4, dif_pos ⟨by omega, hf, by omega, by omega⟩]
  unfold bias Host.gather
  refine congrArg B (funext fun b => Fin.ext ?_)
  match b with
  | ⟨0, _⟩ => show 0 + 0 + (a : ℕ) = a; omega
  | ⟨1, _⟩ =>
    show min (biasRow (GatherDims.siIdx _ (ix4 a r q k) ⟨0, by decide⟩)).toInt.toNat 7 + 0 + 0 = first r + 7 - r
    have hsi : GatherDims.siIdx gather_S8x8x64x512_S128x1_S8x128x64x512_023_1_n_n_1_1_8164512 (ix4 a r q k) ⟨0, by decide⟩ = ix2 r 0 := by
      funext b'; apply Fin.ext
      match b' with
      | ⟨0, _⟩ => rfl
      | ⟨1, _⟩ => rfl
    rw [hsi, biasRow_at, WordArith.toInt_ofNat_small _ (by omega)]
    omega
  | ⟨2, _⟩ => show 0 + 0 + (q : ℕ) = q; omega
  | ⟨3, _⟩ => show 0 + 0 + (k : ℕ) = k; omega

/-! ## The scores -/

theorem sCtx_at (r : Fin 128) (a : Fin 8) (q : Fin 64) (k : Fin 256) : sCtx X (ix4 r a q k) = score X a (r * 64 + q) (8192 + k) := by
  rw [score, scl]
  pointwise [sCtx]
  refine congrArg (· * _) (Finset.sum_congr rfl fun d _ => ?_)
  rw [kCtx_at, qLat_at, mul_comm]

theorem sWin_at (r : Fin 128) (a : Fin 8) (q : Fin 64) (k : Fin 512) : sWin X B (ix4 r a q k) = near X B a r q k := by
  rw [near, score, scl]
  pointwise [sWin]
  rw [bias_at]
  refine congrArg (· + _) (congrArg (· * _) (Finset.sum_congr rfl fun d _ => ?_))
  rw [kWin_at, qLat_at]
  dsimp only
  rw [show (first r + (k : ℕ) / 64) * 64 + (k : ℕ) % 64 = first r * 64 + k by omega]

theorem sCC_at (a : Fin 8) (n k : Fin 256) : sCC X (ix3 a n k) = score X a (8192 + n) (8192 + k) := by
  rw [score, scl]
  pointwise [sCC]
  refine congrArg (· * _) (Finset.sum_congr rfl fun d _ => ?_)
  rw [kCtx_at, qCtx_at]

theorem fiber (r : Fin 128) (a : Fin 8) (q : Fin 64) (i : S128x8x64x768.Idx) :
    reducesTo_S128x8x64x768_S128x8x64_d3.drop i = ix3 r a q ↔ ∃ k : Fin 768, ix4 r a q k = i := by
  constructor
  · intro e
    refine ⟨i 3, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
  · rintro ⟨k, rfl⟩
    funext a; apply Fin.ext
    match a with
    | ⟨0, _⟩ => rfl
    | ⟨1, _⟩ => rfl
    | ⟨2, _⟩ => rfl

/-- A row's maximum. -/
theorem maxRow (x : FVec Ideal S128x8x64x768 .f32) (r : Fin 128) (a : Fin 8) (q : Fin 64) :
    (Host.reduce FloatOps.maximumf x (constant S_ .f32 0xFF800000#32) reducesTo_S128x8x64x768_S128x8x64_d3 h_S_ : FVec Ideal S128x8x64 .f32) (ix3 r a q)
      = Finset.univ.sup fun k : Fin 768 => (x (ix4 r a q k) : EReal) := by
  refine (Host.reduce_eq_fold (f := max) _ _ _ _ _).trans ?_
  refine (Finset.fold_filter_eq_fold_of_fiber max _ (fun k : Fin 768 => (ix4 r a q k : S128x8x64x768.Idx)) (fun _ _ e => congrFun e 3) (fiber r a q) _ _).trans ?_
  refine (congrArg (fun z => Finset.univ.fold max z _) bits_bot).trans ?_
  rfl

/-- The larger of −∞ and a row's value. -/
theorem max_bcast (T : FVec Ideal S128x8x64 .f32) (r : Fin 128) (a : Fin 8) (q : Fin 64) :
    (maximumf (broadcastInDim S128x8x64 ![] bcast_S_S128x8x64 (constant S_ .f32 0xFF800000#32)) T : FVec Ideal S128x8x64 .f32) (ix3 r a q) = T (ix3 r a q) := by
  pointwise
  rw [bits_bot]
  exact max_bot_left _

theorem sTop_fold (r : Fin 128) (a : Fin 8) (q : Fin 64) : sTop X B (ix3 r a q) = Finset.univ.sup fun k : Fin 768 => (sAll X B (ix4 r a q k) : EReal) := by
  unfold sTop
  rw [max_bcast, maxRow]

theorem eSum_fold (r : Fin 128) (a : Fin 8) (q : Fin 64) : eSum X B (ix3 r a q) = ∑ k : Fin 768, (eAll X B (ix4 r a q k) : EReal) := by
  pointwise [eSum]

theorem fiberC (a : Fin 8) (n : Fin 256) (i : S8x256x256.Idx) :
    reducesTo_S8x256x256_S8x256_d2.drop i = ix2 a n ↔ ∃ k : Fin 256, ix3 a n k = i := by
  constructor
  · intro e
    refine ⟨i 2, ?_⟩
    funext a; apply Fin.ext
    match a with
    | ⟨0, _⟩ => exact (congrArg Fin.val (congrFun e 0)).symm
    | ⟨1, _⟩ => exact (congrArg Fin.val (congrFun e 1)).symm
    | ⟨2, _⟩ => rfl
  · rintro ⟨k, rfl⟩
    funext a; apply Fin.ext
    match a with
    | ⟨0, _⟩ => rfl
    | ⟨1, _⟩ => rfl

theorem topC_fold (a : Fin 8) (n : Fin 256) : topC X (ix2 a n) = Finset.univ.sup fun k : Fin 256 => score X a (8192 + n) (8192 + k) := by
  pointwise [topC]
  rw [bits_bot]
  refine (max_bot_left _).trans ?_
  simp only [sCC_at, fold_max]

theorem eSumC_fold (a : Fin 8) (n : Fin 256) : eSumC X (ix2 a n) = ∑ k : Fin 256, (eCC X (ix3 a n k) : EReal) := by
  pointwise [eSumC]

end Cert.Neigh.Ref

end
-- ==== Proof.Neigh.Rows.lean ====
module

public import proofs.«01_k».proof.Proof.Neigh.Ref

@[expose] public section

set_option maxRecDepth 16384

noncomputable section

namespace Cert.Neigh.Ref

open Cert.Reference26Ideal Cert.Reference26Ideal.Gen Idealize.ShloMosaic Idealize.ShloMosaic.TcCoe Idealize.SL.Sem Cert.Attn

variable (X : FVec Ideal S8448x6144 .f32) (B : FVec Ideal S8x8x64x512 .f32)

/-- A sum over a window's eight grid rows of 64 keys is a sum over its 512 keys. -/
theorem sum_rows (f : Fin 512 → EReal) : ∑ j : Fin 8, ∑ q : Fin 64, f ⟨j * 64 + q, by omega⟩ = ∑ k : Fin 512, f k := by
  rw [← Fintype.sum_prod_type' (f := fun (j : Fin 8) (q : Fin 64) => f ⟨j * 64 + q, by omega⟩)]
  refine Fintype.sum_equiv (finProdFinEquiv (m := 8) (n := 64)) _ _ fun x => congrArg f (Fin.ext ?_)
  simp only [finProdFinEquiv_apply_val]
  omega

/-! ## Latent rows -/

theorem sAll_lo (r : Fin 128) (a : Fin 8) (q : Fin 64) (k : Fin 256) (K : Fin 768) (hK : (K : ℕ) = k) :
    sAll X B (ix4 r a q K) = score X a (r * 64 + q) (8192 + k) := by
  obtain ⟨K, hlt⟩ := K
  dsimp only at hK; subst hK
  pointwise [sAll]
  exact sCtx_at X r a q k

theorem sAll_hi (r : Fin 128) (a : Fin 8) (q : Fin 64) (k : Fin 512) (K : Fin 768) (hK : (K : ℕ) = 256 + k) :
    sAll X B (ix4 r a q K) = near X B a r q k := by
  obtain ⟨K, hlt⟩ := K
  dsimp only at hK; subst hK
  pointwise [sAll]
  rw [← sWin_at X B r a q k]

/-- The largest score of a latent row. -/
def top (a r q : ℕ) : EReal :=
  max (Finset.univ.sup fun k : Fin 256 => score X a (r * 64 + q) (8192 + k)) (Finset.univ.sup fun k : Fin 512 => near X B a r q k)

theorem sTop_at (r : Fin 128) (a : Fin 8) (q : Fin 64) : sTop X B (ix3 r a q) = top X B a r q := by
  rw [sTop_fold]
  exact sup_append (n := 768) (a := 256) (b := 512) (by norm_num) (fun k => score X a (r * 64 + q) (8192 + k)) (fun k => near X B a r q k) _
    (fun k K hK => sAll_lo X B r a q k K hK) (fun k K hK => sAll_hi X B r a q k K hK)

theorem eAll_at (r : Fin 128) (a : Fin 8) (q : Fin 64) (K : Fin 768) :
    eAll X B (ix4 r a q K) = Ideal.exp (sAll X B (ix4 r a q K) - top X B a r q) := by
  pointwise [eAll]
  rw [sTop_at]

/-- The denominator of a latent row. -/
def den (a r q : ℕ) : EReal :=
  (∑ k : Fin 256, Ideal.exp (score X a (r * 64 + q) (8192 + k) - top X B a r q)) + ∑ k : Fin 512, Ideal.exp (near X B a r q k - top X B a r q)

theorem eSum_at (r : Fin 128) (a : Fin 8) (q : Fin 64) : eSum X B (ix3 r a q) = den X B a r q := by
  rw [eSum_fold, den]
  refine (Fin.sum_univ_add (a := 256) (b := 512) _).trans (congrArg₂ (· + ·) (Finset.sum_congr rfl fun k _ => ?_) (Finset.sum_congr rfl fun k _ => ?_))
  · rw [eAll_at, sAll_lo X B r a q k _ rfl]
  · rw [eAll_at, sAll_hi X B r a q k _ rfl]

theorem pAll_at (r : Fin 128) (a : Fin 8) (q : Fin 64) (K : Fin 768) :
    pAll X B (ix4 r a q K) = Ideal.div (Ideal.exp (sAll X B (ix4 r a q K) - top X B a r q)) (den X B a r q) := by
  pointwise [pAll]
  rw [eAll_at, eSum_at]

/-- The reference's result at a latent row. -/
theorem oGrid_at (hX : Finite X B) (r : Fin 128) (q : Fin 64) (a : Fin 8) (d : Fin 128) : oGrid X B (ix4 r q a d) = latent X B a r q d := by
  rw [latent, pair_eq (n := 255) _ _ _ _ (fun k => score_real hX a.isLt _ _) (fun k => near_ne_top hX a.isLt _ _ _) (top X B a r q) (den X B a r q) rfl rfl]
  pointwise [oGrid]
  refine congrArg₂ (· + ·) (Finset.sum_congr rfl fun k _ => ?_) ?_
  · rw [vCtx_at, pAll_at, sAll_lo X B r a q k _ rfl]
  · refine Eq.trans ?_ (sum_rows fun k => at2 X (first r * 64 + k) (5120 + a * 128 + d) * Ideal.div (Ideal.exp (near X B a r q k - top X B a r q)) (den X B a r q))
    refine Finset.sum_congr rfl fun j _ => Finset.sum_congr rfl fun p _ => ?_
    rw [vWin_at, pAll_at, sAll_hi X B r a q ⟨j * 64 + p, by omega⟩ _ rfl]
    dsimp only
    rw [show (first r + (j : ℕ)) * 64 + (p : ℕ) = first r * 64 + (j * 64 + p) by omega]

/-! ## Context rows -/

theorem eCC_at (a : Fin 8) (n k : Fin 256) :
    eCC X (ix3 a n k) = Ideal.exp (score X a (8192 + n) (8192 + k) - Finset.univ.sup fun k : Fin 256 => score X a (8192 + n) (8192 + k)) := by
  pointwise [eCC]
  rw [topC_fold, sCC_at]

theorem pCC_at (a : Fin 8) (n k : Fin 256) :
    pCC X (ix3 a n k) = Ideal.div (Ideal.exp (score X a (8192 + n) (8192 + k) - Finset.univ.sup fun k : Fin 256 => score X a (8192 + n) (8192 + k)))
      (∑ j : Fin 256, Ideal.exp (score X a (8192 + n) (8192 + j) - Finset.univ.sup fun k : Fin 256 => score X a (8192 + n) (8192 + k))) := by
  pointwise [pCC]
  rw [eSumC_fold]
  simp only [eCC_at]

/-- The reference's result at a context row. -/
theorem oRows_at (hX : Finite X B) (n : Fin 256) (a : Fin 8) (d : Fin 128) : oRows X (ix3 n a d) = context X a n d := by
  rw [context, one_eq (n := 255) _ _ (fun k => score_real hX a.isLt _ _) _ _ rfl rfl]
  pointwise [oRows]
  refine Finset.sum_congr rfl fun k _ => ?_
  rw [vCtx_at, pCC_at]

/-- The reference's result at row `i` and column `l` is the attention there. -/
theorem res_at (hX : Finite X B) (i : Fin 8448) (l : Fin 1024) : res X B (ix2 i l) = out X B (l / 128) i (l % 128) := by
  rw [out]
  pointwise [res]
  by_cases hi : (i : ℕ) < 8192
  · have := oGrid_at X B hX ⟨i / 64, by omega⟩ ⟨i % 64, by omega⟩ ⟨l / 128, by omega⟩ ⟨l % 128, by omega⟩
    rw [dif_pos hi, if_pos hi, this]
  · have := oRows_at X B hX ⟨i - 8192, by omega⟩ ⟨l / 128, by omega⟩ ⟨l % 128, by omega⟩
    rw [dif_neg hi, if_neg hi, this]

end Cert.Neigh.Ref

end
-- ==== Proof.Neigh.Pay.lean ====
module

public import proofs.«01_k».proof.Proof.Gen.Kernel26Ideal.Value
public import proofs.«01_k».proof.Proof.Neigh.Spec
public import Idealize.ShloMosaic.Lib.Pipeline.ValueKit

@[expose] public section

set_option maxRecDepth 16384

noncomputable section

namespace Cert.Neigh.Kernel

open Cert.Kernel26Ideal Cert.Kernel26Ideal.Gen Idealize.ShloMosaic Idealize.ShloMosaic.TcCoe Idealize.SL.Sem Cert.Attn

/-- The pattern of −∞ reads as −∞. -/
theorem bits_bot : Ideal.ofBits FTy.f32 4286578688#32 = (⊥ : EReal) := by
  simp [Ideal.ofBits, Ideal.ieee]

/-- The softmax of the first grid row of a block, applied to the values. -/
theorem soft0 (vc : FVec Ideal S256x128 .bf16) (vw : FVec Ideal S512x128 .bf16) (q : FVec Ideal S64x128 .bf16) (sc : FVec Ideal S64x256 .f32)
    (kw : FVec Ideal S512x128 .bf16) (bw : FVec Ideal S64x512 .f32) (sl : FVec Ideal S64x512 .f32) (hsl : k0_pay24 q kw bw = sl)
    (p1 p2 : FVec Ideal S64x256 .bf16) (p3 : FVec Ideal S64x256 .f32) (r : Fin 64) (d : Fin 128) :
    k0_pay52 (F := Ideal) vc vw (k0_pay33 (k0_pay31 q sc kw bw) (k0_pay32 q sc kw bw)) (k0_pay34 (k0_pay29 q sc kw bw)) (k0_pay35 (k0_pay30 q sc kw bw))
        p1 p2 p3 (ix2 r d)
      = pair (fun k : Fin 256 => (sc (ix2 r k) : EReal)) (fun k : Fin 512 => (sl (ix2 r k) : EReal)) (fun k => (vc (ix2 k d) : EReal))
          (fun k => (vw (ix2 k d) : EReal)) := by
  rw [pair]
  pointwise [k0_pay52, k0_pay51, k0_pay33, k0_pay31, k0_pay32, k0_pay34, k0_pay35, k0_pay29, k0_pay30, k0_pay28, hsl]
  rw [bits_bot]
  simp only [fold_max]

/-- The softmax of the second grid row of a block, applied to the values. -/
theorem soft1 (vc : FVec Ideal S256x128 .bf16) (vw : FVec Ideal S512x128 .bf16) (sc : FVec Ideal S64x256 .f32) (sl : FVec Ideal S64x512 .f32)
    (p0 p2 : FVec Ideal S64x256 .bf16) (p3 : FVec Ideal S64x256 .f32) (r : Fin 64) (d : Fin 128) :
    k0_pay53 (F := Ideal) vc vw p0 (k0_pay39 sc sl) (k0_pay40 sc sl) (k0_pay41 sc sl) p2 p3 (ix2 r d)
      = pair (fun k : Fin 256 => (sc (ix2 r k) : EReal)) (fun k : Fin 512 => (sl (ix2 r k) : EReal)) (fun k => (vc (ix2 k d) : EReal))
          (fun k => (vw (ix2 k d) : EReal)) := by
  rw [pair]
  pointwise [k0_pay53, k0_pay51, k0_pay39, k0_pay40, k0_pay41, k0_pay37, k0_pay38, k0_pay36]
  rw [bits_bot]
  simp only [fold_max]

/-- The softmax of the third grid row of a block, applied to the values. -/
theorem soft2 (vc : FVec Ideal S256x128 .bf16) (vw : FVec Ideal S512x128 .bf16) (sc : FVec Ideal S64x256 .f32) (sl : FVec Ideal S64x512 .f32)
    (p0 p1 : FVec Ideal S64x256 .bf16) (p3 : FVec Ideal S64x256 .f32) (r : Fin 64) (d : Fin 128) :
    k0_pay54 (F := Ideal) vc vw p0 p1 (k0_pay45 sc sl) (k0_pay46 sc sl) (k0_pay47 sc sl) p3 (ix2 r d)
      = pair (fun k : Fin 256 => (sc (ix2 r k) : EReal)) (fun k : Fin 512 => (sl (ix2 r k) : EReal)) (fun k => (vc (ix2 k d) : EReal))
          (fun k => (vw (ix2 k d) : EReal)) := by
  rw [pair]
  pointwise [k0_pay54, k0_pay51, k0_pay45, k0_pay46, k0_pay47, k0_pay43, k0_pay44, k0_pay42]
  rw [bits_bot]
  simp only [fold_max, dif_neg (show ¬ (128 + (r : ℕ) < 64) by omega), dif_neg (show ¬ (128 + (r : ℕ) - 64 < 64) by omega), dif_pos r.isLt, show 128 + (r : ℕ) - 64 - 64 = (r : ℕ) by omega]

/-- The softmax of the fourth grid row of a block, applied to the values. -/
theorem soft3 (vc : FVec Ideal S256x128 .bf16) (vw : FVec Ideal S512x128 .bf16) (sc : FVec Ideal S64x256 .f32) (sl : FVec Ideal S64x512 .f32)
    (p0 p1 p2 : FVec Ideal S64x256 .bf16) (r : Fin 64) (d : Fin 128) :
    k0_pay55 (F := Ideal) vc vw p0 p1 p2 (k0_pay49 sc sl) (k0_pay50 sc sl) (ix2 r d)
      = pair (fun k : Fin 256 => (sc (ix2 r k) : EReal)) (fun k : Fin 512 => (sl (ix2 r k) : EReal)) (fun k => (vc (ix2 k d) : EReal))
          (fun k => (vw (ix2 k d) : EReal)) := by
  rw [pair]
  pointwise [k0_pay55, k0_pay51, k0_pay49, k0_pay50, k0_pay48]
  rw [bits_bot]
  simp only [fold_max, dif_neg (show ¬ (192 + (r : ℕ) < 64) by omega), dif_neg (show ¬ (192 + (r : ℕ) - 64 < 64) by omega), dif_neg (show ¬ (192 + (r : ℕ) - 64 - 64 < 64) by omega), show 192 + (r : ℕ) - 64 - 64 - 64 = (r : ℕ) by omega]

/-- The softmax of a block of context rows, applied to the values. -/
theorem softC (kc vc q : FVec Ideal S256x128 .f32) (r : Fin 256) (d : Fin 128) :
    k0_pay3 (F := Ideal) kc vc q (ix2 r d)
      = one (fun k : Fin 256 => (∑ e : Fin 128, (q (ix2 r e) : EReal) * kc (ix2 k e)) * scl) (fun k => (vc (ix2 k d) : EReal)) := by
  rw [one, scl]
  pointwise [k0_pay3, k0_pay1, k0_pay2]
  rw [bits_bot]
  simp only [fold_max]

/-- A scaled product of a query of the first grid row and a context key. -/
theorem ctx0 (q kc : FVec Ideal S256x128 .f32) (r : Fin 64) (k : Fin 256) :
    k0_pay7 (F := Ideal) (k0_pay1 kc) q (ix2 r k) = ((∑ e : Fin 128, (q (ix2 ⟨0 + r, by omega⟩ e) : EReal) * kc (ix2 k e)) * scl : EReal) := by
  rw [scl]
  pointwise [k0_pay7, k0_pay5, k0_pay4, k0_pay1]

/-- A score of a query of the first grid row and a key of its window. -/
theorem win0 (q : FVec Ideal S256x128 .f32) (kw : FVec Ideal S512x128 .f32) (bw : FVec Ideal S1x1x64x512 .f32) (r : Fin 64) (k : Fin 512) :
    k0_pay24 (F := Ideal) (k0_pay6 q) (k0_pay8 kw) (k0_pay10 bw) (ix2 r k)
      = ((∑ e : Fin 128, (q (ix2 ⟨0 + r, by omega⟩ e) : EReal) * kw (ix2 k e)) * scl + bw (ix4 0 0 r k) : EReal) := by
  rw [scl]
  pointwise [k0_pay24, k0_pay6, k0_pay8, k0_pay10, k0_pay4]

/-- A scaled product of a query of the second grid row and a context key. -/
theorem ctx1 (q kc : FVec Ideal S256x128 .f32) (r : Fin 64) (k : Fin 256) :
    k0_pay12 (F := Ideal) (k0_pay1 kc) q (ix2 r k) = ((∑ e : Fin 128, (q (ix2 ⟨64 + r, by omega⟩ e) : EReal) * kc (ix2 k e)) * scl : EReal) := by
  rw [scl]
  pointwise [k0_pay12, k0_pay5, k0_pay4, k0_pay1]

/-- A score of a query of the second grid row and a key of its window. -/
theorem win1 (q : FVec Ideal S256x128 .f32) (kw : FVec Ideal S512x128 .f32) (bw : FVec Ideal S1x1x64x512 .f32) (r : Fin 64) (k : Fin 512) :
    k0_pay25 (F := Ideal) (k0_pay11 q) (k0_pay13 kw) (k0_pay15 bw) (ix2 r k)
      = ((∑ e : Fin 128, (q (ix2 ⟨64 + r, by omega⟩ e) : EReal) * kw (ix2 k e)) * scl + bw (ix4 0 0 r k) : EReal) := by
  rw [scl]
  pointwise [k0_pay25, k0_pay11, k0_pay13, k0_pay15, k0_pay4]

/-- A scaled product of a query of the third grid row and a context key. -/
theorem ctx2 (q kc : FVec Ideal S256x128 .f32) (r : Fin 64) (k : Fin 256) :
    k0_pay17 (F := Ideal) (k0_pay5 (k0_pay1 kc) q) (ix2 r k) = ((∑ e : Fin 128, (q (ix2 ⟨128 + r, by omega⟩ e) : EReal) * kc (ix2 k e)) * scl : EReal) := by
  rw [scl]
  pointwise [k0_pay17, k0_pay5, k0_pay4, k0_pay1]

/-- A score of a query of the third grid row and a key of its window. -/
theorem win2 (q : FVec Ideal S256x128 .f32) (kw : FVec Ideal S512x128 .f32) (bw : FVec Ideal S1x1x64x512 .f32) (r : Fin 64) (k : Fin 512) :
    k0_pay26 (F := Ideal) (k0_pay16 (k0_pay4 q)) (k0_pay18 kw) (k0_pay20 bw) (ix2 r k)
      = ((∑ e : Fin 128, (q (ix2 ⟨128 + r, by omega⟩ e) : EReal) * kw (ix2 k e)) * scl + bw (ix4 0 0 r k) : EReal) := by
  rw [scl]
  pointwise [k0_pay26, k0_pay16, k0_pay18, k0_pay20, k0_pay4]

/-- A scaled product of a query of the fourth grid row and a context key. -/
theorem ctx3 (q kc : FVec Ideal S256x128 .f32) (r : Fin 64) (k : Fin 256) :
    k0_pay22 (F := Ideal) (k0_pay5 (k0_pay1 kc) q) (ix2 r k) = ((∑ e : Fin 128, (q (ix2 ⟨192 + r, by omega⟩ e) : EReal) * kc (ix2 k e)) * scl : EReal) := by
  rw [scl]
  pointwise [k0_pay22, k0_pay5, k0_pay4, k0_pay1]

/-- A score of a query of the fourth grid row and a key of its window. -/
theorem win3 (q : FVec Ideal S256x128 .f32) (kw : FVec Ideal S512x128 .f32) (bw : FVec Ideal S1x1x64x512 .f32) (r : Fin 64) (k : Fin 512) :
    k0_pay27 (F := Ideal) (k0_pay21 (k0_pay4 q)) kw bw (ix2 r k)
      = ((∑ e : Fin 128, (q (ix2 ⟨192 + r, by omega⟩ e) : EReal) * kw (ix2 k e)) * scl + bw (ix4 0 0 r k) : EReal) := by
  rw [scl]
  pointwise [k0_pay27, k0_pay21, k0_pay4]

end Cert.Neigh.Kernel

end
-- ==== Proof.Neigh.Block.lean ====
module

public import proofs.«01_k».proof.Proof.Neigh.Pay

@[expose] public section

set_option maxRecDepth 16384

noncomputable section

namespace Cert.Neigh.Kernel

open Cert.Kernel26Ideal Cert.Kernel26Ideal.Gen Idealize.ShloMosaic Idealize.ShloMosaic.TcCoe Idealize.SL.Sem
open Idealize.ShloMosaic.Pipeline (Dat)

/-- The block each window shows at grid point `t`, which is row block `t % 33` of head `t / 33`. -/
theorem idx : ∀ t : Fin cfg0.N, win0_0.index t = ![t.val % 33, 24 + t.val / 33] ∧ win0_1.index t = ![0, 32 + t.val / 33] ∧ win0_2.index t = ![0, 40 + t.val / 33]
    ∧ win0_3.index t = ![t.val / 33, 0, 0, 0] ∧ win0_4.index t = ![t.val % 33, t.val / 33] :=
  (by decide +kernel : ∀ t : Fin grid0.N, _)

/-- Where the keys, the values and the biases of grid row `i` of a block are read. -/
theorem offs : ∀ t : Fin cfg0.N, t.val % 33 ≤ 31 → ∀ i : Fin 4, k0_off1 (grid0.coords t) (BitVec.ofNat 32 i) = ![first (t.val % 33 * 4 + i) * 64, 0]
    ∧ k0_off2 (grid0.coords t) (BitVec.ofNat 32 i) = ![0, first (t.val % 33 * 4 + i) + 7 - (t.val % 33 * 4 + i), 0, 0] :=
  (by decide +kernel : ∀ t : Fin grid0.N, _)

/-- The attention's result array: rows by position, columns by head and component. -/
def G (X : FVec Ideal S8448x6144 .f32) (B : FVec Ideal S8x8x64x512 .f32) : FVec Ideal S8448x1024 .bf16 := fun i =>
  out X B ((i 1 : ℕ) / 128) (i 0) ((i 1 : ℕ) % 128)

/-- The attention's result array at an index given by its coordinates. -/
theorem G_at (X : FVec Ideal S8448x6144 .f32) (B : FVec Ideal S8x8x64x512 .f32) (i : S8448x1024.Idx) (a p d : ℕ)
    (h0 : (i 0 : ℕ) = p) (h1 : (i 1 : ℕ) / 128 = a) (hd : (i 1 : ℕ) % 128 = d) : out X B a p d = G X B i := by
  subst h0 h1 hd; rfl

variable (m : (ℓ : Loc nD τ sig) → Buf (Elt Ideal) ℓ)

/-- A block of queries, as entries of the array. -/
theorem at_q (c : Dev nD) (t : Fin cfg0.N) (r : Fin 256) (l : Fin 128) :
    iblk m c 0 t (ix2 r l) = at2 (m ((c : Thread nD τ).loc main_arg0)) (t.val % 33 * 256 + r) (3072 + t.val / 33 * 128 + l) := by
  have ht : t.val < 264 := t.isLt
  rw [at2, dif_pos ⟨by omega, by omega⟩]
  blk_point [iblk, V, idx t]

/-- A column of keys, as entries of the array. -/
theorem at_k (c : Dev nD) (t : Fin cfg0.N) (r : Fin 8448) (l : Fin 128) :
    iblk m c 1 t (ix2 r l) = at2 (m ((c : Thread nD τ).loc main_arg0)) r (4096 + t.val / 33 * 128 + l) := by
  have ht : t.val < 264 := t.isLt
  rw [at2, dif_pos ⟨by omega, by omega⟩]
  blk_point [iblk, V, idx t]

/-- A column of values, as entries of the array. -/
theorem at_v (c : Dev nD) (t : Fin cfg0.N) (r : Fin 8448) (l : Fin 128) :
    iblk m c 2 t (ix2 r l) = at2 (m ((c : Thread nD τ).loc main_arg0)) r (5120 + t.val / 33 * 128 + l) := by
  have ht : t.val < 264 := t.isLt
  rw [at2, dif_pos ⟨by omega, by omega⟩]
  blk_point [iblk, V, idx t]

/-- A head's table of biases, as entries of the array. -/
theorem at_b (c : Dev nD) (t : Fin cfg0.N) (z : Fin 1) (o : Fin 8) (q : Fin 64) (k : Fin 512) :
    iblk m c 3 t (ix4 z o q k) = at4 (m ((c : Thread nD τ).loc main_arg1)) (t.val / 33) o q k := by
  have ht : t.val < 264 := t.isLt
  rw [at4, dif_pos ⟨by omega, by omega, by omega, by omega⟩]
  blk_point [iblk, V, idx t]

/-- A key of a window, at the offset the load uses. -/
theorem at_k_win (c : Dev nD) (t : Fin cfg0.N) (h : t.val % 33 ≤ 31) (i : Fin 4) (k : Fin 512) (d : Fin 128) (r : Fin 8448) (l : Fin 128)
    (hr : (r : ℕ) = k0_off1 (grid0.coords t) (BitVec.ofNat 32 i) 0 + k) (hl : (l : ℕ) = k0_off1 (grid0.coords t) (BitVec.ofNat 32 i) 1 + d) :
    iblk m c 1 t (ix2 r l) = at2 (m ((c : Thread nD τ).loc main_arg0)) (first (t.val % 33 * 4 + i) * 64 + k) (4096 + t.val / 33 * 128 + d) := by
  rw [(offs t h i).1] at hr hl
  rw [at_k m c t r l, hr, hl]
  simp

/-- A value of a window, at the offset the load uses. -/
theorem at_v_win (c : Dev nD) (t : Fin cfg0.N) (h : t.val % 33 ≤ 31) (i : Fin 4) (k : Fin 512) (d : Fin 128) (r : Fin 8448) (l : Fin 128)
    (hr : (r : ℕ) = k0_off1 (grid0.coords t) (BitVec.ofNat 32 i) 0 + k) (hl : (l : ℕ) = k0_off1 (grid0.coords t) (BitVec.ofNat 32 i) 1 + d) :
    iblk m c 2 t (ix2 r l) = at2 (m ((c : Thread nD τ).loc main_arg0)) (first (t.val % 33 * 4 + i) * 64 + k) (5120 + t.val / 33 * 128 + d) := by
  rw [(offs t h i).1] at hr hl
  rw [at_v m c t r l, hr, hl]
  simp

/-- A bias of a window, at the offset the load uses. -/
theorem at_b_win (c : Dev nD) (t : Fin cfg0.N) (h : t.val % 33 ≤ 31) (i : Fin 4) (q : Fin 64) (k : Fin 512) (z : Fin 1) (o : Fin 8) (q' : Fin 64) (k' : Fin 512)
    (ho : (o : ℕ) = k0_off2 (grid0.coords t) (BitVec.ofNat 32 i) 1) (hq : (q' : ℕ) = k0_off2 (grid0.coords t) (BitVec.ofNat 32 i) 2 + q)
    (hk : (k' : ℕ) = k0_off2 (grid0.coords t) (BitVec.ofNat 32 i) 3 + k) :
    iblk m c 3 t (ix4 z o q' k') = at4 (m ((c : Thread nD τ).loc main_arg1)) (t.val / 33) (first (t.val % 33 * 4 + i) + 7 - (t.val % 33 * 4 + i)) q k := by
  rw [(offs t h i).2] at ho hq hk
  rw [at_b m c t z o q' k', ho, hq, hk]
  simp

/-- The attention's result at a row of a block, from the scores and values of its grid row. -/
theorem gather_row (X : FVec Ideal S8448x6144 .f32) (B : FVec Ideal S8x8x64x512 .f32) (b a i : ℕ) (r : Fin 64) (d : Fin 128)
    (q kc vc : FVec Ideal S256x128 .f32) (kw vw : FVec Ideal S512x128 .f32) (bw : FVec Ideal S1x1x64x512 .f32) (R : Fin 256) (hR : (R : ℕ) = i * 64 + r)
    (hq : ∀ r c, q (ix2 r c) = at2 X (b * 256 + r) (3072 + a * 128 + c))
    (hkc : ∀ k c, kc (ix2 k c) = at2 X (8192 + k) (4096 + a * 128 + c))
    (hvc : ∀ k c, vc (ix2 k c) = at2 X (8192 + k) (5120 + a * 128 + c))
    (hkw : ∀ k c, kw (ix2 k c) = at2 X (first (b * 4 + i) * 64 + k) (4096 + a * 128 + c))
    (hvw : ∀ k c, vw (ix2 k c) = at2 X (first (b * 4 + i) * 64 + k) (5120 + a * 128 + c))
    (hbw : ∀ r k, bw (ix4 0 0 r k) = at4 B a (first (b * 4 + i) + 7 - (b * 4 + i)) r k) :
    pair (fun k : Fin 256 => (∑ e : Fin 128, (q (ix2 R e) : EReal) * kc (ix2 k e)) * scl)
        (fun k : Fin 512 => (∑ e : Fin 128, (q (ix2 R e) : EReal) * kw (ix2 k e)) * scl + bw (ix4 0 0 r k))
        (fun k => (vc (ix2 k d) : EReal)) (fun k => (vw (ix2 k d) : EReal))
      = latent X B a (b * 4 + i) r d := by
  have e : b * 256 + (R : ℕ) = (b * 4 + i) * 64 + r := by omega
  simp only [hq, hkc, hvc, hkw, hvw, hbw, e]
  rfl

/-- The attention's result at a row of a latent block. -/
theorem out_latent (X : FVec Ideal S8448x6144 .f32) (B : FVec Ideal S8x8x64x512 .f32) (a b i n d : ℕ) (r : Fin 64) (hb : b ≤ 31) (hi : i < 4) (hn : n = i * 64 + r) :
    latent X B a (b * 4 + i) r d = out X B a (b * 256 + n) d := by
  rw [out, if_pos (by omega), show (b * 256 + n) / 64 = b * 4 + i by omega, show (b * 256 + n) % 64 = r by omega]

/-- Grid row 0 of a block is the attention's. -/
theorem row0 (X : FVec Ideal S8448x6144 .f32) (B : FVec Ideal S8x8x64x512 .f32) (b a : ℕ) (r : Fin 64) (d : Fin 128)
    (q kc vc : FVec Ideal S256x128 .f32) (kw vw : FVec Ideal S512x128 .f32) (bw : FVec Ideal S1x1x64x512 .f32)
    (hq : ∀ r c, q (ix2 r c) = at2 X (b * 256 + r) (3072 + a * 128 + c))
    (hkc : ∀ k c, kc (ix2 k c) = at2 X (8192 + k) (4096 + a * 128 + c))
    (hvc : ∀ k c, vc (ix2 k c) = at2 X (8192 + k) (5120 + a * 128 + c))
    (hkw : ∀ k c, kw (ix2 k c) = at2 X (first (b * 4 + 0) * 64 + k) (4096 + a * 128 + c))
    (hvw : ∀ k c, vw (ix2 k c) = at2 X (first (b * 4 + 0) * 64 + k) (5120 + a * 128 + c))
    (hbw : ∀ r k, bw (ix4 0 0 r k) = at4 B a (first (b * 4 + 0) + 7 - (b * 4 + 0)) r k)
    (p1 : FVec Ideal S64x256 .bf16) (p2 : FVec Ideal S64x256 .bf16) (p3 : FVec Ideal S64x256 .f32) :
    k0_pay52 (F := Ideal) (k0_pay2 vc) (k0_pay9 vw) (k0_pay33 (k0_pay31 (k0_pay6 q) (k0_pay7 (k0_pay1 kc) q) (k0_pay8 kw) (k0_pay10 bw)) (k0_pay32 (k0_pay6 q) (k0_pay7 (k0_pay1 kc) q) (k0_pay8 kw) (k0_pay10 bw))) (k0_pay34 (k0_pay29 (k0_pay6 q) (k0_pay7 (k0_pay1 kc) q) (k0_pay8 kw) (k0_pay10 bw))) (k0_pay35 (k0_pay30 (k0_pay6 q) (k0_pay7 (k0_pay1 kc) q) (k0_pay8 kw) (k0_pay10 bw))) p1 p2 p3 (ix2 r d) = latent X B a (b * 4 + 0) r d := by
  refine (soft0 (k0_pay2 vc) (k0_pay9 vw) (k0_pay6 q) (k0_pay7 (k0_pay1 kc) q) (k0_pay8 kw) (k0_pay10 bw) _ rfl p1 p2 p3 r d).trans ?_
  refine Eq.trans ?_ (gather_row X B b a 0 r d q kc vc kw vw bw ⟨0 + r, by omega⟩ (by dsimp only) hq hkc hvc hkw hvw hbw)
  refine congr (congr (congr (congrArg pair (funext fun k => ctx0 q kc r k)) (funext fun k => win0 q kw bw r k)) (funext fun k => ?_)) (funext fun k => ?_)
  · pointwise [k0_pay2]
  · pointwise [k0_pay9]

/-- Grid row 1 of a block is the attention's. -/
theorem row1 (X : FVec Ideal S8448x6144 .f32) (B : FVec Ideal S8x8x64x512 .f32) (b a : ℕ) (r : Fin 64) (d : Fin 128)
    (q kc vc : FVec Ideal S256x128 .f32) (kw vw : FVec Ideal S512x128 .f32) (bw : FVec Ideal S1x1x64x512 .f32)
    (hq : ∀ r c, q (ix2 r c) = at2 X (b * 256 + r) (3072 + a * 128 + c))
    (hkc : ∀ k c, kc (ix2 k c) = at2 X (8192 + k) (4096 + a * 128 + c))
    (hvc : ∀ k c, vc (ix2 k c) = at2 X (8192 + k) (5120 + a * 128 + c))
    (hkw : ∀ k c, kw (ix2 k c) = at2 X (first (b * 4 + 1) * 64 + k) (4096 + a * 128 + c))
    (hvw : ∀ k c, vw (ix2 k c) = at2 X (first (b * 4 + 1) * 64 + k) (5120 + a * 128 + c))
    (hbw : ∀ r k, bw (ix4 0 0 r k) = at4 B a (first (b * 4 + 1) + 7 - (b * 4 + 1)) r k)
    (p0 : FVec Ideal S64x256 .bf16) (p2 : FVec Ideal S64x256 .bf16) (p3 : FVec Ideal S64x256 .f32) :
    k0_pay53 (F := Ideal) (k0_pay2 vc) (k0_pay14 vw) p0 (k0_pay39 (k0_pay12 (k0_pay1 kc) q) (k0_pay25 (k0_pay11 q) (k0_pay13 kw) (k0_pay15 bw))) (k0_pay40 (k0_pay12 (k0_pay1 kc) q) (k0_pay25 (k0_pay11 q) (k0_pay13 kw) (k0_pay15 bw))) (k0_pay41 (k0_pay12 (k0_pay1 kc) q) (k0_pay25 (k0_pay11 q) (k0_pay13 kw) (k0_pay15 bw))) p2 p3 (ix2 r d) = latent X B a (b * 4 + 1) r d := by
  refine (soft1 (k0_pay2 vc) (k0_pay14 vw) (k0_pay12 (k0_pay1 kc) q) (k0_pay25 (k0_pay11 q) (k0_pay13 kw) (k0_pay15 bw)) p0 p2 p3 r d).trans ?_
  refine Eq.trans ?_ (gather_row X B b a 1 r d q kc vc kw vw bw ⟨64 + r, by omega⟩ (by dsimp only) hq hkc hvc hkw hvw hbw)
  refine congr (congr (congr (congrArg pair (funext fun k => ctx1 q kc r k)) (funext fun k => win1 q kw bw r k)) (funext fun k => ?_)) (funext fun k => ?_)
  · pointwise [k0_pay2]
  · pointwise [k0_pay14]

/-- Grid row 2 of a block is the attention's. -/
theorem row2 (X : FVec Ideal S8448x6144 .f32) (B : FVec Ideal S8x8x64x512 .f32) (b a : ℕ) (r : Fin 64) (d : Fin 128)
    (q kc vc : FVec Ideal S256x128 .f32) (kw vw : FVec Ideal S512x128 .f32) (bw : FVec Ideal S1x1x64x512 .f32)
    (hq : ∀ r c, q (ix2 r c) = at2 X (b * 256 + r) (3072 + a * 128 + c))
    (hkc : ∀ k c, kc (ix2 k c) = at2 X (8192 + k) (4096 + a * 128 + c))
    (hvc : ∀ k c, vc (ix2 k c) = at2 X (8192 + k) (5120 + a * 128 + c))
    (hkw : ∀ k c, kw (ix2 k c) = at2 X (first (b * 4 + 2) * 64 + k) (4096 + a * 128 + c))
    (hvw : ∀ k c, vw (ix2 k c) = at2 X (first (b * 4 + 2) * 64 + k) (5120 + a * 128 + c))
    (hbw : ∀ r k, bw (ix4 0 0 r k) = at4 B a (first (b * 4 + 2) + 7 - (b * 4 + 2)) r k)
    (p0 : FVec Ideal S64x256 .bf16) (p1 : FVec Ideal S64x256 .bf16) (p3 : FVec Ideal S64x256 .f32) :
    k0_pay54 (F := Ideal) (k0_pay2 vc) (k0_pay19 vw) p0 p1 (k0_pay45 (k0_pay17 (k0_pay5 (k0_pay1 kc) q)) (k0_pay26 (k0_pay16 (k0_pay4 q)) (k0_pay18 kw) (k0_pay20 bw))) (k0_pay46 (k0_pay17 (k0_pay5 (k0_pay1 kc) q)) (k0_pay26 (k0_pay16 (k0_pay4 q)) (k0_pay18 kw) (k0_pay20 bw))) (k0_pay47 (k0_pay17 (k0_pay5 (k0_pay1 kc) q)) (k0_pay26 (k0_pay16 (k0_pay4 q)) (k0_pay18 kw) (k0_pay20 bw))) p3 (ix2 r d) = latent X B a (b * 4 + 2) r d := by
  refine (soft2 (k0_pay2 vc) (k0_pay19 vw) (k0_pay17 (k0_pay5 (k0_pay1 kc) q)) (k0_pay26 (k0_pay16 (k0_pay4 q)) (k0_pay18 kw) (k0_pay20 bw)) p0 p1 p3 r d).trans ?_
  refine Eq.trans ?_ (gather_row X B b a 2 r d q kc vc kw vw bw ⟨128 + r, by omega⟩ (by dsimp only) hq hkc hvc hkw hvw hbw)
  refine congr (congr (congr (congrArg pair (funext fun k => ctx2 q kc r k)) (funext fun k => win2 q kw bw r k)) (funext fun k => ?_)) (funext fun k => ?_)
  · pointwise [k0_pay2]
  · pointwise [k0_pay19]

/-- Grid row 3 of a block is the attention's. -/
theorem row3 (X : FVec Ideal S8448x6144 .f32) (B : FVec Ideal S8x8x64x512 .f32) (b a : ℕ) (r : Fin 64) (d : Fin 128)
    (q kc vc : FVec Ideal S256x128 .f32) (kw vw : FVec Ideal S512x128 .f32) (bw : FVec Ideal S1x1x64x512 .f32)
    (hq : ∀ r c, q (ix2 r c) = at2 X (b * 256 + r) (3072 + a * 128 + c))
    (hkc : ∀ k c, kc (ix2 k c) = at2 X (8192 + k) (4096 + a * 128 + c))
    (hvc : ∀ k c, vc (ix2 k c) = at2 X (8192 + k) (5120 + a * 128 + c))
    (hkw : ∀ k c, kw (ix2 k c) = at2 X (first (b * 4 + 3) * 64 + k) (4096 + a * 128 + c))
    (hvw : ∀ k c, vw (ix2 k c) = at2 X (first (b * 4 + 3) * 64 + k) (5120 + a * 128 + c))
    (hbw : ∀ r k, bw (ix4 0 0 r k) = at4 B a (first (b * 4 + 3) + 7 - (b * 4 + 3)) r k)
    (p0 : FVec Ideal S64x256 .bf16) (p1 : FVec Ideal S64x256 .bf16) (p2 : FVec Ideal S64x256 .bf16) :
    k0_pay55 (F := Ideal) (k0_pay2 vc) (k0_pay23 vw) p0 p1 p2 (k0_pay49 (k0_pay22 (k0_pay5 (k0_pay1 kc) q)) (k0_pay27 (k0_pay21 (k0_pay4 q)) kw bw)) (k0_pay50 (k0_pay22 (k0_pay5 (k0_pay1 kc) q)) (k0_pay27 (k0_pay21 (k0_pay4 q)) kw bw)) (ix2 r d) = latent X B a (b * 4 + 3) r d := by
  refine (soft3 (k0_pay2 vc) (k0_pay23 vw) (k0_pay22 (k0_pay5 (k0_pay1 kc) q)) (k0_pay27 (k0_pay21 (k0_pay4 q)) kw bw) p0 p1 p2 r d).trans ?_
  refine Eq.trans ?_ (gather_row X B b a 3 r d q kc vc kw vw bw ⟨192 + r, by omega⟩ (by dsimp only) hq hkc hvc hkw hvw hbw)
  refine congr (congr (congr (congrArg pair (funext fun k => ctx3 q kc r k)) (funext fun k => win3 q kw bw r k)) (funext fun k => ?_)) (funext fun k => ?_)
  · pointwise [k0_pay2]
  · pointwise [k0_pay23]

/-- The kernel's block at a grid point of latent rows. -/
theorem point_latent (c : Dev nD) (t : Fin cfg0.N) (h0' : ¬t.val % 33 = 32) (h1' : t.val % 33 ≤ 31) (r : Fin 256) (l : Fin 128) :
    outsAt0 m c t.val t.isLt (ix2 r l) = out (m ((c : Thread nD τ).loc main_arg0)) (m ((c : Thread nD τ).loc main_arg1)) (t.val / 33) (t.val % 33 * 256 + r) l := by
  have ht : t.val < 264 := t.isLt
  rw [outsAt0_A m c t h0' h1']
  frame_out
  canon_tiles x h
  all_goals (simp only [ix2_0, ix2_1] at h0 h1)
  case piece0 =>
    idx_vars x
    refine (row3 (m ((c : Thread nD τ).loc main_arg0)) (m ((c : Thread nD τ).loc main_arg1)) (t.val % 33) (t.val / 33) x0 x1 _ _ _ _ _ _ (at_q m c t) ?_ ?_ ?_ ?_ ?_ _ _ _).trans ?_
    · intro k d; pointwise; exact at_k m c t _ _
    · intro k d; pointwise; exact at_v m c t _ _
    · intro k d; pointwise; exact at_k_win m c t h1' 3 k d _ _ rfl rfl
    · intro k d; pointwise; exact at_v_win m c t h1' 3 k d _ _ rfl rfl
    · intro r k; pointwise; exact at_b_win m c t h1' 3 r k _ _ _ _ rfl rfl rfl
    · have e : (l : ℕ) = x1 := by simpa using h1
      rw [e]
      exact out_latent _ _ _ _ _ r _ x0 h1' (by norm_num) (by simpa using h0)
  case piece1 =>
    idx_vars x
    refine (row2 (m ((c : Thread nD τ).loc main_arg0)) (m ((c : Thread nD τ).loc main_arg1)) (t.val % 33) (t.val / 33) x0 x1 _ _ _ _ _ _ (at_q m c t) ?_ ?_ ?_ ?_ ?_ _ _ _).trans ?_
    · intro k d; pointwise; exact at_k m c t _ _
    · intro k d; pointwise; exact at_v m c t _ _
    · intro k d; pointwise; exact at_k_win m c t h1' 2 k d _ _ rfl rfl
    · intro k d; pointwise; exact at_v_win m c t h1' 2 k d _ _ rfl rfl
    · intro r k; pointwise; exact at_b_win m c t h1' 2 r k _ _ _ _ rfl rfl rfl
    · have e : (l : ℕ) = x1 := by simpa using h1
      rw [e]
      exact out_latent _ _ _ _ _ r _ x0 h1' (by norm_num) (by simpa using h0)
  case piece2 =>
    idx_vars x
    refine (row1 (m ((c : Thread nD τ).loc main_arg0)) (m ((c : Thread nD τ).loc main_arg1)) (t.val % 33) (t.val / 33) x0 x1 _ _ _ _ _ _ (at_q m c t) ?_ ?_ ?_ ?_ ?_ _ _ _).trans ?_
    · intro k d; pointwise; exact at_k m c t _ _
    · intro k d; pointwise; exact at_v m c t _ _
    · intro k d; pointwise; exact at_k_win m c t h1' 1 k d _ _ rfl rfl
    · intro k d; pointwise; exact at_v_win m c t h1' 1 k d _ _ rfl rfl
    · intro r k; pointwise; exact at_b_win m c t h1' 1 r k _ _ _ _ rfl rfl rfl
    · have e : (l : ℕ) = x1 := by simpa using h1
      rw [e]
      exact out_latent _ _ _ _ _ r _ x0 h1' (by norm_num) (by simpa using h0)
  case piece3 =>
    idx_vars x
    refine (row0 (m ((c : Thread nD τ).loc main_arg0)) (m ((c : Thread nD τ).loc main_arg1)) (t.val % 33) (t.val / 33) x0 x1 _ _ _ _ _ _ (at_q m c t) ?_ ?_ ?_ ?_ ?_ _ _ _).trans ?_
    · intro k d; pointwise; exact at_k m c t _ _
    · intro k d; pointwise; exact at_v m c t _ _
    · intro k d; pointwise; exact at_k_win m c t h1' 0 k d _ _ rfl rfl
    · intro k d; pointwise; exact at_v_win m c t h1' 0 k d _ _ rfl rfl
    · intro r k; pointwise; exact at_b_win m c t h1' 0 r k _ _ _ _ rfl rfl rfl
    · have e : (l : ℕ) = x1 := by simpa using h1
      rw [e]
      exact out_latent _ _ _ _ _ r _ x0 h1' (by norm_num) (by simpa using h0)

/-- The kernel's block at a grid point of context rows. -/
theorem point_context (c : Dev nD) (t : Fin cfg0.N) (h0' : t.val % 33 = 32) (h1' : ¬t.val % 33 ≤ 31) (r : Fin 256) (l : Fin 128) :
    outsAt0 m c t.val t.isLt (ix2 r l) = out (m ((c : Thread nD τ).loc main_arg0)) (m ((c : Thread nD τ).loc main_arg1)) (t.val / 33) (t.val % 33 * 256 + r) l := by
  rw [outsAt0_B m c t h0' h1']
  frame_out
  rw [softC, out, if_neg (by omega), context, show t.val % 33 * 256 + (r : ℕ) - 8192 = r by omega]
  have hk : ∀ (k : Fin 256) (e : Fin 128), View.ld (iblk m c 1 t) (Rect.unit ![8192, 0] ![256, 128] inb_S8448x128_S256x128_8192_0) (ix2 k e)
      = at2 (m ((c : Thread nD τ).loc main_arg0)) (8192 + k) (4096 + t.val / 33 * 128 + e) := fun k e => by
    pointwise; exact at_k m c t _ _
  have hv : ∀ (k : Fin 256) (e : Fin 128), View.ld (iblk m c 2 t) (Rect.unit ![8192, 0] ![256, 128] inb_S8448x128_S256x128_8192_0) (ix2 k e)
      = at2 (m ((c : Thread nD τ).loc main_arg0)) (8192 + k) (5120 + t.val / 33 * 128 + e) := fun k e => by
    pointwise; exact at_v m c t _ _
  simp only [hk, hv, at_q, h0']
  rfl

/-- The kernel's block at grid point `t`. -/
theorem point (c : Dev nD) (t : Fin cfg0.N) (r : Fin 256) (l : Fin 128) :
    outsAt0 m c t.val t.isLt (ix2 r l) = out (m ((c : Thread nD τ).loc main_arg0)) (m ((c : Thread nD τ).loc main_arg1)) (t.val / 33) (t.val % 33 * 256 + r) l := by
  by_cases h : t.val % 33 = 32
  · exact point_context m c t h (by omega) r l
  · exact point_latent m c t h (by omega) r l

/-- The kernel's result array is the attention's. -/
theorem final (c : Dev nD) : (dats m 0 c).arrAt 4 cfg0.N = G (m ((c : Thread nD τ).loc main_arg0)) (m ((c : Thread nD τ).loc main_arg1)) := by
  refine (dats m 0 c).arrAt_eq_of_covers 4 _ (by decide +kernel) fun t _ y => ?_
  have ht : t.val < 264 := t.isLt
  blk_simp
  rw [after0_4]
  idx_vars y
  refine (point m c t y0 y1).trans (G_at _ _ _ _ _ _ ?_ ?_ ?_)
  all_goals (blk_simp [idx t] <;> try omega)

end Cert.Neigh.Kernel

end
-- ==== Proof.Neigh.Res.lean ====
module

public import proofs.«01_k».proof.Proof.Neigh.Rows
public import proofs.«01_k».proof.Proof.Neigh.Block

@[expose] public section

noncomputable section

namespace Cert.Neigh.Ref

open Cert.Reference26Ideal Cert.Reference26Ideal.Gen Idealize.ShloMosaic Idealize.ShloMosaic.TcCoe Idealize.SL.Sem

/-- The reference's result is the attention's array. -/
theorem res_eq_G (X : FVec Ideal S8448x6144 .f32) (B : FVec Ideal S8x8x64x512 .f32) (hX : Finite X B) : res X B = Kernel.G X B := by
  funext y
  idx_vars y
  exact res_at X B hX y0 y1

end Cert.Neigh.Ref

end
-- ==== Proof.Neigh.Pre.lean ====
module

public import proofs.«01_k».proof.Proof.Gen.Pre_real
public import proofs.«01_k».proof.Proof.Attn.Pre
public import proofs.«01_k».proof.Proof.Neigh.Spec

@[expose] public section

noncomputable section

namespace Cert.Neigh.Pre

open Cert.Pre_real Cert.Pre_real.Gen Idealize.ShloMosaic Cert.Attn.Pre

/-- What the precondition says: the queries and the keys are real and the biases below ∞. -/
theorem read (X : FVec Ideal S8448x6144 .f32) (B : FVec Ideal S8x8x64x512 .f32) (h : fn (F := Ideal) X B = fun _ => 1#1) : Finite X B := by
  refine ⟨fun n c h1 h2 => ?_, fun i => ?_⟩
  · rw [at2]
    split
    · next hn =>
      have hp : fn (F := Ideal) X B (ix2 (⟨n, hn.1⟩ : Fin 8448) (⟨c - 3072, by omega⟩ : Fin 2048)) = 1#1 := congrFun h _
      have hq := (both (show IntOp.andi _ _ = 1#1 from hp)).1
      pointwise at hq
      rw [inf_f32] at hq
      have := real_of_abs (of_bit hq)
      simpa [show 3072 + (c - 3072) = c by omega] using this
    · exact ⟨0, rfl⟩
  · have hp : fn (F := Ideal) X B (ix2 (0 : Fin 8448) (0 : Fin 2048)) = 1#1 := congrFun h _
    have hq := Host.reduce_andi_all _ _ _ _ _ (both (show IntOp.andi _ _ = 1#1 from hp)).2 i
    have he : BitVec.ofBool (decide ((B i : EReal) < Ideal.ofBits .f32 0x7F800000#32)) = 1#1 := hq
    rw [inf_f32] at he
    exact (of_bit he).ne

end Cert.Neigh.Pre

end
-- ==== Proof.Neigh.Claims.lean ====
module

public import proofs.«01_k».proof.Defs
public import proofs.«01_k».proof.Proof.Gen.Kernel26.Frame
public import proofs.«01_k».proof.Proof.Gen.Kernel26Ideal.Frame
public import proofs.«01_k».proof.Proof.Neigh.Res
public import proofs.«01_k».proof.Proof.Neigh.Pre
public import Idealize.ShloMosaic.Lib.Quiescent

@[expose] public section

noncomputable section

namespace Cert.Neigh.Claims

open Idealize.ShloMosaic Idealize.SL.Sem

/-- The kernel runs, leaves its arguments and every semaphore counter at zero. -/
theorem frame_kernel : Cert.quiescent_Kernel26 := fun m ρ _ => Cert.Kernel26.Gen.frame m ρ

/-- So does its idealization. -/
theorem frame_ideal : Cert.quiescent_Kernel26Ideal := fun m ρ _ => Cert.Kernel26Ideal.Gen.frame m ρ

theorem frame_ideal_pre : Cert.quiescent_Kernel26Ideal_pre_real := fun m ρ _ => Cert.Kernel26Ideal.Gen.frame m ρ

/-- The reference runs, leaves its arguments and every semaphore counter at zero. -/
theorem frame_reference : Cert.quiescent_Reference26Ideal := fun m ρ _ =>
  (θ_run Cert.Reference26Ideal.defs _ _).mono
    (fun r h => ⟨fun c => (h c).2, Idealize.ShloMosaic.sem_eq_zero_of_no_sems (by decide) r.2⟩) (Cert.Reference26Ideal.Value.run (F := Ideal) m ρ)

theorem frame_reference_pre : Cert.quiescent_Reference26Ideal_pre_real := fun m ρ _ => frame_reference m ρ trivial

/-- No literal is named. -/
theorem preserves : Cert.preserves_Kernel26_Kernel26Ideal := trivial

/-- The neighbourhood attention's kernel and its reference end with equal results, both the attention of `Spec`. -/
theorem algebraic : Cert.algebraic_Kernel26Ideal_Reference26Ideal_pre_real := by
  intro m ρ m' ρ' hpre hagree
  refine ⟨fun c => Kernel.G (m (c.tc.loc Cert.Kernel26Ideal.main_arg0)) (m (c.tc.loc Cert.Kernel26Ideal.main_arg1)),
    (θ_run Cert.Kernel26Ideal.defs _ _).mono (fun _ h c => ⟨(h c).1.trans (Kernel.final m c), (h c).2⟩) (Cert.Kernel26Ideal.Value.run_blocks m ρ),
    (θ_run Cert.Reference26Ideal.defs _ _).mono (fun _ h c => ⟨(h c).1.trans ?_, (h c).2⟩) (Cert.Reference26Ideal.Value.run (F := Ideal) m' ρ')⟩
  have hX := Pre.read _ _ (hpre c)
  rw [Ref.res_eq, (hagree c).1, (hagree c).2]
  exact Ref.res_eq_G _ _ hX

end Cert.Neigh.Claims

end
-- ==== Proof.Mod.Modulate.lean ====
module

public import proofs.«01_k».proof.Defs
public import proofs.«01_k».proof.Proof.Gen.Kernel27.Frame
public import proofs.«01_k».proof.Proof.Gen.Kernel27Ideal.Value
public import proofs.«01_k».proof.Proof.Gen.Reference27Ideal.Run
public import Idealize.ShloMosaic.Lib.Pipeline.ValueKit
public import Idealize.ShloMosaic.Lib.Quiescent

@[expose] public section

set_option maxRecDepth 16384

noncomputable section

namespace Cert.Mod.Modulate

open Idealize.ShloMosaic Idealize.ShloMosaic.TcCoe Idealize.SL.Sem
open Idealize.ShloMosaic.Pipeline (Dat)

section
open Cert.Reference27Ideal Cert.Reference27Ideal.Gen

/-- What the reference makes: the latent rows scaled and shifted by row 0 of the modulation, the context rows by row 1. -/
def ref (X : FVec Ideal S8448x2048 .f32) (M : FVec Ideal S8x12288 .f32) : FVec Ideal S8448x2048 .bf16 :=
  truncf .bf16 (concatenate S8448x2048 0 [⟨S8192x2048, (addf (mulf (extractStridedSlice S8192x2048 ![0, 0] X slices_S8448x2048_S8192x2048_0_0) (broadcastInDim S8192x2048 ![0, 1] bcast_S1x2048_S8192x2048_0_1 (addf (broadcastInDim S1x2048 ![] bcast_S_S1x2048 (constant S_ .f32 0x3F800000#32)) (extractStridedSlice S1x2048 ![0, 2048] (extractStridedSlice S1x12288 ![0, 0] M slices_S8x12288_S1x12288_0_0) slices_S1x12288_S1x2048_0_2048)))) (broadcastInDim S8192x2048 ![0, 1] bcast_S1x2048_S8192x2048_0_1 (extractStridedSlice S1x2048 ![0, 0] (extractStridedSlice S1x12288 ![0, 0] M slices_S8x12288_S1x12288_0_0) slices_S1x12288_S1x2048_0_0)))⟩, ⟨S256x2048, (addf (mulf (extractStridedSlice S256x2048 ![8192, 0] X slices_S8448x2048_S256x2048_8192_0) (broadcastInDim S256x2048 ![0, 1] bcast_S1x2048_S256x2048_0_1 (addf (broadcastInDim S1x2048 ![] bcast_S_S1x2048 (constant S_ .f32 0x3F800000#32)) (extractStridedSlice S1x2048 ![0, 2048] (extractStridedSlice S1x12288 ![1, 0] M slices_S8x12288_S1x12288_1_0) slices_S1x12288_S1x2048_0_2048)))) (broadcastInDim S256x2048 ![0, 1] bcast_S1x2048_S256x2048_0_1 (extractStridedSlice S1x2048 ![0, 0] (extractStridedSlice S1x12288 ![1, 0] M slices_S8x12288_S1x12288_1_0) slices_S1x12288_S1x2048_0_0)))⟩] concatenates_S8192x2048_S256x2048_S8448x2048_d0) bitsLt_bf16_f32

/-- The reference at a row and a column. -/
theorem ref_at (X : FVec Ideal S8448x2048 .f32) (M : FVec Ideal S8x12288 .f32) (i : S8448x2048.Idx) (a b : ℕ) (ha : a < 8448) (hb : b < 2048)
    (h0 : (i 0).val = a) (h1 : (i 1).val = b) :
    ref X M i = X (ix2 ⟨a, ha⟩ ⟨b, hb⟩) * (1 + M (ix2 (if a < 8192 then 0 else 1) ⟨2048 + b, by omega⟩))
      + M (ix2 (if a < 8192 then 0 else 1) ⟨b, by omega⟩) := by
  obtain rfl : i = ix2 ⟨a, ha⟩ ⟨b, hb⟩ := by
    rw [← ix2_eta i]
    exact (ix2_inj _ _ _ _).2 ⟨Fin.ext h0, Fin.ext h1⟩
  pointwise [ref]
  by_cases h : a < 8192
  · simp only [dif_pos h, if_pos h]
  · simp only [dif_neg h, if_neg h, show 8192 + (a - 8192) = a by omega]
end

open Cert.Kernel27Ideal Cert.Kernel27Ideal.Gen

variable (m : (ℓ : Loc nD τ sig) → Buf (Elt Ideal) ℓ)

/-- The blocks that grid point `t` reads and writes. -/
theorem idx : ∀ t : Fin cfg0.N, win0_0.index t = ![t.val, 0] ∧ win0_1.index t = ![0, 0]
    ∧ win0_2.index t = ![0, 1] ∧ win0_3.index t = ![t.val, 0] ∧ t.val < 33 :=
  (by decide +kernel : ∀ t : Fin grid0.N, _)

/-- The last block of rows is the context's, the others the latent tokens'. -/
theorem pick : ∀ t : Fin cfg0.N, Scalar.cmpi CmpIPredicate.eq (BitVec.ofNat 32 (grid0.coords t 0).val) 32#32 = if t.val = 32 then 1#1 else 0#1 :=
  (by decide +kernel : ∀ t : Fin grid0.N, _)

/-- The call's output array is the modulated rows. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  frame_out
  pointwise [k0_pay1]
  rw [pick]
  have hi := idx t
  have h0 : (y 0).val < 256 := (y 0).isLt
  have h1 : (y 1).val < 2048 := (y 1).isLt
  refine Eq.trans ?_ (ref_at _ _ _ (t.val * 256 + (y 0).val) (y 1).val ?_ ?_ ?_ ?_).symm
  · rcases eq_or_ne t.val 32 with h | h
    · rw [if_pos h, if_neg (show ¬ t.val * 256 + (y 0).val < 8192 by omega)]
      refine congrArg₂ (· + ·) (congrArg₂ (· * ·) ?_ (congrArg (1 + ·) ?_)) ?_
      · blk_point [iblk, V, idx t]
      · show iblk m c 2 t _ = _
        blk_point [iblk, V, idx t]
      · show iblk m c 1 t _ = _
        blk_point [iblk, V, idx t]
    · rw [if_neg h, if_pos (show t.val * 256 + (y 0).val < 8192 by omega)]
      refine congrArg₂ (· + ·) (congrArg₂ (· * ·) ?_ (congrArg (1 + ·) ?_)) ?_
      · blk_point [iblk, V, idx t]
      · show iblk m c 2 t _ = _
        blk_point [iblk, V, idx t]
      · show iblk m c 1 t _ = _
        blk_point [iblk, V, idx t]
  · omega
  · omega
  · show (((cfg0.win 3).blk t).view.emb y 0).val = _
    blk_simp
    rw [hi.2.2.2.1]
    rfl
  · show (((cfg0.win 3).blk t).view.emb y 1).val = _
    blk_simp
    rw [hi.2.2.2.1]
    exact (congrArg (· + _) (Nat.zero_mul 2048)).trans (Nat.zero_add _)

/-- The call runs, leaves its arguments and every semaphore counter at zero. -/
theorem frame_kernel : Cert.quiescent_Kernel27 := fun m ρ _ => Cert.Kernel27.Gen.frame m ρ

/-- So does its idealization. -/
theorem frame_ideal : Cert.quiescent_Kernel27Ideal := fun m ρ _ => Cert.Kernel27Ideal.Gen.frame m ρ

/-- The reference runs, leaves its arguments and every semaphore counter at zero. -/
theorem frame_reference : Cert.quiescent_Reference27Ideal := fun m ρ _ =>
  (θ_run Cert.Reference27Ideal.defs _ _).mono
    (fun r h => ⟨fun c => (h c).2, Idealize.ShloMosaic.sem_eq_zero_of_no_sems (by decide) r.2⟩) (Cert.Reference27Ideal.Value.run (F := Ideal) m ρ)

/-- No constant is named. -/
theorem preserves : Cert.preserves_Kernel27_Kernel27Ideal := trivial

/-- The modulation and its reference end with equal results. -/
theorem algebraic : Cert.algebraic_Kernel27Ideal_Reference27Ideal := by
  intro m ρ m' ρ' _ hagree
  refine ⟨fun c => ref (m (c.tc.loc Cert.Kernel27Ideal.main_arg0)) (m (c.tc.loc Cert.Kernel27Ideal.main_arg1)),
    (θ_run Cert.Kernel27Ideal.defs _ _).mono (fun _ h c => ⟨(h c).1.trans (final m c), (h c).2⟩) (Cert.Kernel27Ideal.Value.run_blocks m ρ),
    (θ_run Cert.Reference27Ideal.defs _ _).mono (fun _ h c => ⟨(h c).1.trans ?_, (h c).2⟩) (Cert.Reference27Ideal.Value.run (F := Ideal) m' ρ')⟩
  rw [(hagree c).1, (hagree c).2]
  rfl

end Cert.Mod.Modulate

end
-- ==== Proof.Mod.Ln1.lean ====
module

public import proofs.«01_k».proof.Defs
public import proofs.«01_k».proof.Proof.Gen.Kernel28.Frame
public import proofs.«01_k».proof.Proof.Gen.Kernel28Ideal.Value
public import proofs.«01_k».proof.Proof.Gen.Reference28Ideal.Run
public import Idealize.ShloMosaic.Lib.Pipeline.ValueKit
public import Idealize.ShloMosaic.Lib.Quiescent

@[expose] public section

set_option maxRecDepth 16384

noncomputable section

namespace Cert.Mod.Ln1

open Idealize.ShloMosaic Idealize.ShloMosaic.TcCoe Idealize.SL.Sem
open Idealize.ShloMosaic.Pipeline (Dat)

/-- The mean of a row. -/
def mean (y : Fin 2048 → Ideal .f32) : Ideal .f32 := Ideal.div (∑ x, y x) (Ideal.ofBits FTy.f32 0x45000000#32)

/-- The norm of a row at a column, with the column's gain and bias. -/
def norm (y : Fin 2048 → Ideal .f32) (g b : Ideal .f32) (j : Fin 2048) : Ideal .f32 :=
  (y j - mean y) * Ideal.rsqrt (mean (fun x => (y x - mean y) * (y x - mean y)) + Ideal.ofBits FTy.f32 0x358637BD#32) * g + b

theorem norm_congr {y y' : Fin 2048 → Ideal .f32} {g g' b b' : Ideal .f32} (j : Fin 2048) (hy : ∀ x, y x = y' x) (hg : g = g') (hb : b = b') :
    norm y g b j = norm y' g' b' j := by
  rw [funext hy, hg, hb]

/-- Row 0 of the modulation is of the latent rows, row 1 of the context rows. -/
def side (a : ℕ) : Fin 8 := if a < 8192 then 0 else 1

section
open Cert.Reference28Ideal Cert.Reference28Ideal.Gen

variable (X D : FVec Ideal S8448x2048 .f32) (M : FVec Ideal S8x12288 .f32) (G B : FVec Ideal S2048 .f32) (W : FVec Ideal S2048x16 .f32)

/-- The weighted sum of the residual stream and the gated mixer output at a row and a column. -/
def yS (a : Fin 8448) (j : Fin 2048) : Ideal .f32 :=
  Ideal.ofBits FTy.f32 0x3FD744FD#32 * X (ix2 a j) + M (ix2 (side a.val) ⟨4096 + j.val, by omega⟩) * D (ix2 a j)

/-- Its norm. -/
def xS (a : Fin 8448) (j : Fin 2048) : Ideal .f32 := norm (yS X D M a) (G (ix1 j)) (B (ix1 j)) j

/-- The experts' input. -/
def uS (a : Fin 8448) (j : Fin 2048) : Ideal .f32 :=
  xS X D M G B a j * (1 + M (ix2 (side a.val) ⟨8192 + j.val, by omega⟩)) + M (ix2 (side a.val) ⟨6144 + j.val, by omega⟩)

/-- The router's logits. -/
def lS (e : Fin 16) (a : Fin 8448) : Ideal .f32 := ∑ x, W (ix2 x e) * uS X D M G B a x

/-- The latent rows' weighted sum of the residual stream and the gated mixer output. -/
def yLat (X D : FVec Ideal S8448x2048 .f32) (M : FVec Ideal S8x12288 .f32) : FVec Ideal S8192x2048 .f32 :=
  addf (mulf (broadcastInDim S8192x2048 ![] bcast_S_S8192x2048 (constant S_ .f32 0x3FD744FD#32)) (extractStridedSlice S8192x2048 ![0, 0] X slices_S8448x2048_S8192x2048_0_0))
    (mulf (broadcastInDim S8192x2048 ![0, 1] bcast_S1x2048_S8192x2048_0_1 (extractStridedSlice S1x2048 ![0, 4096] (extractStridedSlice S1x12288 ![0, 0] M slices_S8x12288_S1x12288_0_0)
      slices_S1x12288_S1x2048_0_4096)) (extractStridedSlice S8192x2048 ![0, 0] D slices_S8448x2048_S8192x2048_0_0))

/-- The latent rows' means. -/
def muLat (Y : FVec Ideal S8192x2048 .f32) : FVec Ideal S8192x1 .f32 :=
  Host.divf (broadcastInDim S8192x1 ![0] bcast_S8192_S8192x1_0 (Host.reduceAdd Y (constant S_ .f32 0x00000000#32) reducesTo_S8192x2048_S8192_d1 h_S_))
    (broadcastInDim S8192x1 ![] bcast_S_S8192x1 (constant S_ .f32 0x45000000#32))

/-- The latent rows less their means. -/
def cLat (Y : FVec Ideal S8192x2048 .f32) : FVec Ideal S8192x2048 .f32 :=
  subf Y (broadcastInDim S8192x2048 ![0, 1] bcast_S8192x1_S8192x2048_0_1 (muLat Y))

/-- The latent rows' norm. -/
def nLat (Y : FVec Ideal S8192x2048 .f32) (G B : FVec Ideal S2048 .f32) : FVec Ideal S8192x2048 .f32 :=
  addf (mulf (mulf (cLat Y) (broadcastInDim S8192x2048 ![0, 1] bcast_S8192x1_S8192x2048_0_1 (Host.rsqrt (addf (muLat (mulf (cLat Y) (cLat Y)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 G)))
    (broadcastInDim S8192x2048 ![0, 1] bcast_S1x2048_S8192x2048_0_1 (broadcastInDim S1x2048 ![1] bcast_S2048_S1x2048_1 B))

/-- The latent rows scaled and shifted for the experts. -/
def uLat (N : FVec Ideal S8192x2048 .f32) (M : FVec Ideal S8x12288 .f32) : FVec Ideal S8192x2048 .f32 :=
  addf (mulf N (broadcastInDim S8192x2048 ![0, 1] bcast_S1x2048_S8192x2048_0_1 (addf (broadcastInDim S1x2048 ![] bcast_S_S1x2048 (constant S_ .f32 0x3F800000#32))
    (extractStridedSlice S1x2048 ![0, 8192] (extractStridedSlice S1x12288 ![0, 0] M slices_S8x12288_S1x12288_0_0) slices_S1x12288_S1x2048_0_8192))))
    (broadcastInDim S8192x2048 ![0, 1] bcast_S1x2048_S8192x2048_0_1 (extractStridedSlice S1x2048 ![0, 6144] (extractStridedSlice S1x12288 ![0, 0] M slices_S8x12288_S1x12288_0_0)
      slices_S1x12288_S1x2048_0_6144))

/-- The latent rows' router logits. -/
def lLat (U : FVec Ideal S8192x2048 .f32) (W : FVec Ideal S2048x16 .f32) : FVec Ideal S8192x16 .f32 :=
  Host.dotGeneral dot_S8192x2048_S2048x16_S8192x16_1_0_0_1_n_n none U W

theorem muLat_at (Y : FVec Ideal S8192x2048 .f32) (r : Fin 8192) (j : Fin 1) : muLat Y (ix2 r j) = mean fun x => Y (ix2 r x) := by
  pointwise [muLat]
  rfl

theorem cLat_at (Y : FVec Ideal S8192x2048 .f32) (r : Fin 8192) (j : Fin 2048) : cLat Y (ix2 r j) = Y (ix2 r j) - mean fun x => Y (ix2 r x) := by
  pointwise [cLat]
  rw [muLat_at]

theorem nLat_at (Y : FVec Ideal S8192x2048 .f32) (G B : FVec Ideal S2048 .f32) (r : Fin 8192) (j : Fin 2048) :
    nLat Y G B (ix2 r j) = norm (fun x => Y (ix2 r x)) (G (ix1 j)) (B (ix1 j)) j := by
  pointwise [nLat]
  rw [muLat_at, cLat_at]
  pointwise
  simp only [cLat_at]
  rfl

/-- The context rows' weighted sum of the residual stream and the gated mixer output. -/
def yCtx (X D : FVec Ideal S8448x2048 .f32) (M : FVec Ideal S8x12288 .f32) : FVec Ideal S256x2048 .f32 :=
  addf (mulf (broadcastInDim S256x2048 ![] bcast_S_S256x2048 (constant S_ .f32 0x3FD744FD#32)) (extractStridedSlice S256x2048 ![8192, 0] X slices_S8448x2048_S256x2048_8192_0))
    (mulf (broadcastInDim S256x2048 ![0, 1] bcast_S1x2048_S256x2048_0_1 (extractStridedSlice S1x2048 ![0, 4096] (extractStridedSlice S1x12288 ![1, 0] M slices_S8x12288_S1x12288_1_0)
      slices_S1x12288_S1x2048_0_4096)) (extractStridedSlice S256x2048 ![8192, 0] D slices_S8448x2048_S256x2048_8192_0))

/-- The context rows' means. -/
def muCtx (Y : FVec Ideal S256x2048 .f32) : FVec Ideal S256x1 .f32 :=
  Host.divf (broadcastInDim S256x1 ![0] bcast_S256_S256x1_0 (Host.reduceAdd Y (constant S_ .f32 0x00000000#32) reducesTo_S256x2048_S256_d1 h_S_))
    (broadcastInDim S256x1 ![] bcast_S_S256x1 (constant S_ .f32 0x45000000#32))

/-- The context rows less their means. -/
def cCtx (Y : FVec Ideal S256x2048 .f32) : FVec Ideal S256x2048 .f32 :=
  subf Y (broadcastInDim S256x2048 ![0, 1] bcast_S256x1_S256x2048_0_1 (muCtx Y))

/-- The context rows' norm. -/
def nCtx (Y : FVec Ideal S256x2048 .f32) (G B : FVec Ideal S2048 .f32) : FVec Ideal S256x2048 .f32 :=
  addf (mulf (mulf (cCtx Y) (broadcastInDim S256x2048 ![0, 1] bcast_S256x1_S256x2048_0_1 (Host.rsqrt (addf (muCtx (mulf (cCtx Y) (cCtx Y)))
    (broadcastInDim S256x1 ![] bcast_S_S256x1 (constant S_ .f32 0x358637BD#32))))))
    (broadcastInDim S256x2048 ![0, 1] bcast_S1x2048_S256x2048_0_1 (broadcastInDim S1x2048 ![1] bcast_S2048_S1x2048_1 G)))
    (broadcastInDim S256x2048 ![0, 1] bcast_S1x2048_S256x2048_0_1 (broadcastInDim S1x2048 ![1] bcast_S2048_S1x2048_1 B))

/-- The context rows scaled and shifted for the experts. -/
def uCtx (N : FVec Ideal S256x2048 .f32) (M : FVec Ideal S8x12288 .f32) : FVec Ideal S256x2048 .f32 :=
  addf (mulf N (broadcastInDim S256x2048 ![0, 1] bcast_S1x2048_S256x2048_0_1 (addf (broadcastInDim S1x2048 ![] bcast_S_S1x2048 (constant S_ .f32 0x3F800000#32))
    (extractStridedSlice S1x2048 ![0, 8192] (extractStridedSlice S1x12288 ![1, 0] M slices_S8x12288_S1x12288_1_0) slices_S1x12288_S1x2048_0_8192))))
    (broadcastInDim S256x2048 ![0, 1] bcast_S1x2048_S256x2048_0_1 (extractStridedSlice S1x2048 ![0, 6144] (extractStridedSlice S1x12288 ![1, 0] M slices_S8x12288_S1x12288_1_0)
      slices_S1x12288_S1x2048_0_6144))

/-- The context rows' router logits. -/
def lCtx (U : FVec Ideal S256x2048 .f32) (W : FVec Ideal S2048x16 .f32) : FVec Ideal S256x16 .f32 :=
  Host.dotGeneral dot_S256x2048_S2048x16_S256x16_1_0_0_1_n_n none U W

theorem muCtx_at (Y : FVec Ideal S256x2048 .f32) (r : Fin 256) (j : Fin 1) : muCtx Y (ix2 r j) = mean fun x => Y (ix2 r x) := by
  pointwise [muCtx]
  rfl

theorem cCtx_at (Y : FVec Ideal S256x2048 .f32) (r : Fin 256) (j : Fin 2048) : cCtx Y (ix2 r j) = Y (ix2 r j) - mean fun x => Y (ix2 r x) := by
  pointwise [cCtx]
  rw [muCtx_at]

theorem nCtx_at (Y : FVec Ideal S256x2048 .f32) (G B : FVec Ideal S2048 .f32) (r : Fin 256) (j : Fin 2048) :
    nCtx Y G B (ix2 r j) = norm (fun x => Y (ix2 r x)) (G (ix1 j)) (B (ix1 j)) j := by
  pointwise [nCtx]
  rw [muCtx_at, cCtx_at]
  pointwise
  simp only [cCtx_at]
  rfl

/-- The reference's first result: the norm of the rows. -/
def refX : FVec Ideal S8448x2048 .f32 :=
  concatenate S8448x2048 0 [⟨S8192x2048, nLat (yLat X D M) G B⟩, ⟨S256x2048, nCtx (yCtx X D M) G B⟩] concatenates_S8192x2048_S256x2048_S8448x2048_d0

/-- Its second: the experts' input. -/
def refU : FVec Ideal S8448x2048 .f32 :=
  concatenate S8448x2048 0 [⟨S8192x2048, uLat (nLat (yLat X D M) G B) M⟩, ⟨S256x2048, uCtx (nCtx (yCtx X D M) G B) M⟩]
    concatenates_S8192x2048_S256x2048_S8448x2048_d0

/-- Its third: the router's logits, an expert a row. -/
def refL : FVec Ideal S16x8448 .f32 :=
  transpose S16x8448 [1, 0] (concatenate S8448x16 0 [⟨S8192x16, lLat (uLat (nLat (yLat X D M) G B) M) W⟩, ⟨S256x16, lCtx (uCtx (nCtx (yCtx X D M) G B) M) W⟩]
    concatenates_S8192x16_S256x16_S8448x16_d0) transposes_S8448x16_S16x8448_1_0

theorem nLat_row (a : Fin 8448) (j : Fin 2048) (h : a.val < 8192) : nLat (yLat X D M) G B (ix2 ⟨a.val, h⟩ j) = xS X D M G B a j := by
  rw [nLat_at]
  pointwise [yLat]
  refine norm_congr j (fun x => ?_) rfl rfl
  simp only [yS, side, if_pos h]

theorem nCtx_row (a : Fin 8448) (j : Fin 2048) (h : ¬ a.val < 8192) : nCtx (yCtx X D M) G B (ix2 ⟨a.val - 8192, by omega⟩ j) = xS X D M G B a j := by
  rw [nCtx_at]
  pointwise [yCtx]
  refine norm_congr j (fun x => ?_) rfl rfl
  simp only [yS, side, if_neg h, show 8192 + (a.val - 8192) = a.val by omega]

theorem uLat_row (a : Fin 8448) (j : Fin 2048) (h : a.val < 8192) :
    uLat (nLat (yLat X D M) G B) M (ix2 ⟨a.val, h⟩ j) = uS X D M G B a j := by
  pointwise [uLat]
  rw [nLat_row X D M G B a j h]
  simp only [uS, side, if_pos h]

theorem uCtx_row (a : Fin 8448) (j : Fin 2048) (h : ¬ a.val < 8192) :
    uCtx (nCtx (yCtx X D M) G B) M (ix2 ⟨a.val - 8192, by omega⟩ j) = uS X D M G B a j := by
  pointwise [uCtx]
  rw [nCtx_row X D M G B a j h]
  simp only [uS, side, if_neg h]

theorem refX_at (a : Fin 8448) (j : Fin 2048) : refX X D M G B (ix2 a j) = xS X D M G B a j := by
  pointwise [refX]
  by_cases h : a.val < 8192
  · rw [dif_pos h, nLat_row X D M G B a j h]
  · rw [dif_neg h, nCtx_row X D M G B a j h]

theorem refU_at (a : Fin 8448) (j : Fin 2048) : refU X D M G B (ix2 a j) = uS X D M G B a j := by
  pointwise [refU]
  by_cases h : a.val < 8192
  · rw [dif_pos h, uLat_row X D M G B a j h]
  · rw [dif_neg h, uCtx_row X D M G B a j h]

theorem refL_at (e : Fin 16) (a : Fin 8448) : refL X D M G B W (ix2 e a) = lS X D M G B W e a := by
  pointwise [refL, lLat, lCtx]
  by_cases h : a.val < 8192
  · rw [dif_pos h]
    exact Finset.sum_congr rfl fun x _ => (congrArg (· * _) (uLat_row X D M G B a x h)).trans (mul_comm _ _)
  · rw [dif_neg h]
    exact Finset.sum_congr rfl fun x _ => (congrArg (· * _) (uCtx_row X D M G B a x h)).trans (mul_comm _ _)
end

open Cert.Kernel28Ideal Cert.Kernel28Ideal.Gen

theorem pay3_at (i : grid0.Coords) (v1 v2 : Vec Ideal S256x2048 .f32) (v3 : Vec Ideal S8x2048 .f32) (v7 v9 : Vec Ideal S1x2048 .f32) (r : Fin 256) (j : Fin 2048) :
    k0_pay3 i v1 v2 v3 v7 v9 (ix2 r j) = norm (fun x => Ideal.ofBits FTy.f32 0x3FD744FD#32 * v1 (ix2 r x)
      + Scalar.select (Scalar.cmpi .eq (BitVec.ofNat 32 (i 0).val) 32#32) (v3 (ix2 1 x)) (v3 (ix2 0 x)) * v2 (ix2 r x)) (v7 (ix2 0 j)) (v9 (ix2 0 j)) j := by
  pointwise [k0_pay3]
  rfl

theorem pay1_at (v0 : BitVec 1) (v35 : FVec Ideal S256x2048 .f32) (v37 v45 : Vec Ideal S8x2048 .f32) (r : Fin 256) (j : Fin 2048) :
    k0_pay1 v0 v35 v37 v45 (ix2 r j) = v35 (ix2 r j) * (1 + Scalar.select v0 (v37 (ix2 1 j)) (v37 (ix2 0 j))) + Scalar.select v0 (v45 (ix2 1 j)) (v45 (ix2 0 j)) := by
  pointwise [k0_pay1]

theorem pay2_at (v0 : BitVec 1) (v35 : FVec Ideal S256x2048 .f32) (v37 v45 : Vec Ideal S8x2048 .f32) (v52 : Vec Ideal S16x2048 .f32) (r : Fin 256) (e : Fin 16) :
    k0_pay2 v0 v35 v37 v45 v52 (ix2 e r) = ∑ x, v52 (ix2 e x) * k0_pay1 v0 v35 v37 v45 (ix2 r x) := by
  pointwise [k0_pay2]

variable (m : (ℓ : Loc nD τ sig) → Buf (Elt Ideal) ℓ)

/-- The blocks that grid point `t` reads and writes. -/
theorem idx : ∀ t : Fin cfg0.N, win0_0.index t = ![t.val, 0] ∧ win0_1.index t = ![t.val, 0]
    ∧ win0_2.index t = ![0, 2] ∧ win0_3.index t = ![0, 0] ∧ win0_4.index t = ![0, 0] ∧ win0_5.index t = ![0, 3]
    ∧ win0_6.index t = ![0, 4] ∧ win0_7.index t = ![0, 0] ∧ win0_8.index t = ![t.val, 0] ∧ win0_9.index t = ![t.val, 0]
    ∧ win0_10.index t = ![0, t.val] ∧ t.val < 33 :=
  (by decide +kernel : ∀ t : Fin grid0.N, _)

/-- The last block of rows is the context's, the others the latent tokens'. -/
theorem pick : ∀ t : Fin cfg0.N, Scalar.cmpi CmpIPredicate.eq (BitVec.ofNat 32 (grid0.coords t 0).val) 32#32 = if t.val = 32 then 1#1 else 0#1 :=
  (by decide +kernel : ∀ t : Fin grid0.N, _)

/-- The choice of the modulation's row is the one of the rows' side. -/
theorem pick_side (t : Fin cfg0.N) (r : Fin 256) (v : Fin 8 → Ideal .f32) :
    Scalar.select (Scalar.cmpi CmpIPredicate.eq (BitVec.ofNat 32 (grid0.coords t 0).val) 32#32) (v 1) (v 0) = v (side (t.val * 256 + r.val)) := by
  rw [pick]
  have ht := (idx t).2.2.2.2.2.2.2.2.2.2.2
  rcases eq_or_ne t.val 32 with h | h
  · rw [if_pos h, side, if_neg (by omega)]
    rfl
  · rw [if_neg h, side, if_pos (by omega)]
    rfl

/-- The row of the arrays that row `r` of grid point `t`'s block is. -/
abbrev row (t : Fin cfg0.N) (r : Fin 256) : Fin 8448 := ⟨t.val * 256 + r.val, by have := (idx t).2.2.2.2.2.2.2.2.2.2.2; omega⟩

theorem gate_at (c : Dev nD) (t : Fin cfg0.N) (k : Fin 8) (j : Fin 2048) :
    iblk m c 2 t (ix2 k j) = m (c.tc.loc main_arg2) (ix2 k ⟨4096 + j.val, by omega⟩) := by
  blk_point [iblk, V, idx t]

theorem shift_at (c : Dev nD) (t : Fin cfg0.N) (k : Fin 8) (j : Fin 2048) :
    iblk m c 5 t (ix2 k j) = m (c.tc.loc main_arg2) (ix2 k ⟨6144 + j.val, by omega⟩) := by
  blk_point [iblk, V, idx t]

theorem scale_at (c : Dev nD) (t : Fin cfg0.N) (k : Fin 8) (j : Fin 2048) :
    iblk m c 6 t (ix2 k j) = m (c.tc.loc main_arg2) (ix2 k ⟨8192 + j.val, by omega⟩) := by
  blk_point [iblk, V, idx t]

/-- The body's norm at grid point `t` is the rows'. -/
theorem norm_block (c : Dev nD) (t : Fin cfg0.N) (r : Fin 256) (j : Fin 2048) :
    k0_pay3 (grid0.coords t) (iblk m c 0 t) (iblk m c 1 t) (iblk m c 2 t) (iblk m c 3 t) (iblk m c 4 t) (ix2 r j)
      = xS (m (c.tc.loc main_arg0)) (m (c.tc.loc main_arg1)) (m (c.tc.loc main_arg2)) (m (c.tc.loc main_arg3)) (m (c.tc.loc main_arg4)) (row t r) j := by
  rw [pay3_at]
  refine norm_congr j (fun x => congrArg₂ (· + ·) (congrArg (_ * ·) ?_) (congrArg₂ (· * ·) ?_ ?_)) ?_ ?_
  · blk_point [iblk, V, idx t]
  · exact (pick_side t r fun k => iblk m c 2 t (ix2 k x)).trans (gate_at m c t _ x)
  all_goals blk_point [iblk, V, idx t]

/-- The body's input of the experts at grid point `t` is the rows'. -/
theorem scaled_block (c : Dev nD) (t : Fin cfg0.N) (r : Fin 256) (j : Fin 2048) :
    k0_pay1 (Scalar.cmpi .eq (BitVec.ofNat 32 (grid0.coords t 0).val) 32#32)
      (k0_pay3 (grid0.coords t) (iblk m c 0 t) (iblk m c 1 t) (iblk m c 2 t) (iblk m c 3 t) (iblk m c 4 t)) (iblk m c 6 t) (iblk m c 5 t) (ix2 r j)
      = uS (m (c.tc.loc main_arg0)) (m (c.tc.loc main_arg1)) (m (c.tc.loc main_arg2)) (m (c.tc.loc main_arg3)) (m (c.tc.loc main_arg4)) (row t r) j := by
  rw [pay1_at, norm_block]
  exact congrArg₂ (· + ·) (congrArg (_ * ·) (congrArg (1 + ·) ((pick_side t r fun k => iblk m c 6 t (ix2 k j)).trans (scale_at m c t _ j))))
    ((pick_side t r fun k => iblk m c 5 t (ix2 k j)).trans (shift_at m c t _ j))

/-- The call's first output array is the norm of the rows. -/
theorem finalX (c : Dev nD) : (dats m 0 c).arrAt 8 cfg0.N = refX (m (c.tc.loc main_arg0)) (m (c.tc.loc main_arg1)) (m (c.tc.loc main_arg2))
    (m (c.tc.loc main_arg3)) (m (c.tc.loc main_arg4)) := by
  refine (dats m 0 c).arrAt_eq_of_covers 8 _ (by decide +kernel) fun t _ y => ?_
  blk_simp
  rw [after0_8]
  frame_out
  idx_vars y
  refine (norm_block m c t y0 y1).trans ((refX_at _ _ _ _ _ _ _).symm.trans (congrArg _ ?_))
  blk_point [idx t]

/-- The call's second output array is the experts' input. -/
theorem finalU (c : Dev nD) : (dats m 0 c).arrAt 9 cfg0.N = refU (m (c.tc.loc main_arg0)) (m (c.tc.loc main_arg1)) (m (c.tc.loc main_arg2))
    (m (c.tc.loc main_arg3)) (m (c.tc.loc main_arg4)) := by
  refine (dats m 0 c).arrAt_eq_of_covers 9 _ (by decide +kernel) fun t _ y => ?_
  blk_simp
  rw [after0_9]
  unfold_out out0_9
  frame_out
  idx_vars y
  refine (scaled_block m c t y0 y1).trans ((refU_at _ _ _ _ _ _ _).symm.trans (congrArg _ ?_))
  blk_point [idx t]

/-- The call's third output array is the router's logits. -/
theorem finalL (c : Dev nD) : (dats m 0 c).arrAt 10 cfg0.N = refL (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 10 _ (by decide +kernel) fun t _ y => ?_
  blk_simp
  rw [after0_10]
  unfold_out out0_10
  frame_out
  idx_vars y
  refine (pay2_at _ _ _ _ _ y1 y0).trans (Eq.trans (Finset.sum_congr rfl fun x _ => congrArg₂ (· * ·) ?_ (scaled_block m c t y1 x))
    ((refL_at _ _ _ _ _ _ y0 (row t y1)).symm.trans (congrArg _ ?_)))
  all_goals blk_point [iblk, V, idx t]

/-- The call runs, leaves its arguments and every semaphore counter at zero. -/
theorem frame_kernel : Cert.quiescent_Kernel28 := fun m ρ _ => Cert.Kernel28.Gen.frame m ρ

/-- So does its idealization. -/
theorem frame_ideal : Cert.quiescent_Kernel28Ideal := fun m ρ _ => Cert.Kernel28Ideal.Gen.frame m ρ

/-- The reference runs, leaves its arguments and every semaphore counter at zero. -/
theorem frame_reference : Cert.quiescent_Reference28Ideal := fun m ρ _ =>
  (θ_run Cert.Reference28Ideal.defs _ _).mono
    (fun r h => ⟨fun c => (h c).2.2.2, Idealize.ShloMosaic.sem_eq_zero_of_no_sems (by decide) r.2⟩) (Cert.Reference28Ideal.Value.run (F := Ideal) m ρ)

/-- No constant is named. -/
theorem preserves : Cert.preserves_Kernel28_Kernel28Ideal := trivial

/-- The norm after the mixer, the experts' input and the router's logits, and their reference, end with equal results. -/
theorem algebraic : Cert.algebraic_Kernel28Ideal_Reference28Ideal := by
  intro m ρ m' ρ' _ hagree
  refine ⟨fun c => refX (m (c.tc.loc Cert.Kernel28Ideal.main_arg0)) (m (c.tc.loc Cert.Kernel28Ideal.main_arg1)) (m (c.tc.loc Cert.Kernel28Ideal.main_arg2)) (m (c.tc.loc Cert.Kernel28Ideal.main_arg3)) (m (c.tc.loc Cert.Kernel28Ideal.main_arg4)),
    fun c => refU (m (c.tc.loc Cert.Kernel28Ideal.main_arg0)) (m (c.tc.loc Cert.Kernel28Ideal.main_arg1)) (m (c.tc.loc Cert.Kernel28Ideal.main_arg2)) (m (c.tc.loc Cert.Kernel28Ideal.main_arg3)) (m (c.tc.loc Cert.Kernel28Ideal.main_arg4)),
    fun c => refL (m (c.tc.loc Cert.Kernel28Ideal.main_arg0)) (m (c.tc.loc Cert.Kernel28Ideal.main_arg1)) (m (c.tc.loc Cert.Kernel28Ideal.main_arg2)) (m (c.tc.loc Cert.Kernel28Ideal.main_arg3)) (m (c.tc.loc Cert.Kernel28Ideal.main_arg4)) (m (c.tc.loc Cert.Kernel28Ideal.main_arg5)),
    (θ_run Cert.Kernel28Ideal.defs _ _).mono (fun _ h c => ⟨(h c).1.trans (finalX m c), (h c).2.1.trans (finalU m c), (h c).2.2.1.trans (finalL m c), (h c).2.2.2⟩) (Cert.Kernel28Ideal.Value.run_blocks m ρ),
    (θ_run Cert.Reference28Ideal.defs _ _).mono (fun _ h c => ⟨(h c).1.trans ?_, (h c).2.1.trans ?_, (h c).2.2.1.trans ?_, (h c).2.2.2⟩) (Cert.Reference28Ideal.Value.run (F := Ideal) m' ρ')⟩
  all_goals obtain ⟨h0, h1, h2, h3, h4, h5⟩ := hagree c
  · refine Eq.trans (show Cert.Reference28Ideal.Value.res_main_v91 m' c = refX (m' (c.tc.loc Cert.Reference28Ideal.main_arg0)) (m' (c.tc.loc Cert.Reference28Ideal.main_arg1)) (m' (c.tc.loc Cert.Reference28Ideal.main_arg2)) (m' (c.tc.loc Cert.Reference28Ideal.main_arg3)) (m' (c.tc.loc Cert.Reference28Ideal.main_arg4)) from rfl) ?_
    rw [h0, h1, h2, h3, h4]
  · refine Eq.trans (show Cert.Reference28Ideal.Value.res_main_v92 m' c = refU (m' (c.tc.loc Cert.Reference28Ideal.main_arg0)) (m' (c.tc.loc Cert.Reference28Ideal.main_arg1)) (m' (c.tc.loc Cert.Reference28Ideal.main_arg2)) (m' (c.tc.loc Cert.Reference28Ideal.main_arg3)) (m' (c.tc.loc Cert.Reference28Ideal.main_arg4)) from rfl) ?_
    rw [h0, h1, h2, h3, h4]
  · refine Eq.trans (show Cert.Reference28Ideal.Value.res_main_v93 m' c = refL (m' (c.tc.loc Cert.Reference28Ideal.main_arg0)) (m' (c.tc.loc Cert.Reference28Ideal.main_arg1)) (m' (c.tc.loc Cert.Reference28Ideal.main_arg2)) (m' (c.tc.loc Cert.Reference28Ideal.main_arg3)) (m' (c.tc.loc Cert.Reference28Ideal.main_arg4)) (m' (c.tc.loc Cert.Reference28Ideal.main_arg5)) from rfl) ?_
    rw [h0, h1, h2, h3, h4, h5]

end Cert.Mod.Ln1

end
-- ==== Proof.Mod.Modvec.lean ====
module

public import proofs.«01_k».proof.Defs
public import proofs.«01_k».proof.Proof.Gen.Kernel29.Frame
public import proofs.«01_k».proof.Proof.Gen.Kernel29Ideal.Value
public import proofs.«01_k».proof.Proof.Gen.Reference29Ideal.Run
public import Idealize.ShloMosaic.Lib.Pipeline.ValueKit
public import Idealize.ShloMosaic.Lib.Routing.OpsOne
public import Idealize.ShloMosaic.Lib.Quiescent

@[expose] public section

set_option maxRecDepth 16384

noncomputable section

namespace Cert.Mod.Modvec

open Idealize.ShloMosaic Idealize.ShloMosaic.TcCoe Idealize.SL.Sem
open Idealize.ShloMosaic.Pipeline (Dat)

section
open Cert.Reference29Ideal Cert.Reference29Ideal.Gen

variable (C : FVec Ideal S1x2048 .f32) (C' : FVec Ideal S2048 .f32) (W : FVec Ideal S4x2048x12288 .f32) (B : FVec Ideal S4x12288 .f32)

/-- The activation of a number. -/
def silu (x : Ideal .f32) : Ideal .f32 := x * Ideal.logistic x

/-- The vectors at a layer, a row and a column. -/
def modS (l : Fin 4) (k : Fin 8) (n : Fin 12288) : Ideal .f32 :=
  if k.val = 0 then ∑ x, W (ix3 l x n) * silu (C (ix2 0 x)) + B (ix2 l n)
  else if k.val = 1 then ∑ x, W (ix3 l x n) * silu (C' (ix1 x)) + B (ix2 l n) else 0

/-- Layer 0's weight. -/
def w0 : FVec Ideal S2048x12288 .f32 :=
  shapeCast _ (extractStridedSlice S1x2048x12288 ![0, 0, 0] W slices_S4x2048x12288_S1x2048x12288_0_0_0) shapeCasts_S1x2048x12288_S2048x12288

/-- Layer 0's bias. -/
def b0 : FVec Ideal S12288 .f32 :=
  shapeCast _ (extractStridedSlice S1x12288 ![0, 0] B slices_S4x12288_S1x12288_0_0) shapeCasts_S1x12288_S12288

theorem w0_at (x : Fin 2048) (n : Fin 12288) : w0 W (ix2 x n) = W (ix3 0 x n) := by
  pointwise [w0]

theorem b0_at (n : Fin 12288) : b0 B (ix1 n) = B (ix2 0 n) := by
  pointwise [b0]

/-- Layer 1's weight. -/
def w1 : FVec Ideal S2048x12288 .f32 :=
  shapeCast _ (extractStridedSlice S1x2048x12288 ![1, 0, 0] W slices_S4x2048x12288_S1x2048x12288_1_0_0) shapeCasts_S1x2048x12288_S2048x12288

/-- Layer 1's bias. -/
def b1 : FVec Ideal S12288 .f32 :=
  shapeCast _ (extractStridedSlice S1x12288 ![1, 0] B slices_S4x12288_S1x12288_1_0) shapeCasts_S1x12288_S12288

theorem w1_at (x : Fin 2048) (n : Fin 12288) : w1 W (ix2 x n) = W (ix3 1 x n) := by
  pointwise [w1]

theorem b1_at (n : Fin 12288) : b1 B (ix1 n) = B (ix2 1 n) := by
  pointwise [b1]

/-- Layer 2's weight. -/
def w2 : FVec Ideal S2048x12288 .f32 :=
  shapeCast _ (extractStridedSlice S1x2048x12288 ![2, 0, 0] W slices_S4x2048x12288_S1x2048x12288_2_0_0) shapeCasts_S1x2048x12288_S2048x12288

/-- Layer 2's bias. -/
def b2 : FVec Ideal S12288 .f32 :=
  shapeCast _ (extractStridedSlice S1x12288 ![2, 0] B slices_S4x12288_S1x12288_2_0) shapeCasts_S1x12288_S12288

theorem w2_at (x : Fin 2048) (n : Fin 12288) : w2 W (ix2 x n) = W (ix3 2 x n) := by
  pointwise [w2]

theorem b2_at (n : Fin 12288) : b2 B (ix1 n) = B (ix2 2 n) := by
  pointwise [b2]

/-- Layer 3's weight. -/
def w3 : FVec Ideal S2048x12288 .f32 :=
  shapeCast _ (extractStridedSlice S1x2048x12288 ![3, 0, 0] W slices_S4x2048x12288_S1x2048x12288_3_0_0) shapeCasts_S1x2048x12288_S2048x12288

/-- Layer 3's bias. -/
def b3 : FVec Ideal S12288 .f32 :=
  shapeCast _ (extractStridedSlice S1x12288 ![3, 0] B slices_S4x12288_S1x12288_3_0) shapeCasts_S1x12288_S12288

theorem w3_at (x : Fin 2048) (n : Fin 12288) : w3 W (ix2 x n) = W (ix3 3 x n) := by
  pointwise [w3]

theorem b3_at (n : Fin 12288) : b3 B (ix1 n) = B (ix2 3 n) := by
  pointwise [b3]

/-- A layer's eight rows. -/
def rows (Wl : FVec Ideal S2048x12288 .f32) (bl : FVec Ideal S12288 .f32) : FVec Ideal S8x12288 .f32 :=
  concatenate S8x12288 0 [⟨S1x12288, ((addf (Host.dotGeneral dot_S1x2048_S2048x12288_S1x12288_1_0_0_1_n_n none (mulf C (Host.divf (broadcastInDim S1x2048 ![] bcast_S_S1x2048 (constant S_ .f32 0x3F800000#32)) (addf (broadcastInDim S1x2048 ![] bcast_S_S1x2048 (constant S_ .f32 0x3F800000#32)) (Host.exp (Host.negf C))))) Wl)
      (broadcastInDim S1x12288 ![1] bcast_S12288_S1x12288_1 bl)) : FVec Ideal S1x12288 .f32)⟩,
    ⟨S1x12288, ((broadcastInDim S1x12288 ![1] bcast_S12288_S1x12288_1 (addf (Host.dotGeneral dot_S2048_S2048x12288_S12288_0_0_n_1_n_n none (mulf C' (Host.divf (broadcastInDim S2048 ![] bcast_S_S2048 (constant S_ .f32 0x3F800000#32)) (addf (broadcastInDim S2048 ![] bcast_S_S2048 (constant S_ .f32 0x3F800000#32)) (Host.exp (Host.negf C'))))) Wl)
      bl)) : FVec Ideal S1x12288 .f32)⟩,
    ⟨S6x12288, ((broadcastInDim S6x12288 ![] bcast_S_S6x12288 (constant S_ .f32 0x00000000#32)) : FVec Ideal S6x12288 .f32)⟩]
    concatenates_S1x12288_S1x12288_S6x12288_S8x12288_d0

/-- What the reference makes: the four layers' rows. -/
def ref : FVec Ideal S4x8x12288 .f32 :=
  concatenate S4x8x12288 0 [⟨S1x8x12288, ((broadcastInDim S1x8x12288 ![1, 2] bcast_S8x12288_S1x8x12288_1_2 (rows C C' (w0 W) (b0 B))) : FVec Ideal S1x8x12288 .f32)⟩,
    ⟨S1x8x12288, ((broadcastInDim S1x8x12288 ![1, 2] bcast_S8x12288_S1x8x12288_1_2 (rows C C' (w1 W) (b1 B))) : FVec Ideal S1x8x12288 .f32)⟩,
    ⟨S1x8x12288, ((broadcastInDim S1x8x12288 ![1, 2] bcast_S8x12288_S1x8x12288_1_2 (rows C C' (w2 W) (b2 B))) : FVec Ideal S1x8x12288 .f32)⟩,
    ⟨S1x8x12288, ((broadcastInDim S1x8x12288 ![1, 2] bcast_S8x12288_S1x8x12288_1_2 (rows C C' (w3 W) (b3 B))) : FVec Ideal S1x8x12288 .f32)⟩] concatenates_S1x8x12288_S1x8x12288_S1x8x12288_S1x8x12288_S4x8x12288_d0

theorem rows_at (Wl : FVec Ideal S2048x12288 .f32) (bl : FVec Ideal S12288 .f32) (k : Fin 8) (n : Fin 12288) :
    rows C C' Wl bl (ix2 k n) = if k.val = 0 then ∑ x, Wl (ix2 x n) * silu (C (ix2 0 x)) + bl (ix1 n)
      else if k.val = 1 then ∑ x, Wl (ix2 x n) * silu (C' (ix1 x)) + bl (ix1 n) else 0 := by
  pointwise [rows]
  by_cases h : k.val = 0
  · obtain rfl : k = 0 := Fin.ext h
    refine (dif_pos (by decide)).trans (Eq.trans ?_ (if_pos h).symm)
    exact congrArg (· + _) (Finset.sum_congr rfl fun x _ => mul_comm _ _)
  · refine (dif_neg (by omega)).trans (Eq.trans ?_ (if_neg h).symm)
    by_cases h' : k.val = 1
    · refine (dif_pos (by omega)).trans (Eq.trans ?_ (if_pos h').symm)
      exact congrArg (· + _) (Finset.sum_congr rfl fun x _ => mul_comm _ _)
    · exact (dif_neg (by omega)).trans (if_neg h').symm

theorem ref_at (l : Fin 4) (k : Fin 8) (n : Fin 12288) : ref C C' W B (ix3 l k n) = modS C C' W B l k n := by
  pointwise [ref]
  simp only [rows_at, w0_at, w1_at, w2_at, w3_at, b0_at, b1_at, b2_at, b3_at]
  match l with
  | 0 => rfl
  | 1 => rfl
  | 2 => rfl
  | 3 => rfl

end

/-- A column written into a matrix, read at an entry. -/
theorem set_col {A N : Nat} (d : ScatterDims (Routing.shape2 A N) (Routing.shape1 1) (Routing.shape1 A)) (hiw : d.insertedWindowDims = [1]) (hsd : d.scatterDimsToOperandDims = [1])
    {α : Type} (x0 : (Routing.shape2 A N).Idx → α) (idx : IVec (Routing.shape1 1) 32) (upd : (Routing.shape1 A).Idx → α) (k : Fin N) (hidx : (idx (ValueIdx.ix1 0)).toInt = (k.val : Int)) (w : Fin A) (e : Fin N) :
    Host.scatter d (fun _ b => b) x0 idx upd (ValueIdx.ix2 w e) = if e = k then upd (ValueIdx.ix1 w) else x0 (ValueIdx.ix2 w e) := by
  have lands : ∀ j : (Routing.shape1 A).Idx, d.resultIdx? j idx = some (ValueIdx.ix2 w e) → j 0 = w ∧ e = k := fun j hj =>
    (Routing.lands_col d hiw hsd idx k hidx (j 0) w e).1 ((congrArg (fun t => d.resultIdx? t idx) (ValueIdx.eq_ix1 j).symm).trans hj)
  by_cases h : e = k
  · rw [if_pos h]
    exact Routing.scatter_set_hit d x0 idx upd _ _ (fun j hj => (congrArg upd (ValueIdx.eq_ix1 j)).trans (congrArg (fun t => upd (ValueIdx.ix1 t)) (lands j hj).1)) (ValueIdx.ix1 w)
      ((Routing.lands_col d hiw hsd idx k hidx w w e).2 ⟨rfl, h⟩)
  · rw [if_neg h]
    exact Routing.scatter_set_miss d x0 idx upd _ fun j hj => h (lands j hj).2

open Cert.Kernel29Ideal Cert.Kernel29Ideal.Gen

theorem pay_at (v0 : Vec Ideal S2048x128 .f32) (v4 : Vec Ideal S1x2048x512 .f32) (v11 v19 : Vec Ideal S1x1x512 .f32) (k : Fin 8) (n : Fin 512) :
    k0_pay1 v0 v4 v11 v19 (ix3 0 k n) = if k.val = 0 then ∑ x, v4 (ix3 0 x n) * silu (v0 (ix2 x 0)) + v11 (ix3 0 0 n)
      else if k.val = 1 then ∑ x, v4 (ix3 0 x n) * silu (v0 (ix2 x 1)) + v19 (ix3 0 0 n) else 0 := by
  pointwise [k0_pay1]
  by_cases h : k.val = 0
  · exact (dif_pos (by omega)).trans (if_pos h).symm
  · refine (dif_neg (by omega)).trans (Eq.trans ?_ (if_neg h).symm)
    by_cases h' : k.val = 1
    · exact (dif_pos (by omega)).trans (if_pos h').symm
    · exact (dif_neg (by omega)).trans (if_neg h').symm

variable (m : (ℓ : Loc nD τ sig) → Buf (Elt Ideal) ℓ)

/-- The blocks that grid point `t` reads and writes. -/
theorem idx : ∀ t : Fin cfg0.N, win0_0.index t = ![0, 0] ∧ win0_1.index t = ![t.val / 24, 0, t.val % 24]
    ∧ win0_2.index t = ![t.val / 24, 0, t.val % 24] ∧ win0_3.index t = ![t.val / 24, 0, t.val % 24] ∧ t.val / 24 < 4 :=
  (by decide +kernel : ∀ t : Fin grid0.N, _)

/-- The two vectors as the columns of a table. -/
def table (C : FVec Ideal S2048 .f32) (C' : FVec Ideal S2048 .f32) : FVec Ideal S2048x128 .f32 :=
  Host.scatter scatter_S2048x128_S1_S2048_0_1_1_0 (fun _ b => b) (Host.scatter scatter_S2048x128_S1_S2048_0_1_1_0 (fun _ b => b)
    (broadcastInDim S2048x128 ![] bcast_S_S2048x128 (constant S_ .f32 0x00000000#32)) (broadcastInDim S1 ![] bcast_S_S1 (constantI S_ 32 0#32)) C)
    (broadcastInDim S1 ![] bcast_S_S1 (constantI S_ 32 1#32)) C'

theorem table_0 (C C' : FVec Ideal S2048 .f32) (x : Fin 2048) : table C C' (ix2 x 0) = C (ix1 x) :=
  (set_col scatter_S2048x128_S1_S2048_0_1_1_0 rfl rfl _ _ C' 1 rfl x 0).trans ((if_neg (by decide)).trans
    ((set_col scatter_S2048x128_S1_S2048_0_1_1_0 rfl rfl _ _ C 0 rfl x 0).trans (if_pos rfl)))

theorem table_1 (C C' : FVec Ideal S2048 .f32) (x : Fin 2048) : table C C' (ix2 x 1) = C' (ix1 x) :=
  (set_col scatter_S2048x128_S1_S2048_0_1_1_0 rfl rfl _ _ C' 1 rfl x 1).trans (if_pos rfl)

theorem table_host (c : Dev nD) : V m c main_v5 = table (shapeCast S2048 (m (c.tc.loc main_arg0)) shapeCasts_S1x2048_S2048) (m (c.tc.loc main_arg1)) := by
  unfold table V
  after_results
  rfl

theorem table_at (c : Dev nD) (t : Fin cfg0.N) (x : Fin 2048) (k : Fin 128) :
    iblk m c 0 t (ix2 x k) = table (shapeCast S2048 (m (c.tc.loc main_arg0)) shapeCasts_S1x2048_S2048) (m (c.tc.loc main_arg1)) (ix2 x k) := by
  have e : (win0_0.blk t).view.emb (ix2 x k) = ix2 x k := by
    blk_point [idx t]
  have h := congrFun (table_host m c) (ix2 x k)
  refine Eq.trans ?_ h
  blk_simp [iblk]
  rw [e]

theorem col0 (c : Dev nD) (t : Fin cfg0.N) (x : Fin 2048) : iblk m c 0 t (ix2 x 0) = m (c.tc.loc main_arg0) (ix2 0 x) := by
  rw [table_at, table_0]
  pointwise

theorem col1 (c : Dev nD) (t : Fin cfg0.N) (x : Fin 2048) : iblk m c 0 t (ix2 x 1) = m (c.tc.loc main_arg1) (ix1 x) := by
  rw [table_at, table_1]

/-- The layer that grid point `t` is of. -/
abbrev lay (t : Fin cfg0.N) : Fin 4 := ⟨t.val / 24, (idx t).2.2.2.2⟩

/-- The column that column `n` of grid point `t`'s block is. -/
abbrev col (t : Fin cfg0.N) (n : Fin 512) : Fin 12288 := ⟨t.val % 24 * 512 + n.val, by omega⟩

theorem w_at (c : Dev nD) (t : Fin cfg0.N) (x : Fin 2048) (n : Fin 512) :
    iblk m c 1 t (ix3 0 x n) = m (c.tc.loc main_arg2) (ix3 (lay t) x (col t n)) := by
  blk_point [iblk, V, idx t]

theorem b_at (c : Dev nD) (t : Fin cfg0.N) (n : Fin 512) : iblk m c 2 t (ix3 0 0 n) = m (c.tc.loc main_arg3) (ix2 (lay t) (col t n)) := by
  blk_point [iblk, V, idx t]

/-- The call's output array is the layers' modulation vectors. -/
theorem final (c : Dev nD) : (dats m 0 c).arrAt 3 cfg0.N = ref (m (c.tc.loc main_arg0)) (m (c.tc.loc main_arg1)) (m (c.tc.loc main_arg2)) (m (c.tc.loc main_arg3)) := by
  refine (dats m 0 c).arrAt_eq_of_covers 3 _ (by decide +kernel) fun t _ y => ?_
  blk_simp
  rw [after0_3]
  frame_out
  idx_vars y
  obtain rfl : y0 = 0 := Subsingleton.elim _ _
  refine (pay_at _ _ _ _ y1 y2).trans (Eq.trans ?_ ((ref_at _ _ _ _ (lay t) y1 (col t y2)).symm.trans (congrArg (ref _ _ _ _) ?_)))
  · simp only [modS, col0, col1, w_at, b_at]
  · blk_point [idx t]

/-- The call runs, leaves its arguments and every semaphore counter at zero. -/
theorem frame_kernel : Cert.quiescent_Kernel29 := fun m ρ _ => Cert.Kernel29.Gen.frame m ρ

/-- So does its idealization. -/
theorem frame_ideal : Cert.quiescent_Kernel29Ideal := fun m ρ _ => Cert.Kernel29Ideal.Gen.frame m ρ

/-- The reference runs, leaves its arguments and every semaphore counter at zero. -/
theorem frame_reference : Cert.quiescent_Reference29Ideal := fun m ρ _ =>
  (θ_run Cert.Reference29Ideal.defs _ _).mono
    (fun r h => ⟨fun c => (h c).2, Idealize.ShloMosaic.sem_eq_zero_of_no_sems (by decide) r.2⟩) (Cert.Reference29Ideal.Value.run (F := Ideal) m ρ)

/-- No constant is named. -/
theorem preserves : Cert.preserves_Kernel29_Kernel29Ideal := trivial

/-- The modulation vectors and their reference end with equal results. -/
theorem algebraic : Cert.algebraic_Kernel29Ideal_Reference29Ideal := by
  intro m ρ m' ρ' _ hagree
  refine ⟨fun c => ref (m (c.tc.loc Cert.Kernel29Ideal.main_arg0)) (m (c.tc.loc Cert.Kernel29Ideal.main_arg1)) (m (c.tc.loc Cert.Kernel29Ideal.main_arg2)) (m (c.tc.loc Cert.Kernel29Ideal.main_arg3)),
    (θ_run Cert.Kernel29Ideal.defs _ _).mono (fun _ h c => ⟨(h c).1.trans (final m c), (h c).2⟩) (Cert.Kernel29Ideal.Value.run_blocks m ρ),
    (θ_run Cert.Reference29Ideal.defs _ _).mono (fun _ h c => ⟨(h c).1.trans ?_, (h c).2⟩) (Cert.Reference29Ideal.Value.run (F := Ideal) m' ρ')⟩
  obtain ⟨h0, h1, h2, h3⟩ := hagree c
  refine Eq.trans (show Cert.Reference29Ideal.Value.res_main_v70 m' c = ref (m' (c.tc.loc Cert.Reference29Ideal.main_arg0)) (m' (c.tc.loc Cert.Reference29Ideal.main_arg1))
    (m' (c.tc.loc Cert.Reference29Ideal.main_arg2)) (m' (c.tc.loc Cert.Reference29Ideal.main_arg3)) from rfl) ?_
  rw [h0, h1, h2, h3]

end Cert.Mod.Modvec

end
-- ==== Proof.Proj.A0.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Quiescent

@[expose] public section

set_option maxRecDepth 16384

noncomputable section

namespace Cert.Proj.A0

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 0 to 5631 of the product of the rows with layer 0's weight. -/
abbrev ref (U : FVec Ideal S8448x2048 .bf16) (W : FVec Ideal S4x2048x20000 .f32) : FVec Ideal S8448x5632 .f32 :=
  extractStridedSlice Cert.Reference2Ideal.S8448x5632 ![0, 0] (Host.dotGeneral Cert.Reference2Ideal.dot_S8448x2048_S2048x20000_S8448x20000_1_0_0_1_n_n none
    (extf .f32 U Cert.Reference2Ideal.Gen.bitsLt_bf16_f32)
    (shapeCast _ (extractStridedSlice Cert.Reference2Ideal.S1x2048x20000 ![0, 0, 0] W Cert.Reference2Ideal.Gen.slices_S4x2048x20000_S1x2048x20000_0_0_0)
      Cert.Reference2Ideal.Gen.shapeCasts_S1x2048x20000_S2048x20000)) Cert.Reference2Ideal.Gen.slices_S8448x20000_S8448x5632_0_0

/-- The blocks that grid point `t` reads and writes. -/
theorem idx : ∀ t : Fin cfg0.N, win0_0.index t = ![t.val / 11, 0] ∧ win0_1.index t = ![0, t.val % 11, 0]
    ∧ win0_3.index t = ![t.val / 11, t.val % 11] ∧ t.val / 11 < 4 :=
  (by decide +kernel : ∀ t : Fin grid0.N, _)

/-- A row of the staged block of the transposed weight is a column of layer 0's weight. -/
theorem fill_at (c : Dev nD) (t : Fin cfg0.N) (j : S1x512x2048.Idx) (h : (t.val % 11) * 512 + (j 1).val < 20000) :
    X0_1 m c t j = m (c.tc.loc main_arg1) (ix3 0 (j 2) ⟨(t.val % 11) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by show _ + (y 1).val < _; omega)).trans ?_
  blk_ext

/-- The call runs, leaves its arguments and every semaphore counter at zero. -/
theorem frame_kernel : Cert.quiescent_Kernel2 := fun m ρ _ => Cert.Kernel2.Gen.frame m ρ

/-- So does its idealization. -/
theorem frame_ideal : Cert.quiescent_Kernel2Ideal := fun m ρ _ => Cert.Kernel2Ideal.Gen.frame m ρ

/-- The reference runs, leaves its arguments and every semaphore counter at zero. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩) (Cert.Reference2Ideal.Value.run (F := Ideal) m ρ)

/-- No constant is named. -/
theorem preserves : Cert.preserves_Kernel2_Kernel2Ideal := trivial

/-- The call `in_proj_a` of layer 0 and its reference end with equal results. -/
theorem algebraic : Cert.algebraic_Kernel2Ideal_Reference2Ideal := by
  intro m ρ m' ρ' _ hagree
  refine ⟨fun c => ref (m (c.tc.loc Cert.Kernel2Ideal.main_arg0)) (m (c.tc.loc Cert.Kernel2Ideal.main_arg1)),
    (θ_run Cert.Kernel2Ideal.defs _ _).mono (fun _ h c => ⟨(h c).1.trans (final m c), (h c).2⟩) (Cert.Kernel2Ideal.Value.run_blocks m ρ),
    (θ_run Cert.Reference2Ideal.defs _ _).mono (fun _ h c => ⟨(h c).1.trans ?_, (h c).2⟩) (Cert.Reference2Ideal.Value.run (F := Ideal) m' ρ')⟩
  rw [(hagree c).1, (hagree c).2]

end Cert.Proj.A0

end
-- ==== Proof.Proj.AB0.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.Proj.AB0

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 5632 to 5759 of the product of the rows with layer 0's weight. -/
abbrev ref (U : FVec Ideal S8448x2048 .bf16) (W : FVec Ideal S4x2048x20000 .f32) : FVec Ideal S8448x128 .f32 :=
  extractStridedSlice Cert.Reference3Ideal.S8448x128 ![0, 5632] (Host.dotGeneral Cert.Reference3Ideal.dot_S8448x2048_S2048x20000_S8448x20000_1_0_0_1_n_n none
    (extf .f32 U Cert.Reference3Ideal.Gen.bitsLt_bf16_f32)
    (shapeCast _ (extractStridedSlice Cert.Reference3Ideal.S1x2048x20000 ![0, 0, 0] W Cert.Reference3Ideal.Gen.slices_S4x2048x20000_S1x2048x20000_0_0_0)
      Cert.Reference3Ideal.Gen.shapeCasts_S1x2048x20000_S2048x20000)) Cert.Reference3Ideal.Gen.slices_S8448x20000_S8448x128_0_5632

/-- The blocks that grid point `t` reads and writes. -/
theorem idx : ∀ t : Fin cfg0.N, win0_0.index t = ![t.val, 0] ∧ win0_1.index t = ![0, 44, 0]
    ∧ win0_3.index t = ![t.val, 0] ∧ t.val < 4 :=
  (by decide +kernel : ∀ t : Fin grid0.N, _)

/-- A row of the staged block of the transposed weight is a column of layer 0's weight. -/
theorem fill_at (c : Dev nD) (t : Fin cfg0.N) (j : S1x128x2048.Idx) (h : (44) * 128 + (j 1).val < 20000) :
    X0_1 m c t j = m (c.tc.loc main_arg1) (ix3 0 (j 2) ⟨(44) * 128 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by show _ + (y 1).val < _; omega)).trans ?_
  blk_ext

/-- The call runs, leaves its arguments and every semaphore counter at zero. -/
theorem frame_kernel : Cert.quiescent_Kernel3 := fun m ρ _ => Cert.Kernel3.Gen.frame m ρ

/-- So does its idealization. -/
theorem frame_ideal : Cert.quiescent_Kernel3Ideal := fun m ρ _ => Cert.Kernel3Ideal.Gen.frame m ρ

/-- The reference runs, leaves its arguments and every semaphore counter at zero. -/
theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run (F := Ideal) m ρ)

/-- No constant is named. -/
theorem preserves : Cert.preserves_Kernel3_Kernel3Ideal := trivial

/-- The call `in_proj_ab` of layer 0 and its reference end with equal results. -/
theorem algebraic : Cert.algebraic_Kernel3Ideal_Reference3Ideal := by
  intro m ρ m' ρ' _ hagree
  refine ⟨fun c => ref (m (c.tc.loc Cert.Kernel3Ideal.main_arg0)) (m (c.tc.loc Cert.Kernel3Ideal.main_arg1)),
    (θ_run Cert.Kernel3Ideal.defs _ _).mono (fun _ h c => ⟨(h c).1.trans (final m c), (h c).2⟩) (Cert.Kernel3Ideal.Value.run_blocks m ρ),
    (θ_run Cert.Reference3Ideal.defs _ _).mono (fun _ h c => ⟨(h c).1.trans ?_, (h c).2⟩) (Cert.Reference3Ideal.Value.run (F := Ideal) m' ρ')⟩
  rw [(hagree c).1, (hagree c).2]

end Cert.Proj.AB0

end
-- ==== Proof.Proj.C0.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Quiescent

@[expose] public section

set_option maxRecDepth 16384

noncomputable section

namespace Cert.Proj.C0

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 5664 to 11807 of the product of the rows with layer 0's weight. -/
abbrev ref (U : FVec Ideal S8448x2048 .bf16) (W : FVec Ideal S4x2048x20000 .f32) : FVec Ideal S8448x6144 .f32 :=
  extractStridedSlice Cert.Reference4Ideal.S8448x6144 ![0, 5664] (Host.dotGeneral Cert.Reference4Ideal.dot_S8448x2048_S2048x20000_S8448x20000_1_0_0_1_n_n none
    (extf .f32 U Cert.Reference4Ideal.Gen.bitsLt_bf16_f32)
    (shapeCast _ (extractStridedSlice Cert.Reference4Ideal.S1x2048x20000 ![0, 0, 0] W Cert.Reference4Ideal.Gen.slices_S4x2048x20000_S1x2048x20000_0_0_0)
      Cert.Reference4Ideal.Gen.shapeCasts_S1x2048x20000_S2048x20000)) Cert.Reference4Ideal.Gen.slices_S8448x20000_S8448x6144_0_5664

/-- The blocks that grid point `t` reads and writes. -/
theorem idx : ∀ t : Fin cfg0.N, win0_0.index t = ![t.val / 12, 0] ∧ win0_1.index t = ![0, 11 + t.val % 12, 0]
    ∧ win0_2.index t = ![0, (11 + t.val % 12 + 1) * 16, 0] ∧ win0_3.index t = ![t.val / 12, t.val % 12] ∧ t.val / 12 < 4 :=
  (by decide +kernel : ∀ t : Fin grid0.N, _)

/-- A row of the staged block of the transposed weight is a column of layer 0's weight. -/
theorem fill_at (c : Dev nD) (t : Fin cfg0.N) (j : S1x512x2048.Idx) (h : (11 + t.val % 12) * 512 + (j 1).val < 20000) :
    X0_1 m c t j = m (c.tc.loc main_arg1) (ix3 0 (j 2) ⟨(11 + t.val % 12) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by simp only [ix3_1]; omega)).trans ?_
  blk_ext

/-- The call runs, leaves its arguments and every semaphore counter at zero. -/
theorem frame_kernel : Cert.quiescent_Kernel4 := fun m ρ _ => Cert.Kernel4.Gen.frame m ρ

/-- So does its idealization. -/
theorem frame_ideal : Cert.quiescent_Kernel4Ideal := fun m ρ _ => Cert.Kernel4Ideal.Gen.frame m ρ

/-- The reference runs, leaves its arguments and every semaphore counter at zero. -/
theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run (F := Ideal) m ρ)

/-- No constant is named. -/
theorem preserves : Cert.preserves_Kernel4_Kernel4Ideal := trivial

/-- The call `in_proj_c` of layer 0 and its reference end with equal results. -/
theorem algebraic : Cert.algebraic_Kernel4Ideal_Reference4Ideal := by
  intro m ρ m' ρ' _ hagree
  refine ⟨fun c => ref (m (c.tc.loc Cert.Kernel4Ideal.main_arg0)) (m (c.tc.loc Cert.Kernel4Ideal.main_arg1)),
    (θ_run Cert.Kernel4Ideal.defs _ _).mono (fun _ h c => ⟨(h c).1.trans (final m c), (h c).2⟩) (Cert.Kernel4Ideal.Value.run_blocks m ρ),
    (θ_run Cert.Reference4Ideal.defs _ _).mono (fun _ h c => ⟨(h c).1.trans ?_, (h c).2⟩) (Cert.Reference4Ideal.Value.run (F := Ideal) m' ρ')⟩
  rw [(hagree c).1, (hagree c).2]

end Cert.Proj.C0

end
-- ==== Proof.Proj.G0.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Quiescent

@[expose] public section

set_option maxRecDepth 16384

noncomputable section

namespace Cert.Proj.G0

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 11808 to 19999 of the product of the rows with layer 0's weight. -/
abbrev ref (U : FVec Ideal S8448x2048 .bf16) (W : FVec Ideal S4x2048x20000 .f32) : FVec Ideal S8448x8192 .bf16 :=
  truncf .bf16 (extractStridedSlice Cert.Reference5Ideal.S8448x8192 ![0, 11808] (Host.dotGeneral Cert.Reference5Ideal.dot_S8448x2048_S2048x20000_S8448x20000_1_0_0_1_n_n none
    (extf .f32 U Cert.Reference5Ideal.Gen.bitsLt_bf16_f32)
    (shapeCast _ (extractStridedSlice Cert.Reference5Ideal.S1x2048x20000 ![0, 0, 0] W Cert.Reference5Ideal.Gen.slices_S4x2048x20000_S1x2048x20000_0_0_0)
      Cert.Reference5Ideal.Gen.shapeCasts_S1x2048x20000_S2048x20000)) Cert.Reference5Ideal.Gen.slices_S8448x20000_S8448x8192_0_11808) Cert.Reference5Ideal.Gen.bitsLt_bf16_f32

/-- The blocks that grid point `t` reads and writes. -/
theorem idx : ∀ t : Fin cfg0.N, win0_0.index t = ![t.val / 16, 0] ∧ win0_1.index t = ![0, 23 + t.val % 16, 0]
    ∧ win0_2.index t = ![0, (23 + t.val % 16 + 1) * 16, 0] ∧ win0_3.index t = ![t.val / 16, t.val % 16] ∧ t.val / 16 < 4 :=
  (by decide +kernel : ∀ t : Fin grid0.N, _)

/-- A row of the staged block of the transposed weight is a column of layer 0's weight. -/
theorem fill_at (c : Dev nD) (t : Fin cfg0.N) (j : S1x512x2048.Idx) (h : (23 + t.val % 16) * 512 + (j 1).val < 20000) :
    X0_1 m c t j = m (c.tc.loc main_arg1) (ix3 0 (j 2) ⟨(23 + t.val % 16) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by simp only [ix3_1]; omega)).trans ?_
  blk_ext

/-- The call runs, leaves its arguments and every semaphore counter at zero. -/
theorem frame_kernel : Cert.quiescent_Kernel5 := fun m ρ _ => Cert.Kernel5.Gen.frame m ρ

/-- So does its idealization. -/
theorem frame_ideal : Cert.quiescent_Kernel5Ideal := fun m ρ _ => Cert.Kernel5Ideal.Gen.frame m ρ

/-- The reference runs, leaves its arguments and every semaphore counter at zero. -/
theorem frame_reference : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)

/-- No constant is named. -/
theorem preserves : Cert.preserves_Kernel5_Kernel5Ideal := trivial

/-- The call `in_proj_g` of layer 0 and its reference end with equal results. -/
theorem algebraic : Cert.algebraic_Kernel5Ideal_Reference5Ideal := by
  intro m ρ m' ρ' _ hagree
  refine ⟨fun c => ref (m (c.tc.loc Cert.Kernel5Ideal.main_arg0)) (m (c.tc.loc Cert.Kernel5Ideal.main_arg1)),
    (θ_run Cert.Kernel5Ideal.defs _ _).mono (fun _ h c => ⟨(h c).1.trans (final m c), (h c).2⟩) (Cert.Kernel5Ideal.Value.run_blocks m ρ),
    (θ_run Cert.Reference5Ideal.defs _ _).mono (fun _ h c => ⟨(h c).1.trans ?_, (h c).2⟩) (Cert.Reference5Ideal.Value.run (F := Ideal) m' ρ')⟩
  rw [(hagree c).1, (hagree c).2]

end Cert.Proj.G0

end
-- ==== Proof.Out.L0.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Quiescent

@[expose] public section

set_option maxRecDepth 16384

noncomputable section

namespace Cert.Out.L0

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: the product of the rows with layer 0's output weight. -/
abbrev ref (U : FVec Ideal S8448x2048 .bf16) (W : FVec Ideal S4x2048x2048 .f32) : FVec Ideal S8448x2048 .f32 :=
  Host.dotGeneral Cert.Reference6Ideal.dot_S8448x2048_S2048x2048_S8448x2048_1_0_0_1_n_n none (extf .f32 U Cert.Reference6Ideal.Gen.bitsLt_bf16_f32)
    (shapeCast _ (extractStridedSlice Cert.Reference6Ideal.S1x2048x2048 ![0, 0, 0] W Cert.Reference6Ideal.Gen.slices_S4x2048x2048_S1x2048x2048_0_0_0)
      Cert.Reference6Ideal.Gen.shapeCasts_S1x2048x2048_S2048x2048)

/-- The blocks that grid point `t` reads and writes. -/
theorem idx : ∀ t : Fin cfg0.N, win0_0.index t = ![t.val / 4, 0] ∧ win0_1.index t = ![0, 0, t.val % 4]
    ∧ win0_2.index t = ![t.val / 4, t.val % 4] ∧ t.val / 4 < 4 :=
  (by decide +kernel : ∀ t : Fin grid0.N, _)

/-- The call's output array is the product. -/
theorem final (c : Dev nD) : (dats m 0 c).arrAt 2 cfg0.N = ref (m (c.tc.loc main_arg0)) (m (c.tc.loc main_arg1)) := by
  refine (dats m 0 c).arrAt_eq_of_covers 2 _ (by decide +kernel) fun t _ y => ?_
  blk_simp
  rw [after0_2]
  frame_out
  pointwise [k0_pay1, ref]
  blk_point [iblk, V, idx t]

/-- The call runs, leaves its arguments and every semaphore counter at zero. -/
theorem frame_kernel : Cert.quiescent_Kernel6 := fun m ρ _ => Cert.Kernel6.Gen.frame m ρ

/-- So does its idealization. -/
theorem frame_ideal : Cert.quiescent_Kernel6Ideal := fun m ρ _ => Cert.Kernel6Ideal.Gen.frame m ρ

/-- The reference runs, leaves its arguments and every semaphore counter at zero. -/
theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩) (Cert.Reference6Ideal.Value.run (F := Ideal) m ρ)

/-- No constant is named. -/
theorem preserves : Cert.preserves_Kernel6_Kernel6Ideal := trivial

/-- The output projection of layer 0 and its reference end with equal results. -/
theorem algebraic : Cert.algebraic_Kernel6Ideal_Reference6Ideal := by
  intro m ρ m' ρ' _ hagree
  refine ⟨fun c => ref (m (c.tc.loc Cert.Kernel6Ideal.main_arg0)) (m (c.tc.loc Cert.Kernel6Ideal.main_arg1)),
    (θ_run Cert.Kernel6Ideal.defs _ _).mono (fun _ h c => ⟨(h c).1.trans (final m c), (h c).2⟩) (Cert.Kernel6Ideal.Value.run_blocks m ρ),
    (θ_run Cert.Reference6Ideal.defs _ _).mono (fun _ h c => ⟨(h c).1.trans ?_, (h c).2⟩) (Cert.Reference6Ideal.Value.run (F := Ideal) m' ρ')⟩
  rw [(hagree c).1, (hagree c).2]

end Cert.Out.L0

end
-- ==== Proof.Merge.L0.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Quiescent

@[expose] public section

set_option maxRecDepth 16384

noncomputable section

namespace Cert.Merge.L0

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: the branches, each projected by layer 0's weight of the branch, times the sigmoid of the
    gate's logits, summed. -/
def ref (ya : FVec Ideal S8448x1024 .bf16) (yb : FVec Ideal S8448x1024 .bf16) (yl : FVec Ideal S8192x1024 .f32) (yc : FVec Ideal S256x1024 .f32)
    (yd : FVec Ideal S8448x1024 .bf16) (g : FVec Ideal S8448x8192 .bf16) (w : FVec Ideal S4x4x1024x2048 .f32) : FVec Ideal S8448x2048 .bf16 :=
  truncf .bf16 (Host.reduceAdd (mulf (Host.divf (broadcastInDim Cert.Reference7Ideal.S8448x4x2048 ![] Cert.Reference7Ideal.Gen.bcast_S_S8448x4x2048 (constant Cert.Reference7Ideal.S_ .f32 0x3F800000#32))
    (addf (broadcastInDim Cert.Reference7Ideal.S8448x4x2048 ![] Cert.Reference7Ideal.Gen.bcast_S_S8448x4x2048 (constant Cert.Reference7Ideal.S_ .f32 0x3F800000#32))
      (Host.exp (Host.negf (shapeCast _ (extf .f32 g Cert.Reference7Ideal.Gen.bitsLt_bf16_f32) Cert.Reference7Ideal.Gen.shapeCasts_S8448x8192_S8448x4x2048)))))
    (transpose Cert.Reference7Ideal.S8448x4x2048 [2, 0, 1] (Host.dotGeneral (φ₂ := .f32) Cert.Reference7Ideal.dot_S4x1024x2048_S8448x4x1024_S4x2048x8448_1_2_2_0_0_1 none
      (shapeCast _ (extractStridedSlice Cert.Reference7Ideal.S1x4x1024x2048 ![0, 0, 0, 0] w Cert.Reference7Ideal.Gen.slices_S4x4x1024x2048_S1x4x1024x2048_0_0_0_0) Cert.Reference7Ideal.Gen.shapeCasts_S1x4x1024x2048_S4x1024x2048)
      ((concatenate Cert.Reference7Ideal.S8448x4x1024 1
        [⟨Cert.Reference7Ideal.S8448x1x1024, ((broadcastInDim Cert.Reference7Ideal.S8448x1x1024 ![0, 2] Cert.Reference7Ideal.Gen.bcast_S8448x1024_S8448x1x1024_0_2 (extf .f32 ya Cert.Reference7Ideal.Gen.bitsLt_bf16_f32)) : (⟨Cert.Reference7Ideal.S8448x1x1024, .f32⟩ : BufTy).Contents (Elt Ideal))⟩,
         ⟨Cert.Reference7Ideal.S8448x1x1024, ((broadcastInDim Cert.Reference7Ideal.S8448x1x1024 ![0, 2] Cert.Reference7Ideal.Gen.bcast_S8448x1024_S8448x1x1024_0_2 (extf .f32 yb Cert.Reference7Ideal.Gen.bitsLt_bf16_f32)) : (⟨Cert.Reference7Ideal.S8448x1x1024, .f32⟩ : BufTy).Contents (Elt Ideal))⟩,
         ⟨Cert.Reference7Ideal.S8448x1x1024, ((broadcastInDim Cert.Reference7Ideal.S8448x1x1024 ![0, 2] Cert.Reference7Ideal.Gen.bcast_S8448x1024_S8448x1x1024_0_2
            (concatenate Cert.Reference7Ideal.S8448x1024 0 [⟨Cert.Reference7Ideal.S8192x1024, yl⟩, ⟨Cert.Reference7Ideal.S256x1024, yc⟩] Cert.Reference7Ideal.Gen.concatenates_S8192x1024_S256x1024_S8448x1024_d0)) : (⟨Cert.Reference7Ideal.S8448x1x1024, .f32⟩ : BufTy).Contents (Elt Ideal))⟩,
         ⟨Cert.Reference7Ideal.S8448x1x1024, ((broadcastInDim Cert.Reference7Ideal.S8448x1x1024 ![0, 2] Cert.Reference7Ideal.Gen.bcast_S8448x1024_S8448x1x1024_0_2 (extf .f32 yd Cert.Reference7Ideal.Gen.bitsLt_bf16_f32)) : (⟨Cert.Reference7Ideal.S8448x1x1024, .f32⟩ : BufTy).Contents (Elt Ideal))⟩]
        Cert.Reference7Ideal.Gen.concatenates_S8448x1x1024_S8448x1x1024_S8448x1x1024_S8448x1x1024_S8448x4x1024_d1 : (⟨Cert.Reference7Ideal.S8448x4x1024, .f32⟩ : BufTy).Contents (Elt Ideal))))
      Cert.Reference7Ideal.Gen.transposes_S4x2048x8448_S8448x4x2048_2_0_1)) (constant Cert.Reference7Ideal.S_ .f32 0x00000000#32) Cert.Reference7Ideal.Gen.reducesTo_S8448x4x2048_S8448x2048_d1 Cert.Reference7Ideal.Gen.h_S_) Cert.Reference7Ideal.Gen.bitsLt_bf16_f32

/-- The blocks that grid point `t` reads and writes. -/
theorem idx : ∀ t : Fin cfg0.N, win0_0.index t = ![t.val % 33, 0] ∧ win0_1.index t = ![t.val % 33, 0]
    ∧ win0_2.index t = ![min (t.val % 33) 31, 0] ∧ win0_3.index t = ![0, 0] ∧ win0_4.index t = ![t.val % 33, 0]
    ∧ win0_5.index t = ![t.val % 33, t.val / 33] ∧ win0_6.index t = ![t.val % 33, 4 + t.val / 33]
    ∧ win0_7.index t = ![t.val % 33, 8 + t.val / 33] ∧ win0_8.index t = ![t.val % 33, 12 + t.val / 33]
    ∧ win0_9.index t = ![0, 0, 0, t.val / 33] ∧ win0_10.index t = ![t.val % 33, t.val / 33] ∧ t.val / 33 < 4
    ∧ (grid0.coords t 1).val = t.val % 33 :=
  (by decide +kernel : ∀ t : Fin grid0.N, _)

/-- The reference at a row and a column: the four gated products, in the order in which they are added. -/
theorem ref_at (ya : FVec Ideal S8448x1024 .bf16) (yb : FVec Ideal S8448x1024 .bf16) (yl : FVec Ideal S8192x1024 .f32) (yc : FVec Ideal S256x1024 .f32)
    (yd : FVec Ideal S8448x1024 .bf16) (g : FVec Ideal S8448x8192 .bf16) (w : FVec Ideal S4x4x1024x2048 .f32) (i : S8448x2048.Idx) (a b : ℕ) (ha : a < 8448)
    (hb : b < 2048) (h0 : (i 0).val = a) (h1 : (i 1).val = b) :
    ref ya yb yl yc yd g w i
      = Ideal.logistic (g (ix2 ⟨a, ha⟩ ⟨b, by omega⟩)) * ∑ x, ya (ix2 ⟨a, ha⟩ x) * w (ix4 0 0 x ⟨b, hb⟩)
        + Ideal.logistic (g (ix2 ⟨a, ha⟩ ⟨2048 + b, by omega⟩)) * ∑ x, yb (ix2 ⟨a, ha⟩ x) * w (ix4 0 1 x ⟨b, hb⟩)
        + Ideal.logistic (g (ix2 ⟨a, ha⟩ ⟨4096 + b, by omega⟩)) * ∑ x, (if h : a < 8192 then yl (ix2 ⟨a, h⟩ x) else yc (ix2 ⟨a - 8192, by omega⟩ x)) * w (ix4 0 2 x ⟨b, hb⟩)
        + Ideal.logistic (g (ix2 ⟨a, ha⟩ ⟨6144 + b, by omega⟩)) * ∑ x, yd (ix2 ⟨a, ha⟩ x) * w (ix4 0 3 x ⟨b, hb⟩) := by
  obtain rfl : i = ix2 ⟨a, ha⟩ ⟨b, hb⟩ := by
    rw [← ix2_eta i]
    exact (ix2_inj _ _ _ _).2 ⟨Fin.ext h0, Fin.ext h1⟩
  pointwise [ref]
  rw [Fin.sum_univ_four]
  refine congrArg₂ (· + ·) (congrArg₂ (· + ·) (congrArg₂ (· + ·)
    (congrArg₂ (· * ·) (congrArg (fun z => Ideal.logistic (g z)) ((ix2_inj _ _ _ _).2 ⟨rfl, Fin.ext (by show 0 * 2048 + b = b; omega)⟩)) ?_)
    (congrArg₂ (· * ·) (congrArg (fun z => Ideal.logistic (g z)) ((ix2_inj _ _ _ _).2 ⟨rfl, Fin.ext (by show 1 * 2048 + b = 2048 + b; omega)⟩)) ?_))
    (congrArg₂ (· * ·) (congrArg (fun z => Ideal.logistic (g z)) ((ix2_inj _ _ _ _).2 ⟨rfl, Fin.ext (by show 2 * 2048 + b = 4096 + b; omega)⟩)) ?_))
    (congrArg₂ (· * ·) (congrArg (fun z => Ideal.logistic (g z)) ((ix2_inj _ _ _ _).2 ⟨rfl, Fin.ext (by show 3 * 2048 + b = 6144 + b; omega)⟩)) ?_)
  all_goals exact Finset.sum_congr rfl fun x _ => mul_comm _ _

/-- The last block row is the context's, the others the latent tokens'. -/
theorem pick : ∀ t : Fin cfg0.N, Scalar.cmpi CmpIPredicate.eq (BitVec.ofNat 32 (grid0.coords t 1).val) 32#32 = if t.val % 33 = 32 then 1#1 else 0#1 :=
  (by decide +kernel : ∀ t : Fin grid0.N, _)

/-- The call's output array is the merge. -/
theorem final (c : Dev nD) : (dats m 0 c).arrAt 10 cfg0.N = ref (m (c.tc.loc main_arg0)) (m (c.tc.loc main_arg1)) (m (c.tc.loc main_arg2))
    (m (c.tc.loc main_arg3)) (m (c.tc.loc main_arg4)) (m (c.tc.loc main_arg5)) (m (c.tc.loc main_arg6)) := by
  refine (dats m 0 c).arrAt_eq_of_covers 10 _ (by decide +kernel) fun t _ y => ?_
  blk_simp
  rw [after0_10]
  frame_out
  pointwise [k0_pay1, k0_pay2, k0_pay3, k0_pay4]
  rw [pick]
  have hi := idx t
  have h0 : (y 0).val < 256 := (y 0).isLt
  have h1 : (y 1).val < 512 := (y 1).isLt
  refine Eq.trans ?_ (ref_at _ _ _ _ _ _ _ _ (t.val % 33 * 256 + (y 0).val) (t.val / 33 * 512 + (y 1).val) ?_ ?_ ?_ ?_).symm
  · refine congrArg₂ (· + ·) (congrArg₂ (· + ·) (congrArg₂ (· + ·)
      (congrArg₂ (· * ·) (congrArg Ideal.logistic ?_) (Finset.sum_congr rfl fun x _ => congrArg₂ (· * ·) ?_ ?_))
      (congrArg₂ (· * ·) (congrArg Ideal.logistic ?_) (Finset.sum_congr rfl fun x _ => congrArg₂ (· * ·) ?_ ?_)))
      (congrArg₂ (· * ·) (congrArg Ideal.logistic ?_) (Finset.sum_congr rfl fun x _ => congrArg₂ (· * ·) ?_ ?_)))
      (congrArg₂ (· * ·) (congrArg Ideal.logistic ?_) (Finset.sum_congr rfl fun x _ => congrArg₂ (· * ·) ?_ ?_))
    case refine_8 =>
      rcases eq_or_ne (t.val % 33) 32 with h | h
      · rw [if_pos h]
        refine Eq.trans ?_ (dif_neg (by omega)).symm
        show iblk m c 3 t _ = _
        blk_point [iblk, V, idx t]
      · rw [if_neg h]
        refine Eq.trans ?_ (dif_pos (c := t.val % 33 * 256 + (y 0).val < 8192) (by omega)).symm
        show iblk m c 2 t _ = _
        blk_point [iblk, V, idx t]
    all_goals blk_point [iblk, V, idx t]
  · omega
  · omega
  · show (((cfg0.win 10).blk t).view.emb y 0).val = _
    blk_simp
    rw [hi.2.2.2.2.2.2.2.2.2.2.1]
    rfl
  · show (((cfg0.win 10).blk t).view.emb y 1).val = _
    blk_simp
    rw [hi.2.2.2.2.2.2.2.2.2.2.1]
    rfl

/-- The call runs, leaves its arguments and every semaphore counter at zero. -/
theorem frame_kernel : Cert.quiescent_Kernel7 := fun m ρ _ => Cert.Kernel7.Gen.frame m ρ

/-- So does its idealization. -/
theorem frame_ideal : Cert.quiescent_Kernel7Ideal := fun m ρ _ => Cert.Kernel7Ideal.Gen.frame m ρ

/-- The reference runs, leaves its arguments and every semaphore counter at zero. -/
theorem frame_reference : Cert.quiescent_Reference7Ideal := fun m ρ _ =>
  (θ_run Cert.Reference7Ideal.defs _ _).mono
    (fun r h => ⟨fun c => (h c).2, Idealize.ShloMosaic.sem_eq_zero_of_no_sems (by decide) r.2⟩) (Cert.Reference7Ideal.Value.run (F := Ideal) m ρ)

/-- No constant is named. -/
theorem preserves : Cert.preserves_Kernel7_Kernel7Ideal := trivial

/-- The merge of layer 0's branches and its reference end with equal results. -/
theorem algebraic : Cert.algebraic_Kernel7Ideal_Reference7Ideal := by
  intro m ρ m' ρ' _ hagree
  refine ⟨fun c => ref (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)),
    (θ_run Cert.Kernel7Ideal.defs _ _).mono (fun _ h c => ⟨(h c).1.trans (final m c), (h c).2⟩) (Cert.Kernel7Ideal.Value.run_blocks m ρ),
    (θ_run Cert.Reference7Ideal.defs _ _).mono (fun _ h c => ⟨(h c).1.trans ?_, (h c).2⟩) (Cert.Reference7Ideal.Value.run (F := Ideal) m' ρ')⟩
  rw [(hagree c).1, (hagree c).2.1, (hagree c).2.2.1, (hagree c).2.2.2.1, (hagree c).2.2.2.2.1, (hagree c).2.2.2.2.2.1, (hagree c).2.2.2.2.2.2]
  rfl

end Cert.Merge.L0

end
-- ==== Proof.Proj.A1.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Quiescent

@[expose] public section

set_option maxRecDepth 16384

noncomputable section

namespace Cert.Proj.A1

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 0 to 5631 of the product of the rows with layer 1's weight. -/
abbrev ref (U : FVec Ideal S8448x2048 .bf16) (W : FVec Ideal S4x2048x20000 .f32) : FVec Ideal S8448x5632 .f32 :=
  extractStridedSlice Cert.Reference8Ideal.S8448x5632 ![0, 0] (Host.dotGeneral Cert.Reference8Ideal.dot_S8448x2048_S2048x20000_S8448x20000_1_0_0_1_n_n none
    (extf .f32 U Cert.Reference8Ideal.Gen.bitsLt_bf16_f32)
    (shapeCast _ (extractStridedSlice Cert.Reference8Ideal.S1x2048x20000 ![1, 0, 0] W Cert.Reference8Ideal.Gen.slices_S4x2048x20000_S1x2048x20000_1_0_0)
      Cert.Reference8Ideal.Gen.shapeCasts_S1x2048x20000_S2048x20000)) Cert.Reference8Ideal.Gen.slices_S8448x20000_S8448x5632_0_0

/-- The blocks that grid point `t` reads and writes. -/
theorem idx : ∀ t : Fin cfg0.N, win0_0.index t = ![t.val / 11, 0] ∧ win0_1.index t = ![1, t.val % 11, 0]
    ∧ win0_3.index t = ![t.val / 11, t.val % 11] ∧ t.val / 11 < 4 :=
  (by decide +kernel : ∀ t : Fin grid0.N, _)

/-- A row of the staged block of the transposed weight is a column of layer 1's weight. -/
theorem fill_at (c : Dev nD) (t : Fin cfg0.N) (j : S1x512x2048.Idx) (h : (t.val % 11) * 512 + (j 1).val < 20000) :
    X0_1 m c t j = m (c.tc.loc main_arg1) (ix3 1 (j 2) ⟨(t.val % 11) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by show _ + (y 1).val < _; omega)).trans ?_
  blk_ext

/-- The call runs, leaves its arguments and every semaphore counter at zero. -/
theorem frame_kernel : Cert.quiescent_Kernel8 := fun m ρ _ => Cert.Kernel8.Gen.frame m ρ

/-- So does its idealization. -/
theorem frame_ideal : Cert.quiescent_Kernel8Ideal := fun m ρ _ => Cert.Kernel8Ideal.Gen.frame m ρ

/-- The reference runs, leaves its arguments and every semaphore counter at zero. -/
theorem frame_reference : Cert.quiescent_Reference8Ideal := fun m ρ _ =>
  (θ_run Cert.Reference8Ideal.defs _ _).mono
    (fun r h => ⟨fun c => (h c).2, Idealize.ShloMosaic.sem_eq_zero_of_no_sems (by decide) r.2⟩) (Cert.Reference8Ideal.Value.run (F := Ideal) m ρ)

/-- No constant is named. -/
theorem preserves : Cert.preserves_Kernel8_Kernel8Ideal := trivial

/-- The call `in_proj_a` of layer 1 and its reference end with equal results. -/
theorem algebraic : Cert.algebraic_Kernel8Ideal_Reference8Ideal := by
  intro m ρ m' ρ' _ hagree
  refine ⟨fun c => ref (m (c.tc.loc Cert.Kernel8Ideal.main_arg0)) (m (c.tc.loc Cert.Kernel8Ideal.main_arg1)),
    (θ_run Cert.Kernel8Ideal.defs _ _).mono (fun _ h c => ⟨(h c).1.trans (final m c), (h c).2⟩) (Cert.Kernel8Ideal.Value.run_blocks m ρ),
    (θ_run Cert.Reference8Ideal.defs _ _).mono (fun _ h c => ⟨(h c).1.trans ?_, (h c).2⟩) (Cert.Reference8Ideal.Value.run (F := Ideal) m' ρ')⟩
  rw [(hagree c).1, (hagree c).2]

end Cert.Proj.A1

end
-- ==== Proof.Proj.AB1.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Quiescent

@[expose] public section

set_option maxRecDepth 16384

noncomputable section

namespace Cert.Proj.AB1

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 5632 to 5759 of the product of the rows with layer 1's weight. -/
abbrev ref (U : FVec Ideal S8448x2048 .bf16) (W : FVec Ideal S4x2048x20000 .f32) : FVec Ideal S8448x128 .f32 :=
  extractStridedSlice Cert.Reference9Ideal.S8448x128 ![0, 5632] (Host.dotGeneral Cert.Reference9Ideal.dot_S8448x2048_S2048x20000_S8448x20000_1_0_0_1_n_n none
    (extf .f32 U Cert.Reference9Ideal.Gen.bitsLt_bf16_f32)
    (shapeCast _ (extractStridedSlice Cert.Reference9Ideal.S1x2048x20000 ![1, 0, 0] W Cert.Reference9Ideal.Gen.slices_S4x2048x20000_S1x2048x20000_1_0_0)
      Cert.Reference9Ideal.Gen.shapeCasts_S1x2048x20000_S2048x20000)) Cert.Reference9Ideal.Gen.slices_S8448x20000_S8448x128_0_5632

/-- The blocks that grid point `t` reads and writes. -/
theorem idx : ∀ t : Fin cfg0.N, win0_0.index t = ![t.val, 0] ∧ win0_1.index t = ![1, 44, 0]
    ∧ win0_3.index t = ![t.val, 0] ∧ t.val < 4 :=
  (by decide +kernel : ∀ t : Fin grid0.N, _)

/-- A row of the staged block of the transposed weight is a column of layer 1's weight. -/
theorem fill_at (c : Dev nD) (t : Fin cfg0.N) (j : S1x128x2048.Idx) (h : (44) * 128 + (j 1).val < 20000) :
    X0_1 m c t j = m (c.tc.loc main_arg1) (ix3 1 (j 2) ⟨(44) * 128 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by show _ + (y 1).val < _; omega)).trans ?_
  blk_ext

/-- The call runs, leaves its arguments and every semaphore counter at zero. -/
theorem frame_kernel : Cert.quiescent_Kernel9 := fun m ρ _ => Cert.Kernel9.Gen.frame m ρ

/-- So does its idealization. -/
theorem frame_ideal : Cert.quiescent_Kernel9Ideal := fun m ρ _ => Cert.Kernel9Ideal.Gen.frame m ρ

/-- The reference runs, leaves its arguments and every semaphore counter at zero. -/
theorem frame_reference : Cert.quiescent_Reference9Ideal := fun m ρ _ =>
  (θ_run Cert.Reference9Ideal.defs _ _).mono
    (fun r h => ⟨fun c => (h c).2, Idealize.ShloMosaic.sem_eq_zero_of_no_sems (by decide) r.2⟩) (Cert.Reference9Ideal.Value.run (F := Ideal) m ρ)

/-- No constant is named. -/
theorem preserves : Cert.preserves_Kernel9_Kernel9Ideal := trivial

/-- The call `in_proj_ab` of layer 1 and its reference end with equal results. -/
theorem algebraic : Cert.algebraic_Kernel9Ideal_Reference9Ideal := by
  intro m ρ m' ρ' _ hagree
  refine ⟨fun c => ref (m (c.tc.loc Cert.Kernel9Ideal.main_arg0)) (m (c.tc.loc Cert.Kernel9Ideal.main_arg1)),
    (θ_run Cert.Kernel9Ideal.defs _ _).mono (fun _ h c => ⟨(h c).1.trans (final m c), (h c).2⟩) (Cert.Kernel9Ideal.Value.run_blocks m ρ),
    (θ_run Cert.Reference9Ideal.defs _ _).mono (fun _ h c => ⟨(h c).1.trans ?_, (h c).2⟩) (Cert.Reference9Ideal.Value.run (F := Ideal) m' ρ')⟩
  rw [(hagree c).1, (hagree c).2]

end Cert.Proj.AB1

end
-- ==== Proof.Proj.C1.lean ====
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Quiescent

@[expose] public section

set_option maxRecDepth 16384

noncomputable section

namespace Cert.Proj.C1

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 5664 to 11807 of the product of the rows with layer 1's weight. -/
abbrev ref (U : FVec Ideal S8448x2048 .bf16) (W : FVec Ideal S4x2048x20000 .f32) : FVec Ideal S8448x6144 .f32 :=
  extractStridedSlice Cert.Reference10Ideal.S8448x6144 ![0, 5664] (Host.dotGeneral Cert.Reference10Ideal.dot_S8448x2048_S2048x20000_S8448x20000_1_0_0_1_n_n none
    (extf .f32 U Cert.Reference10Ideal.Gen.bitsLt_bf16_f32)
    (shapeCast _ (extractStridedSlice Cert.Reference10Ideal.S1x2048x20000 ![1, 0, 0] W Cert.Reference10Ideal.Gen.slices_S4x2048x20000_S1x2048x20000_1_0_0)
      Cert.Reference10Ideal.Gen.shapeCasts_S1x2048x20000_S2048x20000)) Cert.Reference10Ideal.Gen.slices_S8448x20000_S8448x6144_0_5664

/-- The blocks that grid point `t` reads and writes. -/
theorem idx : ∀ t : Fin cfg0.N, win0_0.index t = ![t.val / 12, 0] ∧ win0_1.index t = ![1, 11 + t.val % 12, 0]
    ∧ win0_2.index t = ![1, (11 + t.val % 12 + 1) * 16, 0] ∧ win0_3.index t = ![t.val / 12, t.val % 12] ∧ t.val / 12 < 4 :=
  (by decide +kernel : ∀ t : Fin grid0.N, _)

/-- A row of the staged block of the transposed weight is a column of layer 1's weight. -/
theorem fill_at (c : Dev nD) (t : Fin cfg0.N) (j : S1x512x2048.Idx) (h : (11 + t.val % 12) * 512 + (j 1).val < 20000) :
    X0_1 m c t j = m (c.tc.loc main_arg1) (ix3 1 (j 2) ⟨(11 + t.val % 12) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by simp only [ix3_1]; omega)).trans ?_
  blk_ext

/-- The call runs, leaves its arguments and every semaphore counter at zero. -/
theorem frame_kernel : Cert.quiescent_Kernel10 := fun m ρ _ => Cert.Kernel10.Gen.frame m ρ

/-- So does its idealization. -/
theorem frame_ideal : Cert.quiescent_Kernel10Ideal := fun m ρ _ => Cert.Kernel10Ideal.Gen.frame m ρ

/-- The reference runs, leaves its arguments and every semaphore counter at zero. -/
theorem frame_reference : Cert.quiescent_Reference10Ideal := fun m ρ _ =>
  (θ_run Cert.Reference10Ideal.defs _ _).mono
    (fun r h => ⟨fun c => (h c).2, Idealize.ShloMosaic.sem_eq_zero_of_no_sems (by decide) r.2⟩) (Cert.Reference10Ideal.Value.run (F := Ideal) m ρ)

/-- No constant is named. -/
theorem preserves : Cert.preserves_Kernel10_Kernel10Ideal := trivial

/-- The call `in_proj_c` of layer 1 and its reference end with equal results. -/
theorem algebraic : Cert.algebraic_Kernel10Ideal_Reference10Ideal := by
  intro m ρ m' ρ' _ hagree
  refine ⟨fun c => ref (m (c.tc.loc Cert.Kernel10Ideal.main_arg0)) (m (c.tc.loc Cert.Kernel10Ideal.main_arg1)),
    (θ_run Cert.Kernel10Ideal.defs _ _).mono (fun _ h c => ⟨(h c).1.trans (final m c), (h c).2⟩) (Cert.Kernel10Ideal.Value.run_blocks m ρ),
    (θ_run Cert.Reference10Ideal.defs _ _).mono (fun _ h c => ⟨(h c).1.trans ?_, (h c).2⟩) (Cert.Reference10Ideal.Value.run (F := Ideal) m' ρ')⟩
  rw [(hagree c).1, (hagree c).2]

end Cert.Proj.C1

end
-- ==== Proof.Proj.G1.lean ====
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Quiescent

@[expose] public section

set_option maxRecDepth 16384

noncomputable section

namespace Cert.Proj.G1

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 11808 to 19999 of the product of the rows with layer 1's weight. -/
abbrev ref (U : FVec Ideal S8448x2048 .bf16) (W : FVec Ideal S4x2048x20000 .f32) : FVec Ideal S8448x8192 .bf16 :=
  truncf .bf16 (extractStridedSlice Cert.Reference11Ideal.S8448x8192 ![0, 11808] (Host.dotGeneral Cert.Reference11Ideal.dot_S8448x2048_S2048x20000_S8448x20000_1_0_0_1_n_n none
    (extf .f32 U Cert.Reference11Ideal.Gen.bitsLt_bf16_f32)
    (shapeCast _ (extractStridedSlice Cert.Reference11Ideal.S1x2048x20000 ![1, 0, 0] W Cert.Reference11Ideal.Gen.slices_S4x2048x20000_S1x2048x20000_1_0_0)
      Cert.Reference11Ideal.Gen.shapeCasts_S1x2048x20000_S2048x20000)) Cert.Reference11Ideal.Gen.slices_S8448x20000_S8448x8192_0_11808) Cert.Reference11Ideal.Gen.bitsLt_bf16_f32

/-- The blocks that grid point `t` reads and writes. -/
theorem idx : ∀ t : Fin cfg0.N, win0_0.index t = ![t.val / 16, 0] ∧ win0_1.index t = ![1, 23 + t.val % 16, 0]
    ∧ win0_2.index t = ![1, (23 + t.val % 16 + 1) * 16, 0] ∧ win0_3.index t = ![t.val / 16, t.val % 16] ∧ t.val / 16 < 4 :=
  (by decide +kernel : ∀ t : Fin grid0.N, _)

/-- A row of the staged block of the transposed weight is a column of layer 1's weight. -/
theorem fill_at (c : Dev nD) (t : Fin cfg0.N) (j : S1x512x2048.Idx) (h : (23 + t.val % 16) * 512 + (j 1).val < 20000) :
    X0_1 m c t j = m (c.tc.loc main_arg1) (ix3 1 (j 2) ⟨(23 + t.val % 16) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by simp only [ix3_1]; omega)).trans ?_
  blk_ext

/-- The call runs, leaves its arguments and every semaphore counter at zero. -/
theorem frame_kernel : Cert.quiescent_Kernel11 := fun m ρ _ => Cert.Kernel11.Gen.frame m ρ

/-- So does its idealization. -/
theorem frame_ideal : Cert.quiescent_Kernel11Ideal := fun m ρ _ => Cert.Kernel11Ideal.Gen.frame m ρ

/-- The reference runs, leaves its arguments and every semaphore counter at zero. -/
theorem frame_reference : Cert.quiescent_Reference11Ideal := fun m ρ _ =>
  (θ_run Cert.Reference11Ideal.defs _ _).mono
    (fun r h => ⟨fun c => (h c).2, Idealize.ShloMosaic.sem_eq_zero_of_no_sems (by decide) r.2⟩) (Cert.Reference11Ideal.Value.run (F := Ideal) m ρ)

/-- No constant is named. -/
theorem preserves : Cert.preserves_Kernel11_Kernel11Ideal := trivial

/-- The call `in_proj_g` of layer 1 and its reference end with equal results. -/
theorem algebraic : Cert.algebraic_Kernel11Ideal_Reference11Ideal := by
  intro m ρ m' ρ' _ hagree
  refine ⟨fun c => ref (m (c.tc.loc Cert.Kernel11Ideal.main_arg0)) (m (c.tc.loc Cert.Kernel11Ideal.main_arg1)),
    (θ_run Cert.Kernel11Ideal.defs _ _).mono (fun _ h c => ⟨(h c).1.trans (final m c), (h c).2⟩) (Cert.Kernel11Ideal.Value.run_blocks m ρ),
    (θ_run Cert.Reference11Ideal.defs _ _).mono (fun _ h c => ⟨(h c).1.trans ?_, (h c).2⟩) (Cert.Reference11Ideal.Value.run (F := Ideal) m' ρ')⟩
  rw [(hagree c).1, (hagree c).2]

end Cert.Proj.G1

end
-- ==== Proof.Out.L1.lean ====
module

public import proofs.«01_k».proof.Defs
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Quiescent

@[expose] public section

set_option maxRecDepth 16384

noncomputable section

namespace Cert.Out.L1

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: the product of the rows with layer 1's output weight. -/
abbrev ref (U : FVec Ideal S8448x2048 .bf16) (W : FVec Ideal S4x2048x2048 .f32) : FVec Ideal S8448x2048 .f32 :=
  Host.dotGeneral Cert.Reference12Ideal.dot_S8448x2048_S2048x2048_S8448x2048_1_0_0_1_n_n none (extf .f32 U Cert.Reference12Ideal.Gen.bitsLt_bf16_f32)
    (shapeCast _ (extractStridedSlice Cert.Reference12Ideal.S1x2048x2048 ![1, 0, 0] W Cert.Reference12Ideal.Gen.slices_S4x2048x2048_S1x2048x2048_1_0_0)
      Cert.Reference12Ideal.Gen.shapeCasts_S1x2048x2048_S2048x2048)

/-- The blocks that grid point `t` reads and writes. -/
theorem idx : ∀ t : Fin cfg0.N, win0_0.index t = ![t.val / 4, 0] ∧ win0_1.index t = ![1, 0, t.val % 4]
    ∧ win0_2.index t = ![t.val / 4, t.val % 4] ∧ t.val / 4 < 4 :=
  (by decide +kernel : ∀ t : Fin grid0.N, _)

/-- The call's output array is the product. -/
theorem final (c : Dev nD) : (dats m 0 c).arrAt 2 cfg0.N = ref (m (c.tc.loc main_arg0)) (m (c.tc.loc main_arg1)) := by
  refine (dats m 0 c).arrAt_eq_of_covers 2 _ (by decide +kernel) fun t _ y => ?_
  blk_simp
  rw [after0_2]
  frame_out
  pointwise [k0_pay1, ref]
  blk_point [iblk, V, idx t]

/-- The call runs, leaves its arguments and every semaphore counter at zero. -/
theorem frame_kernel : Cert.quiescent_Kernel12 := fun m ρ _ => Cert.Kernel12.Gen.frame m ρ

/-- So does its idealization. -/
theorem frame_ideal : Cert.quiescent_Kernel12Ideal := fun m ρ _ => Cert.Kernel12Ideal.Gen.frame m ρ

/-- The reference runs, leaves its arguments and every semaphore counter at zero. -/
theorem frame_reference : Cert.quiescent_Reference12Ideal := fun m ρ _ =>
  (θ_run Cert.Reference12Ideal.defs _ _).mono
    (fun r h => ⟨fun c => (h c).2, Idealize.ShloMosaic.sem_eq_zero_of_no_sems (by decide) r.2⟩) (Cert.Reference12Ideal.Value.run (F := Ideal) m ρ)

/-- No constant is named. -/
theorem preserves : Cert.preserves_Kernel12_Kernel12Ideal := trivial

/-- The output projection of layer 1 and its reference end with equal results. -/
theorem algebraic : Cert.algebraic_Kernel12Ideal_Reference12Ideal := by
  intro m ρ m' ρ' _ hagree
  refine ⟨fun c => ref (m (c.tc.loc Cert.Kernel12Ideal.main_arg0)) (m (c.tc.loc Cert.Kernel12Ideal.main_arg1)),
    (θ_run Cert.Kernel12Ideal.defs _ _).mono (fun _ h c => ⟨(h c).1.trans (final m c), (h c).2⟩) (Cert.Kernel12Ideal.Value.run_blocks m ρ),
    (θ_run Cert.Reference12Ideal.defs _ _).mono (fun _ h c => ⟨(h c).1.trans ?_, (h c).2⟩) (Cert.Reference12Ideal.Value.run (F := Ideal) m' ρ')⟩
  rw [(hagree c).1, (hagree c).2]

end Cert.Out.L1

end
-- ==== Proof.Merge.L1.lean ====
module

public import proofs.«01_k».proof.Defs
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Lib.Quiescent

@[expose] public section

set_option maxRecDepth 16384

noncomputable section

namespace Cert.Merge.L1

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: the branches, each projected by layer 1's weight of the branch, times the sigmoid of the
    gate's logits, summed. -/
def ref (ya : FVec Ideal S8448x1024 .bf16) (yb : FVec Ideal S8448x1024 .bf16) (yl : FVec Ideal S8192x1024 .f32) (yc : FVec Ideal S256x1024 .f32)
    (yd : FVec Ideal S8448x1024 .bf16) (g : FVec Ideal S8448x8192 .bf16) (w : FVec Ideal S4x4x1024x2048 .f32) : FVec Ideal S8448x2048 .bf16 :=
  truncf .bf16 (Host.reduceAdd (mulf (Host.divf (broadcastInDim Cert.Reference13Ideal.S8448x4x2048 ![] Cert.Reference13Ideal.Gen.bcast_S_S8448x4x2048 (constant Cert.Reference13Ideal.S_ .f32 0x3F800000#32))
    (addf (broadcastInDim Cert.Reference13Ideal.S8448x4x2048 ![] Cert.Reference13Ideal.Gen.bcast_S_S8448x4x2048 (constant Cert.Reference13Ideal.S_ .f32 0x3F800000#32))
      (Host.exp (Host.negf (shapeCast _ (extf .f32 g Cert.Reference13Ideal.Gen.bitsLt_bf16_f32) Cert.Reference13Ideal.Gen.shapeCasts_S8448x8192_S8448x4x2048)))))
    (transpose Cert.Reference13Ideal.S8448x4x2048 [2, 0, 1] (Host.dotGeneral (φ₂ := .f32) Cert.Reference13Ideal.dot_S4x1024x2048_S8448x4x1024_S4x2048x8448_1_2_2_0_0_1 none
      (shapeCast _ (extractStridedSlice Cert.Reference13Ideal.S1x4x1024x2048 ![1, 0, 0, 0] w Cert.Reference13Ideal.Gen.slices_S4x4x1024x2048_S1x4x1024x2048_1_0_0_0) Cert.Reference13Ideal.Gen.shapeCasts_S1x4x1024x2048_S4x1024x2048)
      ((concatenate Cert.Reference13Ideal.S8448x4x1024 1
        [⟨Cert.Reference13Ideal.S8448x1x1024, ((broadcastInDim Cert.Reference13Ideal.S8448x1x1024 ![0, 2] Cert.Reference13Ideal.Gen.bcast_S8448x1024_S8448x1x1024_0_2 (extf .f32 ya Cert.Reference13Ideal.Gen.bitsLt_bf16_f32)) : (⟨Cert.Reference13Ideal.S8448x1x1024, .f32⟩ : BufTy).Contents (Elt Ideal))⟩,
         ⟨Cert.Reference13Ideal.S8448x1x1024, ((broadcastInDim Cert.Reference13Ideal.S8448x1x1024 ![0, 2] Cert.Reference13Ideal.Gen.bcast_S8448x1024_S8448x1x1024_0_2 (extf .f32 yb Cert.Reference13Ideal.Gen.bitsLt_bf16_f32)) : (⟨Cert.Reference13Ideal.S8448x1x1024, .f32⟩ : BufTy).Contents (Elt Ideal))⟩,
         ⟨Cert.Reference13Ideal.S8448x1x1024, ((broadcastInDim Cert.Reference13Ideal.S8448x1x1024 ![0, 2] Cert.Reference13Ideal.Gen.bcast_S8448x1024_S8448x1x1024_0_2
            (concatenate Cert.Reference13Ideal.S8448x1024 0 [⟨Cert.Reference13Ideal.S8192x1024, yl⟩, ⟨Cert.Reference13Ideal.S256x1024, yc⟩] Cert.Reference13Ideal.Gen.concatenates_S8192x1024_S256x1024_S8448x1024_d0)) : (⟨Cert.Reference13Ideal.S8448x1x1024, .f32⟩ : BufTy).Contents (Elt Ideal))⟩,
         ⟨Cert.Reference13Ideal.S8448x1x1024, ((broadcastInDim Cert.Reference13Ideal.S8448x1x1024 ![0, 2] Cert.Reference13Ideal.Gen.bcast_S8448x1024_S8448x1x1024_0_2 (extf .f32 yd Cert.Reference13Ideal.Gen.bitsLt_bf16_f32)) : (⟨Cert.Reference13Ideal.S8448x1x1024, .f32⟩ : BufTy).Contents (Elt Ideal))⟩]
        Cert.Reference13Ideal.Gen.concatenates_S8448x1x1024_S8448x1x1024_S8448x1x1024_S8448x1x1024_S8448x4x1024_d1 : (⟨Cert.Reference13Ideal.S8448x4x1024, .f32⟩ : BufTy).Contents (Elt Ideal))))
      Cert.Reference13Ideal.Gen.transposes_S4x2048x8448_S8448x4x2048_2_0_1)) (constant Cert.Reference13Ideal.S_ .f32 0x00000000#32) Cert.Reference13Ideal.Gen.reducesTo_S8448x4x2048_S8448x2048_d1 Cert.Reference13Ideal.Gen.h_S_) Cert.Reference13Ideal.Gen.bitsLt_bf16_f32

/-- The blocks that grid point `t` reads and writes. -/
theorem idx : ∀ t : Fin cfg0.N, win0_0.index t = ![t.val % 33, 0] ∧ win0_1.index t = ![t.val % 33, 0]
    ∧ win0_2.index t = ![min (t.val % 33) 31, 0] ∧ win0_3.index t = ![0, 0] ∧ win0_4.index t = ![t.val % 33, 0]
    ∧ win0_5.index t = ![t.val % 33, t.val / 33] ∧ win0_6.index t = ![t.val % 33, 4 + t.val / 33]
    ∧ win0_7.index t = ![t.val % 33, 8 + t.val / 33] ∧ win0_8.index t = ![t.val % 33, 12 + t.val / 33]
    ∧ win0_9.index t = ![1, 0, 0, t.val / 33] ∧ win0_10.index t = ![t.val % 33, t.val / 33] ∧ t.val / 33 < 4
    ∧ (grid0.coords t 1).val = t.val % 33 :=
  (by decide +kernel : ∀ t : Fin grid0.N, _)

/-- The reference at a row and a column: the four gated products, in the order in which they are added. -/
theorem ref_at (ya : FVec Ideal S8448x1024 .bf16) (yb : FVec Ideal S8448x1024 .bf16) (yl : FVec Ideal S8192x1024 .f32) (yc : FVec Ideal S256x1024 .f32)
    (yd : FVec Ideal S8448x1024 .bf16) (g : FVec Ideal S8448x8192 .bf16) (w : FVec Ideal S4x4x1024x2048 .f32) (i : S8448x2048.Idx) (a b : ℕ) (ha : a < 8448)
    (hb : b < 2048) (h0 : (i 0).val = a) (h1 : (i 1).val = b) :
    ref ya yb yl yc yd g w i
      = Ideal.logistic (g (ix2 ⟨a, ha⟩ ⟨b, by omega⟩)) * ∑ x, ya (ix2 ⟨a, ha⟩ x) * w (ix4 1 0 x ⟨b, hb⟩)
        + Ideal.logistic (g (ix2 ⟨a, ha⟩ ⟨2048 + b, by omega⟩)) * ∑ x, yb (ix2 ⟨a, ha⟩ x) * w (ix4 1 1 x ⟨b, hb⟩)
        + Ideal.logistic (g (ix2 ⟨a, ha⟩ ⟨4096 + b, by omega⟩)) * ∑ x, (if h : a < 8192 then yl (ix2 ⟨a, h⟩ x) else yc (ix2 ⟨a - 8192, by omega⟩ x)) * w (ix4 1 2 x ⟨b, hb⟩)
        + Ideal.logistic (g (ix2 ⟨a, ha⟩ ⟨6144 + b, by omega⟩)) * ∑ x, yd (ix2 ⟨a, ha⟩ x) * w (ix4 1 3 x ⟨b, hb⟩) := by
  obtain rfl : i = ix2 ⟨a, ha⟩ ⟨b, hb⟩ := by
    rw [← ix2_eta i]
    exact (ix2_inj _ _ _ _).2 ⟨Fin.ext h0, Fin.ext h1⟩
  pointwise [ref]
  rw [Fin.sum_univ_four]
  refine congrArg₂ (· + ·) (congrArg₂ (· + ·) (congrArg₂ (· + ·)
    (congrArg₂ (· * ·) (congrArg (fun z => Ideal.logistic (g z)) ((ix2_inj _ _ _ _).2 ⟨rfl, Fin.ext (by show 0 * 2048 + b = b; omega)⟩)) ?_)
    (congrArg₂ (· * ·) (congrArg (fun z => Ideal.logistic (g z)) ((ix2_inj _ _ _ _).2 ⟨rfl, Fin.ext (by show 1 * 2048 + b = 2048 + b; omega)⟩)) ?_))
    (congrArg₂ (· * ·) (congrArg (fun z => Ideal.logistic (g z)) ((ix2_inj _ _ _ _).2 ⟨rfl, Fin.ext (by show 2 * 2048 + b = 4096 + b; omega)⟩)) ?_))
    (congrArg₂ (· * ·) (congrArg (fun z => Ideal.logistic (g z)) ((ix2_inj _ _ _ _).2 ⟨rfl, Fin.ext (by show 3 * 2048 + b = 6144 + b; omega)⟩)) ?_)
  all_goals exact Finset.sum_congr rfl fun x _ => mul_comm _ _

/-- The last block row is the context's, the others the latent tokens'. -/
theorem pick : ∀ t : Fin cfg0.N, Scalar.cmpi CmpIPredicate.eq (BitVec.ofNat 32 (grid0.coords t 1).val) 32#32 = if t.val % 33 = 32 then 1#1 else 0#1 :=
  (by decide +kernel : ∀ t : Fin grid0.N, _)

/-- The call's output array is the merge. -/
theorem final (c : Dev nD) : (dats m 0 c).arrAt 10 cfg0.N = ref (m (c.tc.loc main_arg0)) (m (c.tc.loc main_arg1)) (m (c.tc.loc main_arg2))
    (m (c.tc.loc main_arg3)) (m (c.tc.loc main_arg4)) (m (c.tc.loc main_arg5)) (m (c.tc.loc main_arg6)) := by
  refine (dats m 0 c).arrAt_eq_of_covers 10 _ (by decide +kernel) fun t _ y => ?_
  blk_simp
  rw [after0_10]
  frame_out
  pointwise [k0_pay1, k0_pay2, k0_pay3, k0_pay4]
  rw [pick]
  have hi := idx t
  have h0 : (y 0).val < 256 := (y 0).isLt
  have h1 : (y 1).val < 512 := (y 1).isLt
  refine Eq.trans ?_ (ref_at _ _ _ _ _ _ _ _ (t.val % 33 * 256 + (y 0).val) (t.val / 33 * 512 + (y 1).val) ?_ ?_ ?_ ?_).symm
  · refine congrArg₂ (· + ·) (congrArg₂ (· + ·) (congrArg₂ (· + ·)
      (congrArg₂ (· * ·) (congrArg Ideal.logistic ?_) (Finset.sum_congr rfl fun x _ => congrArg₂ (· * ·) ?_ ?_))
      (congrArg₂ (· * ·) (congrArg Ideal.logistic ?_) (Finset.sum_congr rfl fun x _ => congrArg₂ (· * ·) ?_ ?_)))
      (congrArg₂ (· * ·) (congrArg Ideal.logistic ?_) (Finset.sum_congr rfl fun x _ => congrArg₂ (· * ·) ?_ ?_)))
      (congrArg₂ (· * ·) (congrArg Ideal.logistic ?_) (Finset.sum_congr rfl fun x _ => congrArg₂ (· * ·) ?_ ?_))
    case refine_8 =>
      rcases eq_or_ne (t.val % 33) 32 with h | h
      · rw [if_pos h]
        refine Eq.trans ?_ (dif_neg (by omega)).symm
        show iblk m c 3 t _ = _
        blk_point [iblk, V, idx t]
      · rw [if_neg h]
        refine Eq.trans ?_ (dif_pos (c := t.val % 33 * 256 + (y 0).val < 8192) (by omega)).symm
        show iblk m c 2 t _ = _
        blk_point [iblk, V, idx t]
    all_goals blk_point [iblk, V, idx t]
  · omega
  · omega
  · show (((cfg0.win 10).blk t).view.emb y 0).val = _
    blk_simp
    rw [hi.2.2.2.2.2.2.2.2.2.2.1]
    rfl
  · show (((cfg0.win 10).blk t).view.emb y 1).val = _
    blk_simp
    rw [hi.2.2.2.2.2.2.2.2.2.2.1]
    rfl

/-- The call runs, leaves its arguments and every semaphore counter at zero. -/
theorem frame_kernel : Cert.quiescent_Kernel13 := fun m ρ _ => Cert.Kernel13.Gen.frame m ρ

/-- So does its idealization. -/
theorem frame_ideal : Cert.quiescent_Kernel13Ideal := fun m ρ _ => Cert.Kernel13Ideal.Gen.frame m ρ

/-- The reference runs, leaves its arguments and every semaphore counter at zero. -/
theorem frame_reference : Cert.quiescent_Reference13Ideal := fun m ρ _ =>
  (θ_run Cert.Reference13Ideal.defs _ _).mono
    (fun r h => ⟨fun c => (h c).2, Idealize.ShloMosaic.sem_eq_zero_of_no_sems (by decide) r.2⟩) (Cert.Reference13Ideal.Value.run (F := Ideal) m ρ)

/-- No constant is named. -/
theorem preserves : Cert.preserves_Kernel13_Kernel13Ideal := trivial

/-- The merge of layer 1's branches and its reference end with equal results. -/
theorem algebraic : Cert.algebraic_Kernel13Ideal_Reference13Ideal := by
  intro m ρ m' ρ' _ hagree
  refine ⟨fun c => ref (m (c.tc.loc Cert.Kernel13Ideal.main_arg0)) (m (c.tc.loc Cert.Kernel13Ideal.main_arg1)) (m (c.tc.loc Cert.Kernel13Ideal.main_arg2)) (m (c.tc.loc Cert.Kernel13Ideal.main_arg3)) (m (c.tc.loc Cert.Kernel13Ideal.main_arg4)) (m (c.tc.loc Cert.Kernel13Ideal.main_arg5)) (m (c.tc.loc Cert.Kernel13Ideal.main_arg6)),
    (θ_run Cert.Kernel13Ideal.defs _ _).mono (fun _ h c => ⟨(h c).1.trans (final m c), (h c).2⟩) (Cert.Kernel13Ideal.Value.run_blocks m ρ),
    (θ_run Cert.Reference13Ideal.defs _ _).mono (fun _ h c => ⟨(h c).1.trans ?_, (h c).2⟩) (Cert.Reference13Ideal.Value.run (F := Ideal) m' ρ')⟩
  rw [(hagree c).1, (hagree c).2.1, (hagree c).2.2.1, (hagree c).2.2.2.1, (hagree c).2.2.2.2.1, (hagree c).2.2.2.2.2.1, (hagree c).2.2.2.2.2.2]
  rfl

end Cert.Merge.L1

end
-- ==== Proof.Proj.A2.lean ====
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit
public import Idealize.ShloMosaic.Lib.Quiescent

@[expose] public section

set_option maxRecDepth 16384

noncomputable section

namespace Cert.Proj.A2

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 0 to 5631 of the product of the rows with layer 2's weight. -/
abbrev ref (U : FVec Ideal S8448x2048 .bf16) (W : FVec Ideal S4x2048x20000 .f32) : FVec Ideal S8448x5632 .f32 :=
  extractStridedSlice Cert.Reference14Ideal.S8448x5632 ![0, 0] (Host.dotGeneral Cert.Reference14Ideal.dot_S8448x2048_S2048x20000_S8448x20000_1_0_0_1_n_n none
    (extf .f32 U Cert.Reference14Ideal.Gen.bitsLt_bf16_f32)
    (shapeCast _ (extractStridedSlice Cert.Reference14Ideal.S1x2048x20000 ![2, 0, 0] W Cert.Reference14Ideal.Gen.slices_S4x2048x20000_S1x2048x20000_2_0_0)
      Cert.Reference14Ideal.Gen.shapeCasts_S1x2048x20000_S2048x20000)) Cert.Reference14Ideal.Gen.slices_S8448x20000_S8448x5632_0_0

/-- The blocks that grid point `t` reads and writes. -/
theorem idx : ∀ t : Fin cfg0.N, win0_0.index t = ![t.val / 11, 0] ∧ win0_1.index t = ![2, t.val % 11, 0]
    ∧ win0_3.index t = ![t.val / 11, t.val % 11] ∧ t.val / 11 < 4 :=
  (by decide +kernel : ∀ t : Fin grid0.N, _)

/-- A row of the staged block of the transposed weight is a column of layer 2's weight. -/
theorem fill_at (c : Dev nD) (t : Fin cfg0.N) (j : S1x512x2048.Idx) (h : (t.val % 11) * 512 + (j 1).val < 20000) :
    X0_1 m c t j = m (c.tc.loc main_arg1) (ix3 2 (j 2) ⟨(t.val % 11) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by show _ + (y 1).val < _; omega)).trans ?_
  blk_ext

/-- The call runs, leaves its arguments and every semaphore counter at zero. -/
theorem frame_kernel : Cert.quiescent_Kernel14 := fun m ρ _ => Cert.Kernel14.Gen.frame m ρ

/-- So does its idealization. -/
theorem frame_ideal : Cert.quiescent_Kernel14Ideal := fun m ρ _ => Cert.Kernel14Ideal.Gen.frame m ρ

/-- The reference runs, leaves its arguments and every semaphore counter at zero. -/
theorem frame_reference : Cert.quiescent_Reference14Ideal := fun m ρ _ =>
  (θ_run Cert.Reference14Ideal.defs _ _).mono
    (fun r h => ⟨fun c => (h c).2, Idealize.ShloMosaic.sem_eq_zero_of_no_sems (by decide) r.2⟩) (Cert.Reference14Ideal.Value.run (F := Ideal) m ρ)

/-- No constant is named. -/
theorem preserves : Cert.preserves_Kernel14_Kernel14Ideal := trivial

/-- The call `in_proj_a` of layer 2 and its reference end with equal results. -/
theorem algebraic : Cert.algebraic_Kernel14Ideal_Reference14Ideal := by
  intro m ρ m' ρ' _ hagree
  refine ⟨fun c => ref (m (c.tc.loc Cert.Kernel14Ideal.main_arg0)) (m (c.tc.loc Cert.Kernel14Ideal.main_arg1)),
    (θ_run Cert.Kernel14Ideal.defs _ _).mono (fun _ h c => ⟨(h c).1.trans (final m c), (h c).2⟩) (Cert.Kernel14Ideal.Value.run_blocks m ρ),
    (θ_run Cert.Reference14Ideal.defs _ _).mono (fun _ h c => ⟨(h c).1.trans ?_, (h c).2⟩) (Cert.Reference14Ideal.Value.run (F := Ideal) m' ρ')⟩
  rw [(hagree c).1, (hagree c).2]

end Cert.Proj.A2

end
-- ==== Proof.Proj.AB2.lean ====
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import Idealize.ShloMosaic.Lib.Quiescent

@[expose] public section

set_option maxRecDepth 16384

noncomputable section

namespace Cert.Proj.AB2

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 5632 to 5759 of the product of the rows with layer 2's weight. -/
abbrev ref (U : FVec Ideal S8448x2048 .bf16) (W : FVec Ideal S4x2048x20000 .f32) : FVec Ideal S8448x128 .f32 :=
  extractStridedSlice Cert.Reference15Ideal.S8448x128 ![0, 5632] (Host.dotGeneral Cert.Reference15Ideal.dot_S8448x2048_S2048x20000_S8448x20000_1_0_0_1_n_n none
    (extf .f32 U Cert.Reference15Ideal.Gen.bitsLt_bf16_f32)
    (shapeCast _ (extractStridedSlice Cert.Reference15Ideal.S1x2048x20000 ![2, 0, 0] W Cert.Reference15Ideal.Gen.slices_S4x2048x20000_S1x2048x20000_2_0_0)
      Cert.Reference15Ideal.Gen.shapeCasts_S1x2048x20000_S2048x20000)) Cert.Reference15Ideal.Gen.slices_S8448x20000_S8448x128_0_5632

/-- The blocks that grid point `t` reads and writes. -/
theorem idx : ∀ t : Fin cfg0.N, win0_0.index t = ![t.val, 0] ∧ win0_1.index t = ![2, 44, 0]
    ∧ win0_3.index t = ![t.val, 0] ∧ t.val < 4 :=
  (by decide +kernel : ∀ t : Fin grid0.N, _)

/-- A row of the staged block of the transposed weight is a column of layer 2's weight. -/
theorem fill_at (c : Dev nD) (t : Fin cfg0.N) (j : S1x128x2048.Idx) (h : (44) * 128 + (j 1).val < 20000) :
    X0_1 m c t j = m (c.tc.loc main_arg1) (ix3 2 (j 2) ⟨(44) * 128 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by show _ + (y 1).val < _; omega)).trans ?_
  blk_ext

/-- The call runs, leaves its arguments and every semaphore counter at zero. -/
theorem frame_kernel : Cert.quiescent_Kernel15 := fun m ρ _ => Cert.Kernel15.Gen.frame m ρ

/-- So does its idealization. -/
theorem frame_ideal : Cert.quiescent_Kernel15Ideal := fun m ρ _ => Cert.Kernel15Ideal.Gen.frame m ρ

/-- The reference runs, leaves its arguments and every semaphore counter at zero. -/
theorem frame_reference : Cert.quiescent_Reference15Ideal := fun m ρ _ =>
  (θ_run Cert.Reference15Ideal.defs _ _).mono
    (fun r h => ⟨fun c => (h c).2, Idealize.ShloMosaic.sem_eq_zero_of_no_sems (by decide) r.2⟩) (Cert.Reference15Ideal.Value.run (F := Ideal) m ρ)

/-- No constant is named. -/
theorem preserves : Cert.preserves_Kernel15_Kernel15Ideal := trivial

/-- The call `in_proj_ab` of layer 2 and its reference end with equal results. -/
theorem algebraic : Cert.algebraic_Kernel15Ideal_Reference15Ideal := by
  intro m ρ m' ρ' _ hagree
  refine ⟨fun c => ref (m (c.tc.loc Cert.Kernel15Ideal.main_arg0)) (m (c.tc.loc Cert.Kernel15Ideal.main_arg1)),
    (θ_run Cert.Kernel15Ideal.defs _ _).mono (fun _ h c => ⟨(h c).1.trans (final m c), (h c).2⟩) (Cert.Kernel15Ideal.Value.run_blocks m ρ),
    (θ_run Cert.Reference15Ideal.defs _ _).mono (fun _ h c => ⟨(h c).1.trans ?_, (h c).2⟩) (Cert.Reference15Ideal.Value.run (F := Ideal) m' ρ')⟩
  rw [(hagree c).1, (hagree c).2]

end Cert.Proj.AB2

end
-- ==== Proof.Proj.C2.lean ====
module

public import proofs.«01_k».proof.Defs
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit
public import Idealize.ShloMosaic.Lib.Quiescent

@[expose] public section

set_option maxRecDepth 16384

noncomputable section

namespace Cert.Proj.C2

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 5664 to 11807 of the product of the rows with layer 2's weight. -/
abbrev ref (U : FVec Ideal S8448x2048 .bf16) (W : FVec Ideal S4x2048x20000 .f32) : FVec Ideal S8448x6144 .f32 :=
  extractStridedSlice Cert.Reference16Ideal.S8448x6144 ![0, 5664] (Host.dotGeneral Cert.Reference16Ideal.dot_S8448x2048_S2048x20000_S8448x20000_1_0_0_1_n_n none
    (extf .f32 U Cert.Reference16Ideal.Gen.bitsLt_bf16_f32)
    (shapeCast _ (extractStridedSlice Cert.Reference16Ideal.S1x2048x20000 ![2, 0, 0] W Cert.Reference16Ideal.Gen.slices_S4x2048x20000_S1x2048x20000_2_0_0)
      Cert.Reference16Ideal.Gen.shapeCasts_S1x2048x20000_S2048x20000)) Cert.Reference16Ideal.Gen.slices_S8448x20000_S8448x6144_0_5664

/-- The blocks that grid point `t` reads and writes. -/
theorem idx : ∀ t : Fin cfg0.N, win0_0.index t = ![t.val / 12, 0] ∧ win0_1.index t = ![2, 11 + t.val % 12, 0]
    ∧ win0_2.index t = ![2, (11 + t.val % 12 + 1) * 16, 0] ∧ win0_3.index t = ![t.val / 12, t.val % 12] ∧ t.val / 12 < 4 :=
  (by decide +kernel : ∀ t : Fin grid0.N, _)

/-- A row of the staged block of the transposed weight is a column of layer 2's weight. -/
theorem fill_at (c : Dev nD) (t : Fin cfg0.N) (j : S1x512x2048.Idx) (h : (11 + t.val % 12) * 512 + (j 1).val < 20000) :
    X0_1 m c t j = m (c.tc.loc main_arg1) (ix3 2 (j 2) ⟨(11 + t.val % 12) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by simp only [ix3_1]; omega)).trans ?_
  blk_ext

/-- The call runs, leaves its arguments and every semaphore counter at zero. -/
theorem frame_kernel : Cert.quiescent_Kernel16 := fun m ρ _ => Cert.Kernel16.Gen.frame m ρ

/-- So does its idealization. -/
theorem frame_ideal : Cert.quiescent_Kernel16Ideal := fun m ρ _ => Cert.Kernel16Ideal.Gen.frame m ρ

/-- The reference runs, leaves its arguments and every semaphore counter at zero. -/
theorem frame_reference : Cert.quiescent_Reference16Ideal := fun m ρ _ =>
  (θ_run Cert.Reference16Ideal.defs _ _).mono
    (fun r h => ⟨fun c => (h c).2, Idealize.ShloMosaic.sem_eq_zero_of_no_sems (by decide) r.2⟩) (Cert.Reference16Ideal.Value.run (F := Ideal) m ρ)

/-- No constant is named. -/
theorem preserves : Cert.preserves_Kernel16_Kernel16Ideal := trivial

/-- The call `in_proj_c` of layer 2 and its reference end with equal results. -/
theorem algebraic : Cert.algebraic_Kernel16Ideal_Reference16Ideal := by
  intro m ρ m' ρ' _ hagree
  refine ⟨fun c => ref (m (c.tc.loc Cert.Kernel16Ideal.main_arg0)) (m (c.tc.loc Cert.Kernel16Ideal.main_arg1)),
    (θ_run Cert.Kernel16Ideal.defs _ _).mono (fun _ h c => ⟨(h c).1.trans (final m c), (h c).2⟩) (Cert.Kernel16Ideal.Value.run_blocks m ρ),
    (θ_run Cert.Reference16Ideal.defs _ _).mono (fun _ h c => ⟨(h c).1.trans ?_, (h c).2⟩) (Cert.Reference16Ideal.Value.run (F := Ideal) m' ρ')⟩
  rw [(hagree c).1, (hagree c).2]

end Cert.Proj.C2

end
-- ==== Proof.Proj.G2.lean ====
module

public import proofs.«01_k».proof.Defs
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit
public import Idealize.ShloMosaic.Lib.Quiescent

@[expose] public section

set_option maxRecDepth 16384

noncomputable section

namespace Cert.Proj.G2

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 11808 to 19999 of the product of the rows with layer 2's weight. -/
abbrev ref (U : FVec Ideal S8448x2048 .bf16) (W : FVec Ideal S4x2048x20000 .f32) : FVec Ideal S8448x8192 .bf16 :=
  truncf .bf16 (extractStridedSlice Cert.Reference17Ideal.S8448x8192 ![0, 11808] (Host.dotGeneral Cert.Reference17Ideal.dot_S8448x2048_S2048x20000_S8448x20000_1_0_0_1_n_n none
    (extf .f32 U Cert.Reference17Ideal.Gen.bitsLt_bf16_f32)
    (shapeCast _ (extractStridedSlice Cert.Reference17Ideal.S1x2048x20000 ![2, 0, 0] W Cert.Reference17Ideal.Gen.slices_S4x2048x20000_S1x2048x20000_2_0_0)
      Cert.Reference17Ideal.Gen.shapeCasts_S1x2048x20000_S2048x20000)) Cert.Reference17Ideal.Gen.slices_S8448x20000_S8448x8192_0_11808) Cert.Reference17Ideal.Gen.bitsLt_bf16_f32

/-- The blocks that grid point `t` reads and writes. -/
theorem idx : ∀ t : Fin cfg0.N, win0_0.index t = ![t.val / 16, 0] ∧ win0_1.index t = ![2, 23 + t.val % 16, 0]
    ∧ win0_2.index t = ![2, (23 + t.val % 16 + 1) * 16, 0] ∧ win0_3.index t = ![t.val / 16, t.val % 16] ∧ t.val / 16 < 4 :=
  (by decide +kernel : ∀ t : Fin grid0.N, _)

/-- A row of the staged block of the transposed weight is a column of layer 2's weight. -/
theorem fill_at (c : Dev nD) (t : Fin cfg0.N) (j : S1x512x2048.Idx) (h : (23 + t.val % 16) * 512 + (j 1).val < 20000) :
    X0_1 m c t j = m (c.tc.loc main_arg1) (ix3 2 (j 2) ⟨(23 + t.val % 16) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by simp only [ix3_1]; omega)).trans ?_
  blk_ext

/-- The call runs, leaves its arguments and every semaphore counter at zero. -/
theorem frame_kernel : Cert.quiescent_Kernel17 := fun m ρ _ => Cert.Kernel17.Gen.frame m ρ

/-- So does its idealization. -/
theorem frame_ideal : Cert.quiescent_Kernel17Ideal := fun m ρ _ => Cert.Kernel17Ideal.Gen.frame m ρ

/-- The reference runs, leaves its arguments and every semaphore counter at zero. -/
theorem frame_reference : Cert.quiescent_Reference17Ideal := fun m ρ _ =>
  (θ_run Cert.Reference17Ideal.defs _ _).mono
    (fun r h => ⟨fun c => (h c).2, Idealize.ShloMosaic.sem_eq_zero_of_no_sems (by decide) r.2⟩) (Cert.Reference17Ideal.Value.run (F := Ideal) m ρ)

/-- No constant is named. -/
theorem preserves : Cert.preserves_Kernel17_Kernel17Ideal := trivial

/-- The call `in_proj_g` of layer 2 and its reference end with equal results. -/
theorem algebraic : Cert.algebraic_Kernel17Ideal_Reference17Ideal := by
  intro m ρ m' ρ' _ hagree
  refine ⟨fun c => ref (m (c.tc.loc Cert.Kernel17Ideal.main_arg0)) (m (c.tc.loc Cert.Kernel17Ideal.main_arg1)),
    (θ_run Cert.Kernel17Ideal.defs _ _).mono (fun _ h c => ⟨(h c).1.trans (final m c), (h c).2⟩) (Cert.Kernel17Ideal.Value.run_blocks m ρ),
    (θ_run Cert.Reference17Ideal.defs _ _).mono (fun _ h c => ⟨(h c).1.trans ?_, (h c).2⟩) (Cert.Reference17Ideal.Value.run (F := Ideal) m' ρ')⟩
  rw [(hagree c).1, (hagree c).2]

end Cert.Proj.G2

end
-- ==== Proof.Out.L2.lean ====
module

public import proofs.«01_k».proof.Defs
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit
public import Idealize.ShloMosaic.Lib.Quiescent

@[expose] public section

set_option maxRecDepth 16384

noncomputable section

namespace Cert.Out.L2

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: the product of the rows with layer 2's output weight. -/
abbrev ref (U : FVec Ideal S8448x2048 .bf16) (W : FVec Ideal S4x2048x2048 .f32) : FVec Ideal S8448x2048 .f32 :=
  Host.dotGeneral Cert.Reference18Ideal.dot_S8448x2048_S2048x2048_S8448x2048_1_0_0_1_n_n none (extf .f32 U Cert.Reference18Ideal.Gen.bitsLt_bf16_f32)
    (shapeCast _ (extractStridedSlice Cert.Reference18Ideal.S1x2048x2048 ![2, 0, 0] W Cert.Reference18Ideal.Gen.slices_S4x2048x2048_S1x2048x2048_2_0_0)
      Cert.Reference18Ideal.Gen.shapeCasts_S1x2048x2048_S2048x2048)

/-- The blocks that grid point `t` reads and writes. -/
theorem idx : ∀ t : Fin cfg0.N, win0_0.index t = ![t.val / 4, 0] ∧ win0_1.index t = ![2, 0, t.val % 4]
    ∧ win0_2.index t = ![t.val / 4, t.val % 4] ∧ t.val / 4 < 4 :=
  (by decide +kernel : ∀ t : Fin grid0.N, _)

/-- The call's output array is the product. -/
theorem final (c : Dev nD) : (dats m 0 c).arrAt 2 cfg0.N = ref (m (c.tc.loc main_arg0)) (m (c.tc.loc main_arg1)) := by
  refine (dats m 0 c).arrAt_eq_of_covers 2 _ (by decide +kernel) fun t _ y => ?_
  blk_simp
  rw [after0_2]
  frame_out
  pointwise [k0_pay1, ref]
  blk_point [iblk, V, idx t]

/-- The call runs, leaves its arguments and every semaphore counter at zero. -/
theorem frame_kernel : Cert.quiescent_Kernel18 := fun m ρ _ => Cert.Kernel18.Gen.frame m ρ

/-- So does its idealization. -/
theorem frame_ideal : Cert.quiescent_Kernel18Ideal := fun m ρ _ => Cert.Kernel18Ideal.Gen.frame m ρ

/-- The reference runs, leaves its arguments and every semaphore counter at zero. -/
theorem frame_reference : Cert.quiescent_Reference18Ideal := fun m ρ _ =>
  (θ_run Cert.Reference18Ideal.defs _ _).mono
    (fun r h => ⟨fun c => (h c).2, Idealize.ShloMosaic.sem_eq_zero_of_no_sems (by decide) r.2⟩) (Cert.Reference18Ideal.Value.run (F := Ideal) m ρ)

/-- No constant is named. -/
theorem preserves : Cert.preserves_Kernel18_Kernel18Ideal := trivial

/-- The output projection of layer 2 and its reference end with equal results. -/
theorem algebraic : Cert.algebraic_Kernel18Ideal_Reference18Ideal := by
  intro m ρ m' ρ' _ hagree
  refine ⟨fun c => ref (m (c.tc.loc Cert.Kernel18Ideal.main_arg0)) (m (c.tc.loc Cert.Kernel18Ideal.main_arg1)),
    (θ_run Cert.Kernel18Ideal.defs _ _).mono (fun _ h c => ⟨(h c).1.trans (final m c), (h c).2⟩) (Cert.Kernel18Ideal.Value.run_blocks m ρ),
    (θ_run Cert.Reference18Ideal.defs _ _).mono (fun _ h c => ⟨(h c).1.trans ?_, (h c).2⟩) (Cert.Reference18Ideal.Value.run (F := Ideal) m' ρ')⟩
  rw [(hagree c).1, (hagree c).2]

end Cert.Out.L2

end
-- ==== Proof.Merge.L2.lean ====
module

public import proofs.«01_k».proof.Defs
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ValueKit
public import Idealize.ShloMosaic.Lib.Quiescent

@[expose] public section

set_option maxRecDepth 16384

noncomputable section

namespace Cert.Merge.L2

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: the branches, each projected by layer 2's weight of the branch, times the sigmoid of the
    gate's logits, summed. -/
def ref (ya : FVec Ideal S8448x1024 .bf16) (yb : FVec Ideal S8448x1024 .bf16) (yl : FVec Ideal S8192x1024 .f32) (yc : FVec Ideal S256x1024 .f32)
    (yd : FVec Ideal S8448x1024 .bf16) (g : FVec Ideal S8448x8192 .bf16) (w : FVec Ideal S4x4x1024x2048 .f32) : FVec Ideal S8448x2048 .bf16 :=
  truncf .bf16 (Host.reduceAdd (mulf (Host.divf (broadcastInDim Cert.Reference19Ideal.S8448x4x2048 ![] Cert.Reference19Ideal.Gen.bcast_S_S8448x4x2048 (constant Cert.Reference19Ideal.S_ .f32 0x3F800000#32))
    (addf (broadcastInDim Cert.Reference19Ideal.S8448x4x2048 ![] Cert.Reference19Ideal.Gen.bcast_S_S8448x4x2048 (constant Cert.Reference19Ideal.S_ .f32 0x3F800000#32))
      (Host.exp (Host.negf (shapeCast _ (extf .f32 g Cert.Reference19Ideal.Gen.bitsLt_bf16_f32) Cert.Reference19Ideal.Gen.shapeCasts_S8448x8192_S8448x4x2048)))))
    (transpose Cert.Reference19Ideal.S8448x4x2048 [2, 0, 1] (Host.dotGeneral (φ₂ := .f32) Cert.Reference19Ideal.dot_S4x1024x2048_S8448x4x1024_S4x2048x8448_1_2_2_0_0_1 none
      (shapeCast _ (extractStridedSlice Cert.Reference19Ideal.S1x4x1024x2048 ![2, 0, 0, 0] w Cert.Reference19Ideal.Gen.slices_S4x4x1024x2048_S1x4x1024x2048_2_0_0_0) Cert.Reference19Ideal.Gen.shapeCasts_S1x4x1024x2048_S4x1024x2048)
      ((concatenate Cert.Reference19Ideal.S8448x4x1024 1
        [⟨Cert.Reference19Ideal.S8448x1x1024, ((broadcastInDim Cert.Reference19Ideal.S8448x1x1024 ![0, 2] Cert.Reference19Ideal.Gen.bcast_S8448x1024_S8448x1x1024_0_2 (extf .f32 ya Cert.Reference19Ideal.Gen.bitsLt_bf16_f32)) : (⟨Cert.Reference19Ideal.S8448x1x1024, .f32⟩ : BufTy).Contents (Elt Ideal))⟩,
         ⟨Cert.Reference19Ideal.S8448x1x1024, ((broadcastInDim Cert.Reference19Ideal.S8448x1x1024 ![0, 2] Cert.Reference19Ideal.Gen.bcast_S8448x1024_S8448x1x1024_0_2 (extf .f32 yb Cert.Reference19Ideal.Gen.bitsLt_bf16_f32)) : (⟨Cert.Reference19Ideal.S8448x1x1024, .f32⟩ : BufTy).Contents (Elt Ideal))⟩,
         ⟨Cert.Reference19Ideal.S8448x1x1024, ((broadcastInDim Cert.Reference19Ideal.S8448x1x1024 ![0, 2] Cert.Reference19Ideal.Gen.bcast_S8448x1024_S8448x1x1024_0_2
            (concatenate Cert.Reference19Ideal.S8448x1024 0 [⟨Cert.Reference19Ideal.S8192x1024, yl⟩, ⟨Cert.Reference19Ideal.S256x1024, yc⟩] Cert.Reference19Ideal.Gen.concatenates_S8192x1024_S256x1024_S8448x1024_d0)) : (⟨Cert.Reference19Ideal.S8448x1x1024, .f32⟩ : BufTy).Contents (Elt Ideal))⟩,
         ⟨Cert.Reference19Ideal.S8448x1x1024, ((broadcastInDim Cert.Reference19Ideal.S8448x1x1024 ![0, 2] Cert.Reference19Ideal.Gen.bcast_S8448x1024_S8448x1x1024_0_2 (extf .f32 yd Cert.Reference19Ideal.Gen.bitsLt_bf16_f32)) : (⟨Cert.Reference19Ideal.S8448x1x1024, .f32⟩ : BufTy).Contents (Elt Ideal))⟩]
        Cert.Reference19Ideal.Gen.concatenates_S8448x1x1024_S8448x1x1024_S8448x1x1024_S8448x1x1024_S8448x4x1024_d1 : (⟨Cert.Reference19Ideal.S8448x4x1024, .f32⟩ : BufTy).Contents (Elt Ideal))))
      Cert.Reference19Ideal.Gen.transposes_S4x2048x8448_S8448x4x2048_2_0_1)) (constant Cert.Reference19Ideal.S_ .f32 0x00000000#32) Cert.Reference19Ideal.Gen.reducesTo_S8448x4x2048_S8448x2048_d1 Cert.Reference19Ideal.Gen.h_S_) Cert.Reference19Ideal.Gen.bitsLt_bf16_f32

/-- The blocks that grid point `t` reads and writes. -/
theorem idx : ∀ t : Fin cfg0.N, win0_0.index t = ![t.val % 33, 0] ∧ win0_1.index t = ![t.val % 33, 0]
    ∧ win0_2.index t = ![min (t.val % 33) 31, 0] ∧ win0_3.index t = ![0, 0] ∧ win0_4.index t = ![t.val % 33, 0]
    ∧ win0_5.index t = ![t.val % 33, t.val / 33] ∧ win0_6.index t = ![t.val % 33, 4 + t.val / 33]
    ∧ win0_7.index t = ![t.val % 33, 8 + t.val / 33] ∧ win0_8.index t = ![t.val % 33, 12 + t.val / 33]
    ∧ win0_9.index t = ![2, 0, 0, t.val / 33] ∧ win0_10.index t = ![t.val % 33, t.val / 33] ∧ t.val / 33 < 4
    ∧ (grid0.coords t 1).val = t.val % 33 :=
  (by decide +kernel : ∀ t : Fin grid0.N, _)

/-- The reference at a row and a column: the four gated products, in the order in which they are added. -/
theorem ref_at (ya : FVec Ideal S8448x1024 .bf16) (yb : FVec Ideal S8448x1024 .bf16) (yl : FVec Ideal S8192x1024 .f32) (yc : FVec Ideal S256x1024 .f32)
    (yd : FVec Ideal S8448x1024 .bf16) (g : FVec Ideal S8448x8192 .bf16) (w : FVec Ideal S4x4x1024x2048 .f32) (i : S8448x2048.Idx) (a b : ℕ) (ha : a < 8448)
    (hb : b < 2048) (h0 : (i 0).val = a) (h1 : (i 1).val = b) :
    ref ya yb yl yc yd g w i
      = Ideal.logistic (g (ix2 ⟨a, ha⟩ ⟨b, by omega⟩)) * ∑ x, ya (ix2 ⟨a, ha⟩ x) * w (ix4 2 0 x ⟨b, hb⟩)
        + Ideal.logistic (g (ix2 ⟨a, ha⟩ ⟨2048 + b, by omega⟩)) * ∑ x, yb (ix2 ⟨a, ha⟩ x) * w (ix4 2 1 x ⟨b, hb⟩)
        + Ideal.logistic (g (ix2 ⟨a, ha⟩ ⟨4096 + b, by omega⟩)) * ∑ x, (if h : a < 8192 then yl (ix2 ⟨a, h⟩ x) else yc (ix2 ⟨a - 8192, by omega⟩ x)) * w (ix4 2 2 x ⟨b, hb⟩)
        + Ideal.logistic (g (ix2 ⟨a, ha⟩ ⟨6144 + b, by omega⟩)) * ∑ x, yd (ix2 ⟨a, ha⟩ x) * w (ix4 2 3 x ⟨b, hb⟩) := by
  obtain rfl : i = ix2 ⟨a, ha⟩ ⟨b, hb⟩ := by
    rw [← ix2_eta i]
    exact (ix2_inj _ _ _ _).2 ⟨Fin.ext h0, Fin.ext h1⟩
  pointwise [ref]
  rw [Fin.sum_univ_four]
  refine congrArg₂ (· + ·) (congrArg₂ (· + ·) (congrArg₂ (· + ·)
    (congrArg₂ (· * ·) (congrArg (fun z => Ideal.logistic (g z)) ((ix2_inj _ _ _ _).2 ⟨rfl, Fin.ext (by show 0 * 2048 + b = b; omega)⟩)) ?_)
    (congrArg₂ (· * ·) (congrArg (fun z => Ideal.logistic (g z)) ((ix2_inj _ _ _ _).2 ⟨rfl, Fin.ext (by show 1 * 2048 + b = 2048 + b; omega)⟩)) ?_))
    (congrArg₂ (· * ·) (congrArg (fun z => Ideal.logistic (g z)) ((ix2_inj _ _ _ _).2 ⟨rfl, Fin.ext (by show 2 * 2048 + b = 4096 + b; omega)⟩)) ?_))
    (congrArg₂ (· * ·) (congrArg (fun z => Ideal.logistic (g z)) ((ix2_inj _ _ _ _).2 ⟨rfl, Fin.ext (by show 3 * 2048 + b = 6144 + b; omega)⟩)) ?_)
  all_goals exact Finset.sum_congr rfl fun x _ => mul_comm _ _

/-- The last block row is the context's, the others the latent tokens'. -/
theorem pick : ∀ t : Fin cfg0.N, Scalar.cmpi CmpIPredicate.eq (BitVec.ofNat 32 (grid0.coords t 1).val) 32#32 = if t.val % 33 = 32 then 1#1 else 0#1 :=
  (by decide +kernel : ∀ t : Fin grid0.N, _)

/-- The call's output array is the merge. -/
theorem final (c : Dev nD) : (dats m 0 c).arrAt 10 cfg0.N = ref (m (c.tc.loc main_arg0)) (m (c.tc.loc main_arg1)) (m (c.tc.loc main_arg2))
    (m (c.tc.loc main_arg3)) (m (c.tc.loc main_arg4)) (m (c.tc.loc main_arg5)) (m (c.tc.loc main_arg6)) := by
  refine (dats m 0 c).arrAt_eq_of_covers 10 _ (by decide +kernel) fun t _ y => ?_
  blk_simp
  rw [after0_10]
  frame_out
  pointwise [k0_pay1, k0_pay2, k0_pay3, k0_pay4]
  rw [pick]
  have hi := idx t
  have h0 : (y 0).val < 256 := (y 0).isLt
  have h1 : (y 1).val < 512 := (y 1).isLt
  refine Eq.trans ?_ (ref_at _ _ _ _ _ _ _ _ (t.val % 33 * 256 + (y 0).val) (t.val / 33 * 512 + (y 1).val) ?_ ?_ ?_ ?_).symm
  · refine congrArg₂ (· + ·) (congrArg₂ (· + ·) (congrArg₂ (· + ·)
      (congrArg₂ (· * ·) (congrArg Ideal.logistic ?_) (Finset.sum_congr rfl fun x _ => congrArg₂ (· * ·) ?_ ?_))
      (congrArg₂ (· * ·) (congrArg Ideal.logistic ?_) (Finset.sum_congr rfl fun x _ => congrArg₂ (· * ·) ?_ ?_)))
      (congrArg₂ (· * ·) (congrArg Ideal.logistic ?_) (Finset.sum_congr rfl fun x _ => congrArg₂ (· * ·) ?_ ?_)))
      (congrArg₂ (· * ·) (congrArg Ideal.logistic ?_) (Finset.sum_congr rfl fun x _ => congrArg₂ (· * ·) ?_ ?_))
    case refine_8 =>
      rcases eq_or_ne (t.val % 33) 32 with h | h
      · rw [if_pos h]
        refine Eq.trans ?_ (dif_neg (by omega)).symm
        show iblk m c 3 t _ = _
        blk_point [iblk, V, idx t]
      · rw [if_neg h]
        refine Eq.trans ?_ (dif_pos (c := t.val % 33 * 256 + (y 0).val < 8192) (by omega)).symm
        show iblk m c 2 t _ = _
        blk_point [iblk, V, idx t]
    all_goals blk_point [iblk, V, idx t]
  · omega
  · omega
  · show (((cfg0.win 10).blk t).view.emb y 0).val = _
    blk_simp
    rw [hi.2.2.2.2.2.2.2.2.2.2.1]
    rfl
  · show (((cfg0.win 10).blk t).view.emb y 1).val = _
    blk_simp
    rw [hi.2.2.2.2.2.2.2.2.2.2.1]
    rfl

/-- The call runs, leaves its arguments and every semaphore counter at zero. -/
theorem frame_kernel : Cert.quiescent_Kernel19 := fun m ρ _ => Cert.Kernel19.Gen.frame m ρ

/-- So does its idealization. -/
theorem frame_ideal : Cert.quiescent_Kernel19Ideal := fun m ρ _ => Cert.Kernel19Ideal.Gen.frame m ρ

/-- The reference runs, leaves its arguments and every semaphore counter at zero. -/
theorem frame_reference : Cert.quiescent_Reference19Ideal := fun m ρ _ =>
  (θ_run Cert.Reference19Ideal.defs _ _).mono
    (fun r h => ⟨fun c => (h c).2, Idealize.ShloMosaic.sem_eq_zero_of_no_sems (by decide) r.2⟩) (Cert.Reference19Ideal.Value.run (F := Ideal) m ρ)

/-- No constant is named. -/
theorem preserves : Cert.preserves_Kernel19_Kernel19Ideal := trivial

/-- The merge of layer 2's branches and its reference end with equal results. -/
theorem algebraic : Cert.algebraic_Kernel19Ideal_Reference19Ideal := by
  intro m ρ m' ρ' _ hagree
  refine ⟨fun c => ref (m (c.tc.loc Cert.Kernel19Ideal.main_arg0)) (m (c.tc.loc Cert.Kernel19Ideal.main_arg1)) (m (c.tc.loc Cert.Kernel19Ideal.main_arg2)) (m (c.tc.loc Cert.Kernel19Ideal.main_arg3)) (m (c.tc.loc Cert.Kernel19Ideal.main_arg4)) (m (c.tc.loc Cert.Kernel19Ideal.main_arg5)) (m (c.tc.loc Cert.Kernel19Ideal.main_arg6)),
    (θ_run Cert.Kernel19Ideal.defs _ _).mono (fun _ h c => ⟨(h c).1.trans (final m c), (h c).2⟩) (Cert.Kernel19Ideal.Value.run_blocks m ρ),
    (θ_run Cert.Reference19Ideal.defs _ _).mono (fun _ h c => ⟨(h c).1.trans ?_, (h c).2⟩) (Cert.Reference19Ideal.Value.run (F := Ideal) m' ρ')⟩
  rw [(hagree c).1, (hagree c).2.1, (hagree c).2.2.1, (hagree c).2.2.2.1, (hagree c).2.2.2.2.1, (hagree c).2.2.2.2.2.1, (hagree c).2.2.2.2.2.2]
  rfl

end Cert.Merge.L2

end
-- ==== Proof.Proj.A3.lean ====
module

public import proofs.«01_k».proof.Defs
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ValueKit
public import Idealize.ShloMosaic.Lib.Quiescent

@[expose] public section

set_option maxRecDepth 16384

noncomputable section

namespace Cert.Proj.A3

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 0 to 5631 of the product of the rows with layer 3's weight. -/
abbrev ref (U : FVec Ideal S8448x2048 .bf16) (W : FVec Ideal S4x2048x20000 .f32) : FVec Ideal S8448x5632 .f32 :=
  extractStridedSlice Cert.Reference20Ideal.S8448x5632 ![0, 0] (Host.dotGeneral Cert.Reference20Ideal.dot_S8448x2048_S2048x20000_S8448x20000_1_0_0_1_n_n none
    (extf .f32 U Cert.Reference20Ideal.Gen.bitsLt_bf16_f32)
    (shapeCast _ (extractStridedSlice Cert.Reference20Ideal.S1x2048x20000 ![3, 0, 0] W Cert.Reference20Ideal.Gen.slices_S4x2048x20000_S1x2048x20000_3_0_0)
      Cert.Reference20Ideal.Gen.shapeCasts_S1x2048x20000_S2048x20000)) Cert.Reference20Ideal.Gen.slices_S8448x20000_S8448x5632_0_0

/-- The blocks that grid point `t` reads and writes. -/
theorem idx : ∀ t : Fin cfg0.N, win0_0.index t = ![t.val / 11, 0] ∧ win0_1.index t = ![3, t.val % 11, 0]
    ∧ win0_3.index t = ![t.val / 11, t.val % 11] ∧ t.val / 11 < 4 :=
  (by decide +kernel : ∀ t : Fin grid0.N, _)

/-- A row of the staged block of the transposed weight is a column of layer 3's weight. -/
theorem fill_at (c : Dev nD) (t : Fin cfg0.N) (j : S1x512x2048.Idx) (h : (t.val % 11) * 512 + (j 1).val < 20000) :
    X0_1 m c t j = m (c.tc.loc main_arg1) (ix3 3 (j 2) ⟨(t.val % 11) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by show _ + (y 1).val < _; omega)).trans ?_
  blk_ext

/-- The call runs, leaves its arguments and every semaphore counter at zero. -/
theorem frame_kernel : Cert.quiescent_Kernel20 := fun m ρ _ => Cert.Kernel20.Gen.frame m ρ

/-- So does its idealization. -/
theorem frame_ideal : Cert.quiescent_Kernel20Ideal := fun m ρ _ => Cert.Kernel20Ideal.Gen.frame m ρ

/-- The reference runs, leaves its arguments and every semaphore counter at zero. -/
theorem frame_reference : Cert.quiescent_Reference20Ideal := fun m ρ _ =>
  (θ_run Cert.Reference20Ideal.defs _ _).mono
    (fun r h => ⟨fun c => (h c).2, Idealize.ShloMosaic.sem_eq_zero_of_no_sems (by decide) r.2⟩) (Cert.Reference20Ideal.Value.run (F := Ideal) m ρ)

/-- No constant is named. -/
theorem preserves : Cert.preserves_Kernel20_Kernel20Ideal := trivial

/-- The call `in_proj_a` of layer 3 and its reference end with equal results. -/
theorem algebraic : Cert.algebraic_Kernel20Ideal_Reference20Ideal := by
  intro m ρ m' ρ' _ hagree
  refine ⟨fun c => ref (m (c.tc.loc Cert.Kernel20Ideal.main_arg0)) (m (c.tc.loc Cert.Kernel20Ideal.main_arg1)),
    (θ_run Cert.Kernel20Ideal.defs _ _).mono (fun _ h c => ⟨(h c).1.trans (final m c), (h c).2⟩) (Cert.Kernel20Ideal.Value.run_blocks m ρ),
    (θ_run Cert.Reference20Ideal.defs _ _).mono (fun _ h c => ⟨(h c).1.trans ?_, (h c).2⟩) (Cert.Reference20Ideal.Value.run (F := Ideal) m' ρ')⟩
  rw [(hagree c).1, (hagree c).2]

end Cert.Proj.A3

end
-- ==== Proof.Proj.AB3.lean ====
module

public import proofs.«01_k».proof.Defs
public import proofs.«01_k».proof.Proof.Gen.Kernel21.Frame
public import proofs.«01_k».proof.Proof.Gen.Kernel21Ideal.Value
public import proofs.«01_k».proof.Proof.Gen.Reference21Ideal.Run
public import Idealize.ShloMosaic.Lib.Pipeline.ValueKit
public import Idealize.ShloMosaic.Lib.Quiescent

@[expose] public section

set_option maxRecDepth 16384

noncomputable section

namespace Cert.Proj.AB3

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 5632 to 5759 of the product of the rows with layer 3's weight. -/
abbrev ref (U : FVec Ideal S8448x2048 .bf16) (W : FVec Ideal S4x2048x20000 .f32) : FVec Ideal S8448x128 .f32 :=
  extractStridedSlice Cert.Reference21Ideal.S8448x128 ![0, 5632] (Host.dotGeneral Cert.Reference21Ideal.dot_S8448x2048_S2048x20000_S8448x20000_1_0_0_1_n_n none
    (extf .f32 U Cert.Reference21Ideal.Gen.bitsLt_bf16_f32)
    (shapeCast _ (extractStridedSlice Cert.Reference21Ideal.S1x2048x20000 ![3, 0, 0] W Cert.Reference21Ideal.Gen.slices_S4x2048x20000_S1x2048x20000_3_0_0)
      Cert.Reference21Ideal.Gen.shapeCasts_S1x2048x20000_S2048x20000)) Cert.Reference21Ideal.Gen.slices_S8448x20000_S8448x128_0_5632

/-- The blocks that grid point `t` reads and writes. -/
theorem idx : ∀ t : Fin cfg0.N, win0_0.index t = ![t.val, 0] ∧ win0_1.index t = ![3, 44, 0]
    ∧ win0_3.index t = ![t.val, 0] ∧ t.val < 4 :=
  (by decide +kernel : ∀ t : Fin grid0.N, _)

/-- A row of the staged block of the transposed weight is a column of layer 3's weight. -/
theorem fill_at (c : Dev nD) (t : Fin cfg0.N) (j : S1x128x2048.Idx) (h : (44) * 128 + (j 1).val < 20000) :
    X0_1 m c t j = m (c.tc.loc main_arg1) (ix3 3 (j 2) ⟨(44) * 128 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by show _ + (y 1).val < _; omega)).trans ?_
  blk_ext

/-- The call runs, leaves its arguments and every semaphore counter at zero. -/
theorem frame_kernel : Cert.quiescent_Kernel21 := fun m ρ _ => Cert.Kernel21.Gen.frame m ρ

/-- So does its idealization. -/
theorem frame_ideal : Cert.quiescent_Kernel21Ideal := fun m ρ _ => Cert.Kernel21Ideal.Gen.frame m ρ

/-- The reference runs, leaves its arguments and every semaphore counter at zero. -/
theorem frame_reference : Cert.quiescent_Reference21Ideal := fun m ρ _ =>
  (θ_run Cert.Reference21Ideal.defs _ _).mono
    (fun r h => ⟨fun c => (h c).2, Idealize.ShloMosaic.sem_eq_zero_of_no_sems (by decide) r.2⟩) (Cert.Reference21Ideal.Value.run (F := Ideal) m ρ)

/-- No constant is named. -/
theorem preserves : Cert.preserves_Kernel21_Kernel21Ideal := trivial

/-- The call `in_proj_ab` of layer 3 and its reference end with equal results. -/
theorem algebraic : Cert.algebraic_Kernel21Ideal_Reference21Ideal := by
  intro m ρ m' ρ' _ hagree
  refine ⟨fun c => ref (m (c.tc.loc Cert.Kernel21Ideal.main_arg0)) (m (c.tc.loc Cert.Kernel21Ideal.main_arg1)),
    (θ_run Cert.Kernel21Ideal.defs _ _).mono (fun _ h c => ⟨(h c).1.trans (final m c), (h c).2⟩) (Cert.Kernel21Ideal.Value.run_blocks m ρ),
    (θ_run Cert.Reference21Ideal.defs _ _).mono (fun _ h c => ⟨(h c).1.trans ?_, (h c).2⟩) (Cert.Reference21Ideal.Value.run (F := Ideal) m' ρ')⟩
  rw [(hagree c).1, (hagree c).2]

end Cert.Proj.AB3

end
-- ==== Proof.Proj.C3.lean ====
module

public import proofs.«01_k».proof.Defs
public import proofs.«01_k».proof.Proof.Gen.Kernel22.Frame
public import proofs.«01_k».proof.Proof.Gen.Kernel22Ideal.Value
public import proofs.«01_k».proof.Proof.Gen.Reference22Ideal.Run
public import Idealize.ShloMosaic.Lib.Pipeline.ValueKit
public import Idealize.ShloMosaic.Lib.Quiescent

@[expose] public section

set_option maxRecDepth 16384

noncomputable section

namespace Cert.Proj.C3

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 5664 to 11807 of the product of the rows with layer 3's weight. -/
abbrev ref (U : FVec Ideal S8448x2048 .bf16) (W : FVec Ideal S4x2048x20000 .f32) : FVec Ideal S8448x6144 .f32 :=
  extractStridedSlice Cert.Reference22Ideal.S8448x6144 ![0, 5664] (Host.dotGeneral Cert.Reference22Ideal.dot_S8448x2048_S2048x20000_S8448x20000_1_0_0_1_n_n none
    (extf .f32 U Cert.Reference22Ideal.Gen.bitsLt_bf16_f32)
    (shapeCast _ (extractStridedSlice Cert.Reference22Ideal.S1x2048x20000 ![3, 0, 0] W Cert.Reference22Ideal.Gen.slices_S4x2048x20000_S1x2048x20000_3_0_0)
      Cert.Reference22Ideal.Gen.shapeCasts_S1x2048x20000_S2048x20000)) Cert.Reference22Ideal.Gen.slices_S8448x20000_S8448x6144_0_5664

/-- The blocks that grid point `t` reads and writes. -/
theorem idx : ∀ t : Fin cfg0.N, win0_0.index t = ![t.val / 12, 0] ∧ win0_1.index t = ![3, 11 + t.val % 12, 0]
    ∧ win0_2.index t = ![3, (11 + t.val % 12 + 1) * 16, 0] ∧ win0_3.index t = ![t.val / 12, t.val % 12] ∧ t.val / 12 < 4 :=
  (by decide +kernel : ∀ t : Fin grid0.N, _)

/-- A row of the staged block of the transposed weight is a column of layer 3's weight. -/
theorem fill_at (c : Dev nD) (t : Fin cfg0.N) (j : S1x512x2048.Idx) (h : (11 + t.val % 12) * 512 + (j 1).val < 20000) :
    X0_1 m c t j = m (c.tc.loc main_arg1) (ix3 3 (j 2) ⟨(11 + t.val % 12) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by simp only [ix3_1]; omega)).trans ?_
  blk_ext

/-- The call runs, leaves its arguments and every semaphore counter at zero. -/
theorem frame_kernel : Cert.quiescent_Kernel22 := fun m ρ _ => Cert.Kernel22.Gen.frame m ρ

/-- So does its idealization. -/
theorem frame_ideal : Cert.quiescent_Kernel22Ideal := fun m ρ _ => Cert.Kernel22Ideal.Gen.frame m ρ

/-- The reference runs, leaves its arguments and every semaphore counter at zero. -/
theorem frame_reference : Cert.quiescent_Reference22Ideal := fun m ρ _ =>
  (θ_run Cert.Reference22Ideal.defs _ _).mono
    (fun r h => ⟨fun c => (h c).2, Idealize.ShloMosaic.sem_eq_zero_of_no_sems (by decide) r.2⟩) (Cert.Reference22Ideal.Value.run (F := Ideal) m ρ)

/-- No constant is named. -/
theorem preserves : Cert.preserves_Kernel22_Kernel22Ideal := trivial

/-- The call `in_proj_c` of layer 3 and its reference end with equal results. -/
theorem algebraic : Cert.algebraic_Kernel22Ideal_Reference22Ideal := by
  intro m ρ m' ρ' _ hagree
  refine ⟨fun c => ref (m (c.tc.loc Cert.Kernel22Ideal.main_arg0)) (m (c.tc.loc Cert.Kernel22Ideal.main_arg1)),
    (θ_run Cert.Kernel22Ideal.defs _ _).mono (fun _ h c => ⟨(h c).1.trans (final m c), (h c).2⟩) (Cert.Kernel22Ideal.Value.run_blocks m ρ),
    (θ_run Cert.Reference22Ideal.defs _ _).mono (fun _ h c => ⟨(h c).1.trans ?_, (h c).2⟩) (Cert.Reference22Ideal.Value.run (F := Ideal) m' ρ')⟩
  rw [(hagree c).1, (hagree c).2]

end Cert.Proj.C3

end
-- ==== Proof.Proj.G3.lean ====
module

public import proofs.«01_k».proof.Defs
public import proofs.«01_k».proof.Proof.Gen.Kernel23.Frame
public import proofs.«01_k».proof.Proof.Gen.Kernel23Ideal.Value
public import proofs.«01_k».proof.Proof.Gen.Reference23Ideal.Run
public import Idealize.ShloMosaic.Lib.Pipeline.ValueKit
public import Idealize.ShloMosaic.Lib.Quiescent

@[expose] public section

set_option maxRecDepth 16384

noncomputable section

namespace Cert.Proj.G3

open Cert.Kernel23Ideal Cert.Kernel23Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: columns 11808 to 19999 of the product of the rows with layer 3's weight. -/
abbrev ref (U : FVec Ideal S8448x2048 .bf16) (W : FVec Ideal S4x2048x20000 .f32) : FVec Ideal S8448x8192 .bf16 :=
  truncf .bf16 (extractStridedSlice Cert.Reference23Ideal.S8448x8192 ![0, 11808] (Host.dotGeneral Cert.Reference23Ideal.dot_S8448x2048_S2048x20000_S8448x20000_1_0_0_1_n_n none
    (extf .f32 U Cert.Reference23Ideal.Gen.bitsLt_bf16_f32)
    (shapeCast _ (extractStridedSlice Cert.Reference23Ideal.S1x2048x20000 ![3, 0, 0] W Cert.Reference23Ideal.Gen.slices_S4x2048x20000_S1x2048x20000_3_0_0)
      Cert.Reference23Ideal.Gen.shapeCasts_S1x2048x20000_S2048x20000)) Cert.Reference23Ideal.Gen.slices_S8448x20000_S8448x8192_0_11808) Cert.Reference23Ideal.Gen.bitsLt_bf16_f32

/-- The blocks that grid point `t` reads and writes. -/
theorem idx : ∀ t : Fin cfg0.N, win0_0.index t = ![t.val / 16, 0] ∧ win0_1.index t = ![3, 23 + t.val % 16, 0]
    ∧ win0_2.index t = ![3, (23 + t.val % 16 + 1) * 16, 0] ∧ win0_3.index t = ![t.val / 16, t.val % 16] ∧ t.val / 16 < 4 :=
  (by decide +kernel : ∀ t : Fin grid0.N, _)

/-- A row of the staged block of the transposed weight is a column of layer 3's weight. -/
theorem fill_at (c : Dev nD) (t : Fin cfg0.N) (j : S1x512x2048.Idx) (h : (23 + t.val % 16) * 512 + (j 1).val < 20000) :
    X0_1 m c t j = m (c.tc.loc main_arg1) (ix3 3 (j 2) ⟨(23 + t.val % 16) * 512 + (j 1).val, h⟩) := by
  unfold X0_1 Pipeline.Window.fill
  rw [dif_pos (moved0_1 t _)]
  blk_point [iblk, V, idx t]

/-- The call's output array is the reference's columns of the product. -/
theorem final (c : Dev nD) : (dats m 0 c).arrAt 3 cfg0.N = ref (m (c.tc.loc main_arg0)) (m (c.tc.loc main_arg1)) := by
  refine (dats m 0 c).arrAt_eq_of_covers 3 _ (by decide +kernel) fun t _ y => ?_
  blk_simp
  rw [after0_3]
  unfold outsAt0
  frame_out
  pointwise [k0_pay1, ref]
  blk_point [iblk, V, idx t]
  refine (fill_at m c t _ (by simp only [ix3_1]; omega)).trans ?_
  blk_ext

/-- The call runs, leaves its arguments and every semaphore counter at zero. -/
theorem frame_kernel : Cert.quiescent_Kernel23 := fun m ρ _ => Cert.Kernel23.Gen.frame m ρ

/-- So does its idealization. -/
theorem frame_ideal : Cert.quiescent_Kernel23Ideal := fun m ρ _ => Cert.Kernel23Ideal.Gen.frame m ρ

/-- The reference runs, leaves its arguments and every semaphore counter at zero. -/
theorem frame_reference : Cert.quiescent_Reference23Ideal := fun m ρ _ =>
  (θ_run Cert.Reference23Ideal.defs _ _).mono
    (fun r h => ⟨fun c => (h c).2, Idealize.ShloMosaic.sem_eq_zero_of_no_sems (by decide) r.2⟩) (Cert.Reference23Ideal.Value.run (F := Ideal) m ρ)

/-- No constant is named. -/
theorem preserves : Cert.preserves_Kernel23_Kernel23Ideal := trivial

/-- The call `in_proj_g` of layer 3 and its reference end with equal results. -/
theorem algebraic : Cert.algebraic_Kernel23Ideal_Reference23Ideal := by
  intro m ρ m' ρ' _ hagree
  refine ⟨fun c => ref (m (c.tc.loc Cert.Kernel23Ideal.main_arg0)) (m (c.tc.loc Cert.Kernel23Ideal.main_arg1)),
    (θ_run Cert.Kernel23Ideal.defs _ _).mono (fun _ h c => ⟨(h c).1.trans (final m c), (h c).2⟩) (Cert.Kernel23Ideal.Value.run_blocks m ρ),
    (θ_run Cert.Reference23Ideal.defs _ _).mono (fun _ h c => ⟨(h c).1.trans ?_, (h c).2⟩) (Cert.Reference23Ideal.Value.run (F := Ideal) m' ρ')⟩
  rw [(hagree c).1, (hagree c).2]

end Cert.Proj.G3

end
-- ==== Proof.Out.L3.lean ====
module

public import proofs.«01_k».proof.Defs
public import proofs.«01_k».proof.Proof.Gen.Kernel24.Frame
public import proofs.«01_k».proof.Proof.Gen.Kernel24Ideal.Value
public import proofs.«01_k».proof.Proof.Gen.Reference24Ideal.Run
public import Idealize.ShloMosaic.Lib.Pipeline.ValueKit
public import Idealize.ShloMosaic.Lib.Quiescent

@[expose] public section

set_option maxRecDepth 16384

noncomputable section

namespace Cert.Out.L3

open Cert.Kernel24Ideal Cert.Kernel24Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: the product of the rows with layer 3's output weight. -/
abbrev ref (U : FVec Ideal S8448x2048 .bf16) (W : FVec Ideal S4x2048x2048 .f32) : FVec Ideal S8448x2048 .f32 :=
  Host.dotGeneral Cert.Reference24Ideal.dot_S8448x2048_S2048x2048_S8448x2048_1_0_0_1_n_n none (extf .f32 U Cert.Reference24Ideal.Gen.bitsLt_bf16_f32)
    (shapeCast _ (extractStridedSlice Cert.Reference24Ideal.S1x2048x2048 ![3, 0, 0] W Cert.Reference24Ideal.Gen.slices_S4x2048x2048_S1x2048x2048_3_0_0)
      Cert.Reference24Ideal.Gen.shapeCasts_S1x2048x2048_S2048x2048)

/-- The blocks that grid point `t` reads and writes. -/
theorem idx : ∀ t : Fin cfg0.N, win0_0.index t = ![t.val / 4, 0] ∧ win0_1.index t = ![3, 0, t.val % 4]
    ∧ win0_2.index t = ![t.val / 4, t.val % 4] ∧ t.val / 4 < 4 :=
  (by decide +kernel : ∀ t : Fin grid0.N, _)

/-- The call's output array is the product. -/
theorem final (c : Dev nD) : (dats m 0 c).arrAt 2 cfg0.N = ref (m (c.tc.loc main_arg0)) (m (c.tc.loc main_arg1)) := by
  refine (dats m 0 c).arrAt_eq_of_covers 2 _ (by decide +kernel) fun t _ y => ?_
  blk_simp
  rw [after0_2]
  frame_out
  pointwise [k0_pay1, ref]
  blk_point [iblk, V, idx t]

/-- The call runs, leaves its arguments and every semaphore counter at zero. -/
theorem frame_kernel : Cert.quiescent_Kernel24 := fun m ρ _ => Cert.Kernel24.Gen.frame m ρ

/-- So does its idealization. -/
theorem frame_ideal : Cert.quiescent_Kernel24Ideal := fun m ρ _ => Cert.Kernel24Ideal.Gen.frame m ρ

/-- The reference runs, leaves its arguments and every semaphore counter at zero. -/
theorem frame_reference : Cert.quiescent_Reference24Ideal := fun m ρ _ =>
  (θ_run Cert.Reference24Ideal.defs _ _).mono
    (fun r h => ⟨fun c => (h c).2, Idealize.ShloMosaic.sem_eq_zero_of_no_sems (by decide) r.2⟩) (Cert.Reference24Ideal.Value.run (F := Ideal) m ρ)

/-- No constant is named. -/
theorem preserves : Cert.preserves_Kernel24_Kernel24Ideal := trivial

/-- The output projection of layer 3 and its reference end with equal results. -/
theorem algebraic : Cert.algebraic_Kernel24Ideal_Reference24Ideal := by
  intro m ρ m' ρ' _ hagree
  refine ⟨fun c => ref (m (c.tc.loc Cert.Kernel24Ideal.main_arg0)) (m (c.tc.loc Cert.Kernel24Ideal.main_arg1)),
    (θ_run Cert.Kernel24Ideal.defs _ _).mono (fun _ h c => ⟨(h c).1.trans (final m c), (h c).2⟩) (Cert.Kernel24Ideal.Value.run_blocks m ρ),
    (θ_run Cert.Reference24Ideal.defs _ _).mono (fun _ h c => ⟨(h c).1.trans ?_, (h c).2⟩) (Cert.Reference24Ideal.Value.run (F := Ideal) m' ρ')⟩
  rw [(hagree c).1, (hagree c).2]

end Cert.Out.L3

end
-- ==== Proof.Merge.L3.lean ====
module

public import proofs.«01_k».proof.Defs
public import proofs.«01_k».proof.Proof.Gen.Kernel25.Frame
public import proofs.«01_k».proof.Proof.Gen.Kernel25Ideal.Value
public import proofs.«01_k».proof.Proof.Gen.Reference25Ideal.Run
public import Idealize.ShloMosaic.Lib.Pipeline.ValueKit
public import Idealize.ShloMosaic.Lib.Quiescent

@[expose] public section

set_option maxRecDepth 16384

noncomputable section

namespace Cert.Merge.L3

open Cert.Kernel25Ideal Cert.Kernel25Ideal.Gen Idealize.ShloMosaic Idealize.ShloMosaic.TcCoe Idealize.SL.Sem
open Idealize.ShloMosaic.Pipeline (Dat)

variable (m : (ℓ : Loc nD τ sig) → Buf (Elt Ideal) ℓ)

/-- What the reference makes: the branches, each projected by layer 3's weight of the branch, times the sigmoid of the
    gate's logits, summed. -/
def ref (ya : FVec Ideal S8448x1024 .bf16) (yb : FVec Ideal S8448x1024 .bf16) (yl : FVec Ideal S8192x1024 .f32) (yc : FVec Ideal S256x1024 .f32)
    (yd : FVec Ideal S8448x1024 .bf16) (g : FVec Ideal S8448x8192 .bf16) (w : FVec Ideal S4x4x1024x2048 .f32) : FVec Ideal S8448x2048 .bf16 :=
  truncf .bf16 (Host.reduceAdd (mulf (Host.divf (broadcastInDim Cert.Reference25Ideal.S8448x4x2048 ![] Cert.Reference25Ideal.Gen.bcast_S_S8448x4x2048 (constant Cert.Reference25Ideal.S_ .f32 0x3F800000#32))
    (addf (broadcastInDim Cert.Reference25Ideal.S8448x4x2048 ![] Cert.Reference25Ideal.Gen.bcast_S_S8448x4x2048 (constant Cert.Reference25Ideal.S_ .f32 0x3F800000#32))
      (Host.exp (Host.negf (shapeCast _ (extf .f32 g Cert.Reference25Ideal.Gen.bitsLt_bf16_f32) Cert.Reference25Ideal.Gen.shapeCasts_S8448x8192_S8448x4x2048)))))
    (transpose Cert.Reference25Ideal.S8448x4x2048 [2, 0, 1] (Host.dotGeneral (φ₂ := .f32) Cert.Reference25Ideal.dot_S4x1024x2048_S8448x4x1024_S4x2048x8448_1_2_2_0_0_1 none
      (shapeCast _ (extractStridedSlice Cert.Reference25Ideal.S1x4x1024x2048 ![3, 0, 0, 0] w Cert.Reference25Ideal.Gen.slices_S4x4x1024x2048_S1x4x1024x2048_3_0_0_0) Cert.Reference25Ideal.Gen.shapeCasts_S1x4x1024x2048_S4x1024x2048)
      ((concatenate Cert.Reference25Ideal.S8448x4x1024 1
        [⟨Cert.Reference25Ideal.S8448x1x1024, ((broadcastInDim Cert.Reference25Ideal.S8448x1x1024 ![0, 2] Cert.Reference25Ideal.Gen.bcast_S8448x1024_S8448x1x1024_0_2 (extf .f32 ya Cert.Reference25Ideal.Gen.bitsLt_bf16_f32)) : (⟨Cert.Reference25Ideal.S8448x1x1024, .f32⟩ : BufTy).Contents (Elt Ideal))⟩,
         ⟨Cert.Reference25Ideal.S8448x1x1024, ((broadcastInDim Cert.Reference25Ideal.S8448x1x1024 ![0, 2] Cert.Reference25Ideal.Gen.bcast_S8448x1024_S8448x1x1024_0_2 (extf .f32 yb Cert.Reference25Ideal.Gen.bitsLt_bf16_f32)) : (⟨Cert.Reference25Ideal.S8448x1x1024, .f32⟩ : BufTy).Contents (Elt Ideal))⟩,
         ⟨Cert.Reference25Ideal.S8448x1x1024, ((broadcastInDim Cert.Reference25Ideal.S8448x1x1024 ![0, 2] Cert.Reference25Ideal.Gen.bcast_S8448x1024_S8448x1x1024_0_2
            (concatenate Cert.Reference25Ideal.S8448x1024 0 [⟨Cert.Reference25Ideal.S8192x1024, yl⟩, ⟨Cert.Reference25Ideal.S256x1024, yc⟩] Cert.Reference25Ideal.Gen.concatenates_S8192x1024_S256x1024_S8448x1024_d0)) : (⟨Cert.Reference25Ideal.S8448x1x1024, .f32⟩ : BufTy).Contents (Elt Ideal))⟩,
         ⟨Cert.Reference25Ideal.S8448x1x1024, ((broadcastInDim Cert.Reference25Ideal.S8448x1x1024 ![0, 2] Cert.Reference25Ideal.Gen.bcast_S8448x1024_S8448x1x1024_0_2 (extf .f32 yd Cert.Reference25Ideal.Gen.bitsLt_bf16_f32)) : (⟨Cert.Reference25Ideal.S8448x1x1024, .f32⟩ : BufTy).Contents (Elt Ideal))⟩]
        Cert.Reference25Ideal.Gen.concatenates_S8448x1x1024_S8448x1x1024_S8448x1x1024_S8448x1x1024_S8448x4x1024_d1 : (⟨Cert.Reference25Ideal.S8448x4x1024, .f32⟩ : BufTy).Contents (Elt Ideal))))
      Cert.Reference25Ideal.Gen.transposes_S4x2048x8448_S8448x4x2048_2_0_1)) (constant Cert.Reference25Ideal.S_ .f32 0x00000000#32) Cert.Reference25Ideal.Gen.reducesTo_S8448x4x2048_S8448x2048_d1 Cert.Reference25Ideal.Gen.h_S_) Cert.Reference25Ideal.Gen.bitsLt_bf16_f32

/-- The blocks that grid point `t` reads and writes. -/
theorem idx : ∀ t : Fin cfg0.N, win0_0.index t = ![t.val % 33, 0] ∧ win0_1.index t = ![t.val % 33, 0]
    ∧ win0_2.index t = ![min (t.val % 33) 31, 0] ∧ win0_3.index t = ![0, 0] ∧ win0_4.index t = ![t.val % 33, 0]
    ∧ win0_5.index t = ![t.val % 33, t.val / 33] ∧ win0_6.index t = ![t.val % 33, 4 + t.val / 33]
    ∧ win0_7.index t = ![t.val % 33, 8 + t.val / 33] ∧ win0_8.index t = ![t.val % 33, 12 + t.val / 33]
    ∧ win0_9.index t = ![3, 0, 0, t.val / 33] ∧ win0_10.index t = ![t.val % 33, t.val / 33] ∧ t.val / 33 < 4
    ∧ (grid0.coords t 1).val = t.val % 33 :=
  (by decide +kernel : ∀ t : Fin grid0.N, _)

/-- The reference at a row and a column: the four gated products, in the order in which they are added. -/
theorem ref_at (ya : FVec Ideal S8448x1024 .bf16) (yb : FVec Ideal S8448x1024 .bf16) (yl : FVec Ideal S8192x1024 .f32) (yc : FVec Ideal S256x1024 .f32)
    (yd : FVec Ideal S8448x1024 .bf16) (g : FVec Ideal S8448x8192 .bf16) (w : FVec Ideal S4x4x1024x2048 .f32) (i : S8448x2048.Idx) (a b : ℕ) (ha : a < 8448)
    (hb : b < 2048) (h0 : (i 0).val = a) (h1 : (i 1).val = b) :
    ref ya yb yl yc yd g w i
      = Ideal.logistic (g (ix2 ⟨a, ha⟩ ⟨b, by omega⟩)) * ∑ x, ya (ix2 ⟨a, ha⟩ x) * w (ix4 3 0 x ⟨b, hb⟩)
        + Ideal.logistic (g (ix2 ⟨a, ha⟩ ⟨2048 + b, by omega⟩)) * ∑ x, yb (ix2 ⟨a, ha⟩ x) * w (ix4 3 1 x ⟨b, hb⟩)
        + Ideal.logistic (g (ix2 ⟨a, ha⟩ ⟨4096 + b, by omega⟩)) * ∑ x, (if h : a < 8192 then yl (ix2 ⟨a, h⟩ x) else yc (ix2 ⟨a - 8192, by omega⟩ x)) * w (ix4 3 2 x ⟨b, hb⟩)
        + Ideal.logistic (g (ix2 ⟨a, ha⟩ ⟨6144 + b, by omega⟩)) * ∑ x, yd (ix2 ⟨a, ha⟩ x) * w (ix4 3 3 x ⟨b, hb⟩) := by
  obtain rfl : i = ix2 ⟨a, ha⟩ ⟨b, hb⟩ := by
    rw [← ix2_eta i]
    exact (ix2_inj _ _ _ _).2 ⟨Fin.ext h0, Fin.ext h1⟩
  pointwise [ref]
  rw [Fin.sum_univ_four]
  refine congrArg₂ (· + ·) (congrArg₂ (· + ·) (congrArg₂ (· + ·)
    (congrArg₂ (· * ·) (congrArg (fun z => Ideal.logistic (g z)) ((ix2_inj _ _ _ _).2 ⟨rfl, Fin.ext (by show 0 * 2048 + b = b; omega)⟩)) ?_)
    (congrArg₂ (· * ·) (congrArg (fun z => Ideal.logistic (g z)) ((ix2_inj _ _ _ _).2 ⟨rfl, Fin.ext (by show 1 * 2048 + b = 2048 + b; omega)⟩)) ?_))
    (congrArg₂ (· * ·) (congrArg (fun z => Ideal.logistic (g z)) ((ix2_inj _ _ _ _).2 ⟨rfl, Fin.ext (by show 2 * 2048 + b = 4096 + b; omega)⟩)) ?_))
    (congrArg₂ (· * ·) (congrArg (fun z => Ideal.logistic (g z)) ((ix2_inj _ _ _ _).2 ⟨rfl, Fin.ext (by show 3 * 2048 + b = 6144 + b; omega)⟩)) ?_)
  all_goals exact Finset.sum_congr rfl fun x _ => mul_comm _ _

/-- The last block row is the context's, the others the latent tokens'. -/
theorem pick : ∀ t : Fin cfg0.N, Scalar.cmpi CmpIPredicate.eq (BitVec.ofNat 32 (grid0.coords t 1).val) 32#32 = if t.val % 33 = 32 then 1#1 else 0#1 :=
  (by decide +kernel : ∀ t : Fin grid0.N, _)

/-- The call's output array is the merge. -/
theorem final (c : Dev nD) : (dats m 0 c).arrAt 10 cfg0.N = ref (m (c.tc.loc main_arg0)) (m (c.tc.loc main_arg1)) (m (c.tc.loc main_arg2))
    (m (c.tc.loc main_arg3)) (m (c.tc.loc main_arg4)) (m (c.tc.loc main_arg5)) (m (c.tc.loc main_arg6)) := by
  refine (dats m 0 c).arrAt_eq_of_covers 10 _ (by decide +kernel) fun t _ y => ?_
  blk_simp
  rw [after0_10]
  frame_out
  pointwise [k0_pay1, k0_pay2, k0_pay3, k0_pay4]
  rw [pick]
  have hi := idx t
  have h0 : (y 0).val < 256 := (y 0).isLt
  have h1 : (y 1).val < 512 := (y 1).isLt
  refine Eq.trans ?_ (ref_at _ _ _ _ _ _ _ _ (t.val % 33 * 256 + (y 0).val) (t.val / 33 * 512 + (y 1).val) ?_ ?_ ?_ ?_).symm
  · refine congrArg₂ (· + ·) (congrArg₂ (· + ·) (congrArg₂ (· + ·)
      (congrArg₂ (· * ·) (congrArg Ideal.logistic ?_) (Finset.sum_congr rfl fun x _ => congrArg₂ (· * ·) ?_ ?_))
      (congrArg₂ (· * ·) (congrArg Ideal.logistic ?_) (Finset.sum_congr rfl fun x _ => congrArg₂ (· * ·) ?_ ?_)))
      (congrArg₂ (· * ·) (congrArg Ideal.logistic ?_) (Finset.sum_congr rfl fun x _ => congrArg₂ (· * ·) ?_ ?_)))
      (congrArg₂ (· * ·) (congrArg Ideal.logistic ?_) (Finset.sum_congr rfl fun x _ => congrArg₂ (· * ·) ?_ ?_))
    case refine_8 =>
      rcases eq_or_ne (t.val % 33) 32 with h | h
      · rw [if_pos h]
        refine Eq.trans ?_ (dif_neg (by omega)).symm
        show iblk m c 3 t _ = _
        blk_point [iblk, V, idx t]
      · rw [if_neg h]
        refine Eq.trans ?_ (dif_pos (c := t.val % 33 * 256 + (y 0).val < 8192) (by omega)).symm
        show iblk m c 2 t _ = _
        blk_point [iblk, V, idx t]
    all_goals blk_point [iblk, V, idx t]
  · omega
  · omega
  · show (((cfg0.win 10).blk t).view.emb y 0).val = _
    blk_simp
    rw [hi.2.2.2.2.2.2.2.2.2.2.1]
    rfl
  · show (((cfg0.win 10).blk t).view.emb y 1).val = _
    blk_simp
    rw [hi.2.2.2.2.2.2.2.2.2.2.1]
    rfl

/-- The call runs, leaves its arguments and every semaphore counter at zero. -/
theorem frame_kernel : Cert.quiescent_Kernel25 := fun m ρ _ => Cert.Kernel25.Gen.frame m ρ

/-- So does its idealization. -/
theorem frame_ideal : Cert.quiescent_Kernel25Ideal := fun m ρ _ => Cert.Kernel25Ideal.Gen.frame m ρ

/-- The reference runs, leaves its arguments and every semaphore counter at zero. -/
theorem frame_reference : Cert.quiescent_Reference25Ideal := fun m ρ _ =>
  (θ_run Cert.Reference25Ideal.defs _ _).mono
    (fun r h => ⟨fun c => (h c).2, Idealize.ShloMosaic.sem_eq_zero_of_no_sems (by decide) r.2⟩) (Cert.Reference25Ideal.Value.run (F := Ideal) m ρ)

/-- No constant is named. -/
theorem preserves : Cert.preserves_Kernel25_Kernel25Ideal := trivial

/-- The merge of layer 3's branches and its reference end with equal results. -/
theorem algebraic : Cert.algebraic_Kernel25Ideal_Reference25Ideal := by
  intro m ρ m' ρ' _ hagree
  refine ⟨fun c => ref (m (c.tc.loc Cert.Kernel25Ideal.main_arg0)) (m (c.tc.loc Cert.Kernel25Ideal.main_arg1)) (m (c.tc.loc Cert.Kernel25Ideal.main_arg2)) (m (c.tc.loc Cert.Kernel25Ideal.main_arg3)) (m (c.tc.loc Cert.Kernel25Ideal.main_arg4)) (m (c.tc.loc Cert.Kernel25Ideal.main_arg5)) (m (c.tc.loc Cert.Kernel25Ideal.main_arg6)),
    (θ_run Cert.Kernel25Ideal.defs _ _).mono (fun _ h c => ⟨(h c).1.trans (final m c), (h c).2⟩) (Cert.Kernel25Ideal.Value.run_blocks m ρ),
    (θ_run Cert.Reference25Ideal.defs _ _).mono (fun _ h c => ⟨(h c).1.trans ?_, (h c).2⟩) (Cert.Reference25Ideal.Value.run (F := Ideal) m' ρ')⟩
  rw [(hagree c).1, (hagree c).2.1, (hagree c).2.2.1, (hagree c).2.2.2.1, (hagree c).2.2.2.2.1, (hagree c).2.2.2.2.2.1, (hagree c).2.2.2.2.2.2]
  rfl

end Cert.Merge.L3

end
-- ==== Proof.lean ====
module

public import proofs.«01_k».proof.Proof.Attn.Claims
public import proofs.«01_k».proof.Proof.Neigh.Claims
public import proofs.«01_k».proof.Proof.Mod.Modulate
public import proofs.«01_k».proof.Proof.Mod.Ln1
public import proofs.«01_k».proof.Proof.Mod.Modvec
public import proofs.«01_k».proof.Proof.Proj.A0
public import proofs.«01_k».proof.Proof.Proj.AB0
public import proofs.«01_k».proof.Proof.Proj.C0
public import proofs.«01_k».proof.Proof.Proj.G0
public import proofs.«01_k».proof.Proof.Out.L0
public import proofs.«01_k».proof.Proof.Merge.L0
public import proofs.«01_k».proof.Proof.Proj.A1
public import proofs.«01_k».proof.Proof.Proj.AB1
public import proofs.«01_k».proof.Proof.Proj.C1
public import proofs.«01_k».proof.Proof.Proj.G1
public import proofs.«01_k».proof.Proof.Out.L1
public import proofs.«01_k».proof.Proof.Merge.L1
public import proofs.«01_k».proof.Proof.Proj.A2
public import proofs.«01_k».proof.Proof.Proj.AB2
public import proofs.«01_k».proof.Proof.Proj.C2
public import proofs.«01_k».proof.Proof.Proj.G2
public import proofs.«01_k».proof.Proof.Out.L2
public import proofs.«01_k».proof.Proof.Merge.L2
public import proofs.«01_k».proof.Proof.Proj.A3
public import proofs.«01_k».proof.Proof.Proj.AB3
public import proofs.«01_k».proof.Proof.Proj.C3
public import proofs.«01_k».proof.Proof.Proj.G3
public import proofs.«01_k».proof.Proof.Out.L3
public import proofs.«01_k».proof.Proof.Merge.L3
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Pre_real

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Pre_finite.Gen.facts, Cert.Pre_real.Gen.facts,
    Cert.Attn.Claims.frame_kernel, Cert.Attn.Claims.frame_ideal, Cert.Attn.Claims.frame_ideal_pre,
    Cert.Attn.Claims.frame_reference, Cert.Attn.Claims.frame_reference_pre,
    Cert.Proj.A0.frame_kernel, Cert.Proj.A0.frame_ideal, Cert.Proj.A0.frame_reference,
    Cert.Proj.AB0.frame_kernel, Cert.Proj.AB0.frame_ideal, Cert.Proj.AB0.frame_reference,
    Cert.Proj.C0.frame_kernel, Cert.Proj.C0.frame_ideal, Cert.Proj.C0.frame_reference,
    Cert.Proj.G0.frame_kernel, Cert.Proj.G0.frame_ideal, Cert.Proj.G0.frame_reference,
    Cert.Out.L0.frame_kernel, Cert.Out.L0.frame_ideal, Cert.Out.L0.frame_reference,
    Cert.Merge.L0.frame_kernel, Cert.Merge.L0.frame_ideal, Cert.Merge.L0.frame_reference,
    Cert.Proj.A1.frame_kernel, Cert.Proj.A1.frame_ideal, Cert.Proj.A1.frame_reference,
    Cert.Proj.AB1.frame_kernel, Cert.Proj.AB1.frame_ideal, Cert.Proj.AB1.frame_reference,
    Cert.Proj.C1.frame_kernel, Cert.Proj.C1.frame_ideal, Cert.Proj.C1.frame_reference,
    Cert.Proj.G1.frame_kernel, Cert.Proj.G1.frame_ideal, Cert.Proj.G1.frame_reference,
    Cert.Out.L1.frame_kernel, Cert.Out.L1.frame_ideal, Cert.Out.L1.frame_reference,
    Cert.Merge.L1.frame_kernel, Cert.Merge.L1.frame_ideal, Cert.Merge.L1.frame_reference,
    Cert.Proj.A2.frame_kernel, Cert.Proj.A2.frame_ideal, Cert.Proj.A2.frame_reference,
    Cert.Proj.AB2.frame_kernel, Cert.Proj.AB2.frame_ideal, Cert.Proj.AB2.frame_reference,
    Cert.Proj.C2.frame_kernel, Cert.Proj.C2.frame_ideal, Cert.Proj.C2.frame_reference,
    Cert.Proj.G2.frame_kernel, Cert.Proj.G2.frame_ideal, Cert.Proj.G2.frame_reference,
    Cert.Out.L2.frame_kernel, Cert.Out.L2.frame_ideal, Cert.Out.L2.frame_reference,
    Cert.Merge.L2.frame_kernel, Cert.Merge.L2.frame_ideal, Cert.Merge.L2.frame_reference,
    Cert.Proj.A3.frame_kernel, Cert.Proj.A3.frame_ideal, Cert.Proj.A3.frame_reference,
    Cert.Proj.AB3.frame_kernel, Cert.Proj.AB3.frame_ideal, Cert.Proj.AB3.frame_reference,
    Cert.Proj.C3.frame_kernel, Cert.Proj.C3.frame_ideal, Cert.Proj.C3.frame_reference,
    Cert.Proj.G3.frame_kernel, Cert.Proj.G3.frame_ideal, Cert.Proj.G3.frame_reference,
    Cert.Out.L3.frame_kernel, Cert.Out.L3.frame_ideal, Cert.Out.L3.frame_reference,
    Cert.Merge.L3.frame_kernel, Cert.Merge.L3.frame_ideal, Cert.Merge.L3.frame_reference,
    Cert.Neigh.Claims.frame_kernel, Cert.Neigh.Claims.frame_ideal, Cert.Neigh.Claims.frame_ideal_pre,
    Cert.Neigh.Claims.frame_reference, Cert.Neigh.Claims.frame_reference_pre,
    Cert.Mod.Modulate.frame_kernel, Cert.Mod.Modulate.frame_ideal, Cert.Mod.Modulate.frame_reference,
    Cert.Mod.Ln1.frame_kernel, Cert.Mod.Ln1.frame_ideal, Cert.Mod.Ln1.frame_reference,
    Cert.Mod.Modvec.frame_kernel, Cert.Mod.Modvec.frame_ideal, Cert.Mod.Modvec.frame_reference,
    Cert.Attn.Claims.preserves, Cert.Attn.Claims.algebraic,
    Cert.Proj.A0.preserves, Cert.Proj.A0.algebraic,
    Cert.Proj.AB0.preserves, Cert.Proj.AB0.algebraic,
    Cert.Proj.C0.preserves, Cert.Proj.C0.algebraic,
    Cert.Proj.G0.preserves, Cert.Proj.G0.algebraic,
    Cert.Out.L0.preserves, Cert.Out.L0.algebraic,
    Cert.Merge.L0.preserves, Cert.Merge.L0.algebraic,
    Cert.Proj.A1.preserves, Cert.Proj.A1.algebraic,
    Cert.Proj.AB1.preserves, Cert.Proj.AB1.algebraic,
    Cert.Proj.C1.preserves, Cert.Proj.C1.algebraic,
    Cert.Proj.G1.preserves, Cert.Proj.G1.algebraic,
    Cert.Out.L1.preserves, Cert.Out.L1.algebraic,
    Cert.Merge.L1.preserves, Cert.Merge.L1.algebraic,
    Cert.Proj.A2.preserves, Cert.Proj.A2.algebraic,
    Cert.Proj.AB2.preserves, Cert.Proj.AB2.algebraic,
    Cert.Proj.C2.preserves, Cert.Proj.C2.algebraic,
    Cert.Proj.G2.preserves, Cert.Proj.G2.algebraic,
    Cert.Out.L2.preserves, Cert.Out.L2.algebraic,
    Cert.Merge.L2.preserves, Cert.Merge.L2.algebraic,
    Cert.Proj.A3.preserves, Cert.Proj.A3.algebraic,
    Cert.Proj.AB3.preserves, Cert.Proj.AB3.algebraic,
    Cert.Proj.C3.preserves, Cert.Proj.C3.algebraic,
    Cert.Proj.G3.preserves, Cert.Proj.G3.algebraic,
    Cert.Out.L3.preserves, Cert.Out.L3.algebraic,
    Cert.Merge.L3.preserves, Cert.Merge.L3.algebraic,
    Cert.Neigh.Claims.preserves, Cert.Neigh.Claims.algebraic,
    Cert.Mod.Modulate.preserves, Cert.Mod.Modulate.algebraic,
    Cert.Mod.Ln1.preserves, Cert.Mod.Ln1.algebraic,
    Cert.Mod.Modvec.preserves, Cert.Mod.Modvec.algebraic⟩

end Cert.Proof

end
